-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_XAttn (m : (ℓ : Loc Cert.XAttn.nD Cert.XAttn.τ Cert.XAttn.sig) → Buf (Elt Bits) ℓ) : Prop :=
  True

def Pre_XAttnIdeal (m : (ℓ : Loc Cert.XAttnIdeal.nD Cert.XAttnIdeal.τ Cert.XAttnIdeal.sig) → Buf (Elt Ideal) ℓ) : Prop :=
  True

def Pre_XAttnReferenceIdeal (m : (ℓ : Loc Cert.XAttnReferenceIdeal.nD Cert.XAttnReferenceIdeal.τ Cert.XAttnReferenceIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVReferenceIdeal (m : (ℓ : Loc Cert.MemKVReferenceIdeal.nD Cert.MemKVReferenceIdeal.τ Cert.MemKVReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_XAttn [hXAttn : Cert.XAttn.Facts] : Prop :=
  ∀ (m : (ℓ : Loc Cert.XAttn.nD Cert.XAttn.τ Cert.XAttn.sig) → Buf (Elt Bits) ℓ) (g : Dev Cert.XAttn.nD → PrngReg), Pre_XAttn m →
    θ_run (Cert.XAttn.defs (F := Bits)) (onTc (τ := Cert.XAttn.τ) (Cert.XAttn.main (F := Bits))) ⟨m, fun _ => 0, g⟩ (fun r => (∀ c : Dev Cert.XAttn.nD,
      r.2.mem ((c.tc : Thread Cert.XAttn.nD Cert.XAttn.τ).loc Cert.XAttn.main_arg0) = m ((c.tc : Thread Cert.XAttn.nD Cert.XAttn.τ).loc Cert.XAttn.main_arg0)
      ∧ r.2.mem ((c.tc : Thread Cert.XAttn.nD Cert.XAttn.τ).loc Cert.XAttn.main_arg1) = m ((c.tc : Thread Cert.XAttn.nD Cert.XAttn.τ).loc Cert.XAttn.main_arg1)
      ∧ r.2.mem ((c.tc : Thread Cert.XAttn.nD Cert.XAttn.τ).loc Cert.XAttn.main_arg2) = m ((c.tc : Thread Cert.XAttn.nD Cert.XAttn.τ).loc Cert.XAttn.main_arg2))
      ∧ r.2.sem = fun _ => 0)

def quiescent_XAttnIdeal [hXAttnIdeal : Cert.XAttnIdeal.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2))
      ∧ r.2.sem = fun _ => 0)

def quiescent_XAttnReferenceIdeal [hXAttnReferenceIdeal : Cert.XAttnReferenceIdeal.Facts] : Prop :=
  ∀ (m : (ℓ : Loc Cert.XAttnReferenceIdeal.nD Cert.XAttnReferenceIdeal.τ Cert.XAttnReferenceIdeal.sig) → Buf (Elt Ideal) ℓ) (g : Dev Cert.XAttnReferenceIdeal.nD → PrngReg), Pre_XAttnReferenceIdeal m →
    θ_run (Cert.XAttnReferenceIdeal.defs (F := Ideal)) (onTc (τ := Cert.XAttnReferenceIdeal.τ) (Cert.XAttnReferenceIdeal.main (F := Ideal))) ⟨m, fun _ => 0, g⟩ (fun r => (∀ c : Dev Cert.XAttnReferenceIdeal.nD,
      r.2.mem ((c.tc : Thread Cert.XAttnReferenceIdeal.nD Cert.XAttnReferenceIdeal.τ).loc Cert.XAttnReferenceIdeal.main_arg0) = m ((c.tc : Thread Cert.XAttnReferenceIdeal.nD Cert.XAttnReferenceIdeal.τ).loc Cert.XAttnReferenceIdeal.main_arg0)
      ∧ r.2.mem ((c.tc : Thread Cert.XAttnReferenceIdeal.nD Cert.XAttnReferenceIdeal.τ).loc Cert.XAttnReferenceIdeal.main_arg1) = m ((c.tc : Thread Cert.XAttnReferenceIdeal.nD Cert.XAttnReferenceIdeal.τ).loc Cert.XAttnReferenceIdeal.main_arg1)
      ∧ r.2.mem ((c.tc : Thread Cert.XAttnReferenceIdeal.nD Cert.XAttnReferenceIdeal.τ).loc Cert.XAttnReferenceIdeal.main_arg2) = m ((c.tc : Thread Cert.XAttnReferenceIdeal.nD Cert.XAttnReferenceIdeal.τ).loc Cert.XAttnReferenceIdeal.main_arg2))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2)
      ∧ r.2.mem ((c.tc : Thread Cert.MemKV.nD Cert.MemKV.τ).loc Cert.MemKV.main_arg3) = m ((c.tc : Thread Cert.MemKV.nD Cert.MemKV.τ).loc Cert.MemKV.main_arg3)
      ∧ r.2.mem ((c.tc : Thread Cert.MemKV.nD Cert.MemKV.τ).loc Cert.MemKV.main_arg4) = m ((c.tc : Thread Cert.MemKV.nD Cert.MemKV.τ).loc Cert.MemKV.main_arg4))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
      ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3)
      ∧ r.2.mem ((c.tc : Thread Cert.MemKVIdeal.nD Cert.MemKVIdeal.τ).loc Cert.MemKVIdeal.main_arg4) = m ((c.tc : Thread Cert.MemKVIdeal.nD Cert.MemKVIdeal.τ).loc Cert.MemKVIdeal.main_arg4))
      ∧ r.2.sem = fun _ => 0)

def quiescent_MemKVReferenceIdeal [hMemKVReferenceIdeal : Cert.MemKVReferenceIdeal.Facts] : Prop :=
  ∀ (m : (ℓ : Loc Cert.MemKVReferenceIdeal.nD Cert.MemKVReferenceIdeal.τ Cert.MemKVReferenceIdeal.sig) → Buf (Elt Ideal) ℓ) (g : Dev Cert.MemKVReferenceIdeal.nD → PrngReg), Pre_MemKVReferenceIdeal m →
    θ_run (Cert.MemKVReferenceIdeal.defs (F := Ideal)) (onTc (τ := Cert.MemKVReferenceIdeal.τ) (Cert.MemKVReferenceIdeal.main (F := Ideal))) ⟨m, fun _ => 0, g⟩ (fun r => (∀ c : Dev Cert.MemKVReferenceIdeal.nD,
      r.2.mem ((c.tc : Thread Cert.MemKVReferenceIdeal.nD Cert.MemKVReferenceIdeal.τ).loc Cert.MemKVReferenceIdeal.main_arg0) = m ((c.tc : Thread Cert.MemKVReferenceIdeal.nD Cert.MemKVReferenceIdeal.τ).loc Cert.MemKVReferenceIdeal.main_arg0)
      ∧ r.2.mem ((c.tc : Thread Cert.MemKVReferenceIdeal.nD Cert.MemKVReferenceIdeal.τ).loc Cert.MemKVReferenceIdeal.main_arg1) = m ((c.tc : Thread Cert.MemKVReferenceIdeal.nD Cert.MemKVReferenceIdeal.τ).loc Cert.MemKVReferenceIdeal.main_arg1)
      ∧ r.2.mem ((c.tc : Thread Cert.MemKVReferenceIdeal.nD Cert.MemKVReferenceIdeal.τ).loc Cert.MemKVReferenceIdeal.main_arg2) = m ((c.tc : Thread Cert.MemKVReferenceIdeal.nD Cert.MemKVReferenceIdeal.τ).loc Cert.MemKVReferenceIdeal.main_arg2)
      ∧ r.2.mem ((c.tc : Thread Cert.MemKVReferenceIdeal.nD Cert.MemKVReferenceIdeal.τ).loc Cert.MemKVReferenceIdeal.main_arg3) = m ((c.tc : Thread Cert.MemKVReferenceIdeal.nD Cert.MemKVReferenceIdeal.τ).loc Cert.MemKVReferenceIdeal.main_arg3)
      ∧ r.2.mem ((c.tc : Thread Cert.MemKVReferenceIdeal.nD Cert.MemKVReferenceIdeal.τ).loc Cert.MemKVReferenceIdeal.main_arg4) = m ((c.tc : Thread Cert.MemKVReferenceIdeal.nD Cert.MemKVReferenceIdeal.τ).loc Cert.MemKVReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3)
      ∧ r.2.mem ((c.tc : Thread Cert.InProjSample.nD Cert.InProjSample.τ).loc Cert.InProjSample.main_arg4) = m ((c.tc : Thread Cert.InProjSample.nD Cert.InProjSample.τ).loc Cert.InProjSample.main_arg4))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
      ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1)
      ∧ r.2.mem ((c.tc : Thread Cert.InProjSampleReferenceIdeal.nD Cert.InProjSampleReferenceIdeal.τ).loc Cert.InProjSampleReferenceIdeal.main_arg2) = m ((c.tc : Thread Cert.InProjSampleReferenceIdeal.nD Cert.InProjSampleReferenceIdeal.τ).loc Cert.InProjSampleReferenceIdeal.main_arg2)
      ∧ r.2.mem ((c.tc : Thread Cert.InProjSampleReferenceIdeal.nD Cert.InProjSampleReferenceIdeal.τ).loc Cert.InProjSampleReferenceIdeal.main_arg3) = m ((c.tc : Thread Cert.InProjSampleReferenceIdeal.nD Cert.InProjSampleReferenceIdeal.τ).loc Cert.InProjSampleReferenceIdeal.main_arg3)
      ∧ r.2.mem ((c.tc : Thread Cert.InProjSampleReferenceIdeal.nD Cert.InProjSampleReferenceIdeal.τ).loc Cert.InProjSampleReferenceIdeal.main_arg4) = m ((c.tc : Thread Cert.InProjSampleReferenceIdeal.nD Cert.InProjSampleReferenceIdeal.τ).loc Cert.InProjSampleReferenceIdeal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v4_0)) (v1 : (c : Dev Cert.MixOutIdeal.nD) → Buf (Elt Ideal) ((c.tc : Thread Cert.MixOutIdeal.nD Cert.MixOutIdeal.τ).loc Cert.MixOutIdeal.main_v4_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v4_0) = v0 c
          ∧ r.2.mem ((c.tc : Thread Cert.MixOutIdeal.nD Cert.MixOutIdeal.τ).loc Cert.MixOutIdeal.main_v4_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v4) = v0 c
          ∧ r.2.mem ((c.tc : Thread Cert.MixOutReferenceIdeal.nD Cert.MixOutReferenceIdeal.τ).loc Cert.MixOutReferenceIdeal.main_v34) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6))

def preserves_XAttn_XAttnIdeal : Prop :=
  True

def algebraic_XAttnIdeal_XAttnReferenceIdeal [hXAttnIdeal : Cert.XAttnIdeal.Facts] [hXAttnReferenceIdeal : Cert.XAttnReferenceIdeal.Facts] : Prop :=
  ∀ (m : (ℓ : Loc Cert.XAttnIdeal.nD Cert.XAttnIdeal.τ Cert.XAttnIdeal.sig) → Buf (Elt Ideal) ℓ) (g : Dev Cert.XAttnIdeal.nD → PrngReg)
    (m' : (ℓ : Loc Cert.XAttnReferenceIdeal.nD Cert.XAttnReferenceIdeal.τ Cert.XAttnReferenceIdeal.sig) → Buf (Elt Ideal) ℓ) (g' : Dev Cert.XAttnReferenceIdeal.nD → PrngReg), Pre_XAttnIdeal m →
    (∀ c : Dev Cert.XAttnIdeal.nD,
      m' ((c.tc : Thread Cert.XAttnReferenceIdeal.nD Cert.XAttnReferenceIdeal.τ).loc Cert.XAttnReferenceIdeal.main_arg0) = m ((c.tc : Thread Cert.XAttnIdeal.nD Cert.XAttnIdeal.τ).loc Cert.XAttnIdeal.main_arg0)
      ∧ m' ((c.tc : Thread Cert.XAttnReferenceIdeal.nD Cert.XAttnReferenceIdeal.τ).loc Cert.XAttnReferenceIdeal.main_arg1) = m ((c.tc : Thread Cert.XAttnIdeal.nD Cert.XAttnIdeal.τ).loc Cert.XAttnIdeal.main_arg1)
      ∧ m' ((c.tc : Thread Cert.XAttnReferenceIdeal.nD Cert.XAttnReferenceIdeal.τ).loc Cert.XAttnReferenceIdeal.main_arg2) = m ((c.tc : Thread Cert.XAttnIdeal.nD Cert.XAttnIdeal.τ).loc Cert.XAttnIdeal.main_arg2)) →
    ∃ (v0 : (c : Dev Cert.XAttnIdeal.nD) → Buf (Elt Ideal) ((c.tc : Thread Cert.XAttnIdeal.nD Cert.XAttnIdeal.τ).loc Cert.XAttnIdeal.main_v1)),
      θ_run (Cert.XAttnIdeal.defs (F := Ideal)) (onTc (τ := Cert.XAttnIdeal.τ) (Cert.XAttnIdeal.main (F := Ideal))) ⟨m, fun _ => 0, g⟩ (fun r => ∀ c : Dev Cert.XAttnIdeal.nD,
          r.2.mem ((c.tc : Thread Cert.XAttnIdeal.nD Cert.XAttnIdeal.τ).loc Cert.XAttnIdeal.main_v1) = v0 c
          ∧ r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
          ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
          ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2))
      ∧ θ_run (Cert.XAttnReferenceIdeal.defs (F := Ideal)) (onTc (τ := Cert.XAttnReferenceIdeal.τ) (Cert.XAttnReferenceIdeal.main (F := Ideal))) ⟨m', fun _ => 0, g'⟩ (fun r => ∀ c : Dev Cert.XAttnReferenceIdeal.nD,
          r.2.mem ((c.tc : Thread Cert.XAttnReferenceIdeal.nD Cert.XAttnReferenceIdeal.τ).loc Cert.XAttnReferenceIdeal.main_v21) = v0 c
          ∧ r.2.mem ((c.tc : Thread Cert.XAttnReferenceIdeal.nD Cert.XAttnReferenceIdeal.τ).loc Cert.XAttnReferenceIdeal.main_arg0) = m' ((c.tc : Thread Cert.XAttnReferenceIdeal.nD Cert.XAttnReferenceIdeal.τ).loc Cert.XAttnReferenceIdeal.main_arg0)
          ∧ r.2.mem ((c.tc : Thread Cert.XAttnReferenceIdeal.nD Cert.XAttnReferenceIdeal.τ).loc Cert.XAttnReferenceIdeal.main_arg1) = m' ((c.tc : Thread Cert.XAttnReferenceIdeal.nD Cert.XAttnReferenceIdeal.τ).loc Cert.XAttnReferenceIdeal.main_arg1)
          ∧ r.2.mem ((c.tc : Thread Cert.XAttnReferenceIdeal.nD Cert.XAttnReferenceIdeal.τ).loc Cert.XAttnReferenceIdeal.main_arg2) = m' ((c.tc : Thread Cert.XAttnReferenceIdeal.nD Cert.XAttnReferenceIdeal.τ).loc Cert.XAttnReferenceIdeal.main_arg2))

def preserves_MemKV_MemKVIdeal : Prop :=
  True

def algebraic_MemKVIdeal_MemKVReferenceIdeal [hMemKVIdeal : Cert.MemKVIdeal.Facts] [hMemKVReferenceIdeal : Cert.MemKVReferenceIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVReferenceIdeal.nD Cert.MemKVReferenceIdeal.τ Cert.MemKVReferenceIdeal.sig) → Buf (Elt Ideal) ℓ) (g' : Dev Cert.MemKVReferenceIdeal.nD → PrngReg), Pre_MemKVIdeal m →
    (∀ c : Dev Cert.MemKVIdeal.nD,
      m' ((c.tc : Thread Cert.MemKVReferenceIdeal.nD Cert.MemKVReferenceIdeal.τ).loc Cert.MemKVReferenceIdeal.main_arg0) = m ((c.tc : Thread Cert.MemKVIdeal.nD Cert.MemKVIdeal.τ).loc Cert.MemKVIdeal.main_arg0)
      ∧ m' ((c.tc : Thread Cert.MemKVReferenceIdeal.nD Cert.MemKVReferenceIdeal.τ).loc Cert.MemKVReferenceIdeal.main_arg1) = m ((c.tc : Thread Cert.MemKVIdeal.nD Cert.MemKVIdeal.τ).loc Cert.MemKVIdeal.main_arg1)
      ∧ m' ((c.tc : Thread Cert.MemKVReferenceIdeal.nD Cert.MemKVReferenceIdeal.τ).loc Cert.MemKVReferenceIdeal.main_arg2) = m ((c.tc : Thread Cert.MemKVIdeal.nD Cert.MemKVIdeal.τ).loc Cert.MemKVIdeal.main_arg2)
      ∧ m' ((c.tc : Thread Cert.MemKVReferenceIdeal.nD Cert.MemKVReferenceIdeal.τ).loc Cert.MemKVReferenceIdeal.main_arg3) = m ((c.tc : Thread Cert.MemKVIdeal.nD Cert.MemKVIdeal.τ).loc Cert.MemKVIdeal.main_arg3)
      ∧ m' ((c.tc : Thread Cert.MemKVReferenceIdeal.nD Cert.MemKVReferenceIdeal.τ).loc Cert.MemKVReferenceIdeal.main_arg4) = m ((c.tc : Thread Cert.MemKVIdeal.nD Cert.MemKVIdeal.τ).loc Cert.MemKVIdeal.main_arg4)) →
    ∃ (v0 : (c : Dev Cert.MemKVIdeal.nD) → Buf (Elt Ideal) ((c.tc : Thread Cert.MemKVIdeal.nD Cert.MemKVIdeal.τ).loc Cert.MemKVIdeal.main_v4)) (v1 : (c : Dev Cert.MemKVIdeal.nD) → Buf (Elt Ideal) ((c.tc : Thread Cert.MemKVIdeal.nD Cert.MemKVIdeal.τ).loc Cert.MemKVIdeal.main_v6)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v4) = v0 c
          ∧ r.2.mem ((c.tc : Thread Cert.MemKVIdeal.nD Cert.MemKVIdeal.τ).loc Cert.MemKVIdeal.main_v6) = v1 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
          ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3)
          ∧ r.2.mem ((c.tc : Thread Cert.MemKVIdeal.nD Cert.MemKVIdeal.τ).loc Cert.MemKVIdeal.main_arg4) = m ((c.tc : Thread Cert.MemKVIdeal.nD Cert.MemKVIdeal.τ).loc Cert.MemKVIdeal.main_arg4))
      ∧ θ_run (Cert.MemKVReferenceIdeal.defs (F := Ideal)) (onTc (τ := Cert.MemKVReferenceIdeal.τ) (Cert.MemKVReferenceIdeal.main (F := Ideal))) ⟨m', fun _ => 0, g'⟩ (fun r => ∀ c : Dev Cert.MemKVReferenceIdeal.nD,
          r.2.mem ((c.tc : Thread Cert.MemKVReferenceIdeal.nD Cert.MemKVReferenceIdeal.τ).loc Cert.MemKVReferenceIdeal.main_v30) = v0 c
          ∧ r.2.mem ((c.tc : Thread Cert.MemKVReferenceIdeal.nD Cert.MemKVReferenceIdeal.τ).loc Cert.MemKVReferenceIdeal.main_v31) = v1 c
          ∧ r.2.mem ((c.tc : Thread Cert.MemKVReferenceIdeal.nD Cert.MemKVReferenceIdeal.τ).loc Cert.MemKVReferenceIdeal.main_arg0) = m' ((c.tc : Thread Cert.MemKVReferenceIdeal.nD Cert.MemKVReferenceIdeal.τ).loc Cert.MemKVReferenceIdeal.main_arg0)
          ∧ r.2.mem ((c.tc : Thread Cert.MemKVReferenceIdeal.nD Cert.MemKVReferenceIdeal.τ).loc Cert.MemKVReferenceIdeal.main_arg1) = m' ((c.tc : Thread Cert.MemKVReferenceIdeal.nD Cert.MemKVReferenceIdeal.τ).loc Cert.MemKVReferenceIdeal.main_arg1)
          ∧ r.2.mem ((c.tc : Thread Cert.MemKVReferenceIdeal.nD Cert.MemKVReferenceIdeal.τ).loc Cert.MemKVReferenceIdeal.main_arg2) = m' ((c.tc : Thread Cert.MemKVReferenceIdeal.nD Cert.MemKVReferenceIdeal.τ).loc Cert.MemKVReferenceIdeal.main_arg2)
          ∧ r.2.mem ((c.tc : Thread Cert.MemKVReferenceIdeal.nD Cert.MemKVReferenceIdeal.τ).loc Cert.MemKVReferenceIdeal.main_arg3) = m' ((c.tc : Thread Cert.MemKVReferenceIdeal.nD Cert.MemKVReferenceIdeal.τ).loc Cert.MemKVReferenceIdeal.main_arg3)
          ∧ r.2.mem ((c.tc : Thread Cert.MemKVReferenceIdeal.nD Cert.MemKVReferenceIdeal.τ).loc Cert.MemKVReferenceIdeal.main_arg4) = m' ((c.tc : Thread Cert.MemKVReferenceIdeal.nD Cert.MemKVReferenceIdeal.τ).loc Cert.MemKVReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)) (v3 : (c : Dev Cert.InProjIdeal.nD) → Buf (Elt Ideal) ((c.tc : Thread Cert.InProjIdeal.nD Cert.InProjIdeal.τ).loc Cert.InProjIdeal.main_v8_3)) (v4 : (c : Dev Cert.InProjIdeal.nD) → Buf (Elt Ideal) ((c.tc : Thread Cert.InProjIdeal.nD Cert.InProjIdeal.τ).loc Cert.InProjIdeal.main_v8_4)) (v5 : (c : Dev Cert.InProjIdeal.nD) → Buf (Elt Ideal) ((c.tc : Thread Cert.InProjIdeal.nD Cert.InProjIdeal.τ).loc Cert.InProjIdeal.main_v8_5)) (v6 : (c : Dev Cert.InProjIdeal.nD) → Buf (Elt Ideal) ((c.tc : Thread Cert.InProjIdeal.nD Cert.InProjIdeal.τ).loc Cert.InProjIdeal.main_v10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_v8_3) = v3 c
          ∧ r.2.mem ((c.tc : Thread Cert.InProjIdeal.nD Cert.InProjIdeal.τ).loc Cert.InProjIdeal.main_v8_4) = v4 c
          ∧ r.2.mem ((c.tc : Thread Cert.InProjIdeal.nD Cert.InProjIdeal.τ).loc Cert.InProjIdeal.main_v8_5) = v5 c
          ∧ r.2.mem ((c.tc : Thread Cert.InProjIdeal.nD Cert.InProjIdeal.τ).loc Cert.InProjIdeal.main_v10) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v43) = v0 c
          ∧ r.2.mem ((c.tc : Thread Cert.InProjReferenceIdeal.nD Cert.InProjReferenceIdeal.τ).loc Cert.InProjReferenceIdeal.main_v44) = v1 c
          ∧ r.2.mem ((c.tc : Thread Cert.InProjReferenceIdeal.nD Cert.InProjReferenceIdeal.τ).loc Cert.InProjReferenceIdeal.main_v4) = v2 c
          ∧ r.2.mem ((c.tc : Thread Cert.InProjReferenceIdeal.nD Cert.InProjReferenceIdeal.τ).loc Cert.InProjReferenceIdeal.main_v5) = v3 c
          ∧ r.2.mem ((c.tc : Thread Cert.InProjReferenceIdeal.nD Cert.InProjReferenceIdeal.τ).loc Cert.InProjReferenceIdeal.main_v7) = v4 c
          ∧ r.2.mem ((c.tc : Thread Cert.InProjReferenceIdeal.nD Cert.InProjReferenceIdeal.τ).loc Cert.InProjReferenceIdeal.main_v38) = v5 c
          ∧ r.2.mem ((c.tc : Thread Cert.InProjReferenceIdeal.nD Cert.InProjReferenceIdeal.τ).loc Cert.InProjReferenceIdeal.main_v45) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v2)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v2) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v21) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)
      ∧ m' ((c.tc : Thread Cert.InProjSampleReferenceIdeal.nD Cert.InProjSampleReferenceIdeal.τ).loc Cert.InProjSampleReferenceIdeal.main_arg2) = m ((c.tc : Thread Cert.InProjSampleIdeal.nD Cert.InProjSampleIdeal.τ).loc Cert.InProjSampleIdeal.main_arg2)
      ∧ m' ((c.tc : Thread Cert.InProjSampleReferenceIdeal.nD Cert.InProjSampleReferenceIdeal.τ).loc Cert.InProjSampleReferenceIdeal.main_arg3) = m ((c.tc : Thread Cert.InProjSampleIdeal.nD Cert.InProjSampleIdeal.τ).loc Cert.InProjSampleIdeal.main_arg3)
      ∧ m' ((c.tc : Thread Cert.InProjSampleReferenceIdeal.nD Cert.InProjSampleReferenceIdeal.τ).loc Cert.InProjSampleReferenceIdeal.main_arg4) = m ((c.tc : Thread Cert.InProjSampleIdeal.nD Cert.InProjSampleIdeal.τ).loc Cert.InProjSampleIdeal.main_arg4)) →
    ∃ (v0 : (c : Dev Cert.InProjSampleIdeal.nD) → Buf (Elt Ideal) ((c.tc : Thread Cert.InProjSampleIdeal.nD Cert.InProjSampleIdeal.τ).loc Cert.InProjSampleIdeal.main_v8_0)) (v1 : (c : Dev Cert.InProjSampleIdeal.nD) → Buf (Elt Ideal) ((c.tc : Thread Cert.InProjSampleIdeal.nD Cert.InProjSampleIdeal.τ).loc Cert.InProjSampleIdeal.main_v8_1)) (v2 : (c : Dev Cert.InProjSampleIdeal.nD) → Buf (Elt Ideal) ((c.tc : Thread Cert.InProjSampleIdeal.nD Cert.InProjSampleIdeal.τ).loc Cert.InProjSampleIdeal.main_v8_2)) (v3 : (c : Dev Cert.InProjSampleIdeal.nD) → Buf (Elt Ideal) ((c.tc : Thread Cert.InProjSampleIdeal.nD Cert.InProjSampleIdeal.τ).loc Cert.InProjSampleIdeal.main_v8_3)) (v4 : (c : Dev Cert.InProjSampleIdeal.nD) → Buf (Elt Ideal) ((c.tc : Thread Cert.InProjSampleIdeal.nD Cert.InProjSampleIdeal.τ).loc Cert.InProjSampleIdeal.main_v8_4)) (v5 : (c : Dev Cert.InProjSampleIdeal.nD) → Buf (Elt Ideal) ((c.tc : Thread Cert.InProjSampleIdeal.nD Cert.InProjSampleIdeal.τ).loc Cert.InProjSampleIdeal.main_v8_5)) (v6 : (c : Dev Cert.InProjSampleIdeal.nD) → Buf (Elt Ideal) ((c.tc : Thread Cert.InProjSampleIdeal.nD Cert.InProjSampleIdeal.τ).loc Cert.InProjSampleIdeal.main_v10)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v8_0) = v0 c
          ∧ r.2.mem ((c.tc : Thread Cert.InProjSampleIdeal.nD Cert.InProjSampleIdeal.τ).loc Cert.InProjSampleIdeal.main_v8_1) = v1 c
          ∧ r.2.mem ((c.tc : Thread Cert.InProjSampleIdeal.nD Cert.InProjSampleIdeal.τ).loc Cert.InProjSampleIdeal.main_v8_2) = v2 c
          ∧ r.2.mem ((c.tc : Thread Cert.InProjSampleIdeal.nD Cert.InProjSampleIdeal.τ).loc Cert.InProjSampleIdeal.main_v8_3) = v3 c
          ∧ r.2.mem ((c.tc : Thread Cert.InProjSampleIdeal.nD Cert.InProjSampleIdeal.τ).loc Cert.InProjSampleIdeal.main_v8_4) = v4 c
          ∧ r.2.mem ((c.tc : Thread Cert.InProjSampleIdeal.nD Cert.InProjSampleIdeal.τ).loc Cert.InProjSampleIdeal.main_v8_5) = v5 c
          ∧ r.2.mem ((c.tc : Thread Cert.InProjSampleIdeal.nD Cert.InProjSampleIdeal.τ).loc Cert.InProjSampleIdeal.main_v10) = v6 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
          ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v41) = v0 c
          ∧ r.2.mem ((c.tc : Thread Cert.InProjSampleReferenceIdeal.nD Cert.InProjSampleReferenceIdeal.τ).loc Cert.InProjSampleReferenceIdeal.main_v42) = v1 c
          ∧ r.2.mem ((c.tc : Thread Cert.InProjSampleReferenceIdeal.nD Cert.InProjSampleReferenceIdeal.τ).loc Cert.InProjSampleReferenceIdeal.main_v4) = v2 c
          ∧ r.2.mem ((c.tc : Thread Cert.InProjSampleReferenceIdeal.nD Cert.InProjSampleReferenceIdeal.τ).loc Cert.InProjSampleReferenceIdeal.main_v5) = v3 c
          ∧ r.2.mem ((c.tc : Thread Cert.InProjSampleReferenceIdeal.nD Cert.InProjSampleReferenceIdeal.τ).loc Cert.InProjSampleReferenceIdeal.main_v7) = v4 c
          ∧ r.2.mem ((c.tc : Thread Cert.InProjSampleReferenceIdeal.nD Cert.InProjSampleReferenceIdeal.τ).loc Cert.InProjSampleReferenceIdeal.main_v38) = v5 c
          ∧ r.2.mem ((c.tc : Thread Cert.InProjSampleReferenceIdeal.nD Cert.InProjSampleReferenceIdeal.τ).loc Cert.InProjSampleReferenceIdeal.main_v43) = v6 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1)
          ∧ r.2.mem ((c.tc : Thread Cert.InProjSampleReferenceIdeal.nD Cert.InProjSampleReferenceIdeal.τ).loc Cert.InProjSampleReferenceIdeal.main_arg2) = m' ((c.tc : Thread Cert.InProjSampleReferenceIdeal.nD Cert.InProjSampleReferenceIdeal.τ).loc Cert.InProjSampleReferenceIdeal.main_arg2)
          ∧ r.2.mem ((c.tc : Thread Cert.InProjSampleReferenceIdeal.nD Cert.InProjSampleReferenceIdeal.τ).loc Cert.InProjSampleReferenceIdeal.main_arg3) = m' ((c.tc : Thread Cert.InProjSampleReferenceIdeal.nD Cert.InProjSampleReferenceIdeal.τ).loc Cert.InProjSampleReferenceIdeal.main_arg3)
          ∧ r.2.mem ((c.tc : Thread Cert.InProjSampleReferenceIdeal.nD Cert.InProjSampleReferenceIdeal.τ).loc Cert.InProjSampleReferenceIdeal.main_arg4) = m' ((c.tc : Thread Cert.InProjSampleReferenceIdeal.nD Cert.InProjSampleReferenceIdeal.τ).loc Cert.InProjSampleReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMixOut : Cert.MixOut.Facts) (hMixOutIdeal : Cert.MixOutIdeal.Facts) (hMixOutReferenceIdeal : Cert.MixOutReferenceIdeal.Facts) (hXAttn : Cert.XAttn.Facts) (hXAttnIdeal : Cert.XAttnIdeal.Facts) (hXAttnReferenceIdeal : Cert.XAttnReferenceIdeal.Facts) (hMemKV : Cert.MemKV.Facts) (hMemKVIdeal : Cert.MemKVIdeal.Facts) (hMemKVReferenceIdeal : Cert.MemKVReferenceIdeal.Facts) (hInProj : Cert.InProj.Facts) (hInProjIdeal : Cert.InProjIdeal.Facts) (hInProjReferenceIdeal : Cert.InProjReferenceIdeal.Facts) (hFfnSample : Cert.FfnSample.Facts) (hFfnSampleIdeal : Cert.FfnSampleIdeal.Facts) (hFfnSampleReferenceIdeal : Cert.FfnSampleReferenceIdeal.Facts) (hInProjSample : Cert.InProjSample.Facts) (hInProjSampleIdeal : Cert.InProjSampleIdeal.Facts) (hInProjSampleReferenceIdeal : Cert.InProjSampleReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_XAttn (hXAttn := hXAttn)
    ∧ quiescent_XAttnIdeal (hXAttnIdeal := hXAttnIdeal)
    ∧ quiescent_XAttnReferenceIdeal (hXAttnReferenceIdeal := hXAttnReferenceIdeal)
    ∧ quiescent_MemKV (hMemKV := hMemKV)
    ∧ quiescent_MemKVIdeal (hMemKVIdeal := hMemKVIdeal)
    ∧ quiescent_MemKVReferenceIdeal (hMemKVReferenceIdeal := hMemKVReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Ffn_FfnIdeal
    ∧ algebraic_FfnIdeal_FfnReferenceIdeal (hFfnIdeal := hFfnIdeal) (hFfnReferenceIdeal := hFfnReferenceIdeal)
    ∧ preserves_MixOut_MixOutIdeal
    ∧ algebraic_MixOutIdeal_MixOutReferenceIdeal (hMixOutIdeal := hMixOutIdeal) (hMixOutReferenceIdeal := hMixOutReferenceIdeal)
    ∧ preserves_XAttn_XAttnIdeal
    ∧ algebraic_XAttnIdeal_XAttnReferenceIdeal (hXAttnIdeal := hXAttnIdeal) (hXAttnReferenceIdeal := hXAttnReferenceIdeal)
    ∧ preserves_MemKV_MemKVIdeal
    ∧ algebraic_MemKVIdeal_MemKVReferenceIdeal (hMemKVIdeal := hMemKVIdeal) (hMemKVReferenceIdeal := hMemKVReferenceIdeal)
    ∧ preserves_InProj_InProjIdeal
    ∧ algebraic_InProjIdeal_InProjReferenceIdeal (hInProjIdeal := hInProjIdeal) (hInProjReferenceIdeal := hInProjReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
-- ==== Pre_finite_logits.lean ====
abbrev S8 : Shape := ⟨1, ![8]⟩
abbrev S8192x1024 : Shape := ⟨2, ![8192, 1024]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8 .f32) (main_arg1 : FVec F S8192x1024 .bf16) (main_arg2 : FVec F S8192x1024 .f32) (main_arg3 : FVec F S8192x1024 .f32) : IVec S8 1 × IVec S8192x1024 1 × IVec S8192x1024 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  (main_v2, main_v6, main_v9)
-- ==== Kernel.lean ====
abbrev S8 : Shape := ⟨1, ![8]⟩
abbrev S8192x1024 : Shape := ⟨2, ![8192, 1024]⟩
abbrev S4x2048x1024 : Shape := ⟨3, ![4, 2048, 1024]⟩
abbrev S1x256x1024 : Shape := ⟨3, ![1, 256, 1024]⟩
abbrev S1x2048x1024 : Shape := ⟨3, ![1, 2048, 1024]⟩
abbrev S256x256 : Shape := ⟨2, ![256, 256]⟩
abbrev S512x256 : Shape := ⟨2, ![512, 256]⟩
abbrev S1x256x128 : Shape := ⟨3, ![1, 256, 128]⟩
abbrev S256x128 : Shape := ⟨2, ![256, 128]⟩
abbrev S1 : Shape := ⟨1, ![1]⟩
abbrev S256x1 : Shape := ⟨2, ![256, 1]⟩
abbrev S256x1024 : Shape := ⟨2, ![256, 1024]⟩
abbrev S256x512 : Shape := ⟨2, ![256, 512]⟩
abbrev S256 : Shape := ⟨1, ![256]⟩

abbrev nBuf : Space → Nat
  | .hbm => 8
  | .vmem => 8
  | .smem => 1
  | _ => 0

abbrev bufTy : (tb : Table) → Fin (tcTables nBuf tb) → BufTy
  | .hbm, ⟨0, _⟩ => ⟨S8, .f32⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S4x2048x1024, .bf16⟩
  | .hbm, ⟨5, _⟩ => ⟨S4x2048x1024, .f32⟩
  | .hbm, ⟨6, _⟩ => ⟨S4x2048x1024, .f32⟩
  | .hbm, ⟨7, _⟩ => ⟨S4x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x256x1024, .bf16⟩
  | .local _ .vmem, ⟨7, _⟩ => ⟨S1x256x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32 : BitVec 32) : Fin 1 → Nat :=
  let arg1 : BitVec 32 := BitVec.ofNat 32 (i 1).val
  let c8_i32 : BitVec 32 := 8#32
  let v27 : BitVec 32 := Scalar.muli arg1 c8_i32
  let v28 : BitVec 32 := Scalar.addi v27 c0_i32
  let v29 : Index := Scalar.indexCast v28
  ![v29.toNat]
def k0_mult1 (i : grid0.Coords) : BitVec 32 :=
  let arg2 : BitVec 32 := BitVec.ofNat 32 (i 2).val
  let c256_i32 : BitVec 32 := 256#32
  let v75 : BitVec 32 := Scalar.muli arg2 c256_i32
  v75
def k0_off2 (i : grid0.Coords) : Fin 3 → Nat :=
  let c0_40 : Index := 0#32
  let arg2 : BitVec 32 := BitVec.ofNat 32 (i 2).val
  let c256_i32 : BitVec 32 := 256#32
  let v75 : BitVec 32 := Scalar.muli arg2 c256_i32
  let v76 : BitVec 32 := v75
  let v77 : Index := Scalar.indexCast v76
  let c0_41 : Index := 0#32
  ![0, v77.toNat, 0]
@[reducible] def k0_t1_loop (i : grid0.Coords) : Scf.Loop 32 :=
  let c0_i32_116 : BitVec 32 := 0#32
  let arg2 : BitVec 32 := BitVec.ofNat 32 (i 2).val
  let v373 : BitVec 32 := Scalar.subi arg2 c0_i32_116
  let c1_i32_117 : BitVec 32 := 1#32
  let v375 : BitVec 32 := Scalar.divsi v373 c1_i32_117
  let v376 : BitVec 32 := Scalar.muli v375 c1_i32_117
  let v377 : BitVec 32 := Scalar.addi c0_i32_116 v376
  let c1_i32_118 : BitVec 32 := 1#32
  ⟨c0_i32_116, v377, c1_i32_118⟩
def k0_mult2 (i : grid0.Coords) (k0_t1 : Fin (k0_t1_loop i).trips) : BitVec 32 :=
  let arg2 : BitVec 32 := BitVec.ofNat 32 (i 2).val
  let c1_i32_144 : BitVec 32 := 1#32
  let v412 : BitVec 32 := Scalar.subi arg2 c1_i32_144
  let c0_i32_116 : BitVec 32 := 0#32
  let c1_i32_118 : BitVec 32 := 1#32
  let arg8 : BitVec 32 := Scf.iv c0_i32_116 c1_i32_118 k0_t1
  let v413 : BitVec 32 := Scalar.subi v412 arg8
  let c256_i32_145 : BitVec 32 := 256#32
  let v414 : BitVec 32 := Scalar.muli v413 c256_i32_145
  v414
def k0_off3 (i : grid0.Coords) (k0_t1 : Fin (k0_t1_loop i).trips) : Fin 3 → Nat :=
  let c0_146 : Index := 0#32
  let arg2 : BitVec 32 := BitVec.ofNat 32 (i 2).val
  let c1_i32_144 : BitVec 32 := 1#32
  let v412 : BitVec 32 := Scalar.subi arg2 c1_i32_144
  let c0_i32_116 : BitVec 32 := 0#32
  let c1_i32_118 : BitVec 32 := 1#32
  let arg8 : BitVec 32 := Scf.iv c0_i32_116 c1_i32_118 k0_t1
  let v413 : BitVec 32 := Scalar.subi v412 arg8
  let c256_i32_145 : BitVec 32 := 256#32
  let v414 : BitVec 32 := Scalar.muli v413 c256_i32_145
  let v415 : BitVec 32 := v414
  let v416 : Index := Scalar.indexCast v415
  let c0_147 : Index := 0#32
  ![0, v416.toNat, 0]
@[reducible] def k0_t2_loop (i : grid0.Coords) : Scf.Loop 32 :=
  let c0_i32_116 : BitVec 32 := 0#32
  let arg2 : BitVec 32 := BitVec.ofNat 32 (i 2).val
  let v373 : BitVec 32 := Scalar.subi arg2 c0_i32_116
  let c1_i32_117 : BitVec 32 := 1#32
  let v375 : BitVec 32 := Scalar.divsi v373 c1_i32_117
  let v376 : BitVec 32 := Scalar.muli v375 c1_i32_117
  let v377 : BitVec 32 := Scalar.addi c0_i32_116 v376
  let v374 : BitVec 32 := Scalar.addi c0_i32_116 v373
  let c1_i32_119 : BitVec 32 := 1#32
  ⟨v377, v374, c1_i32_119⟩
def k0_mult3 (i : grid0.Coords) (k0_t2 : Fin (k0_t2_loop i).trips) : BitVec 32 :=
  let arg2 : BitVec 32 := BitVec.ofNat 32 (i 2).val
  let c1_i32_144 : BitVec 32 := 1#32
  let v412 : BitVec 32 := Scalar.subi arg2 c1_i32_144
  let c0_i32_116 : BitVec 32 := 0#32
  let v373 : BitVec 32 := Scalar.subi arg2 c0_i32_116
  let c1_i32_117 : BitVec 32 := 1#32
  let v375 : BitVec 32 := Scalar.divsi v373 c1_i32_117
  let v376 : BitVec 32 := Scalar.muli v375 c1_i32_117
  let v377 : BitVec 32 := Scalar.addi c0_i32_116 v376
  let c1_i32_119 : BitVec 32 := 1#32
  let arg8 : BitVec 32 := Scf.iv v377 c1_i32_119 k0_t2
  let v413 : BitVec 32 := Scalar.subi v412 arg8
  let c256_i32_145 : BitVec 32 := 256#32
  let v414 : BitVec 32 := Scalar.muli v413 c256_i32_145
  v414
def k0_off4 (i : grid0.Coords) (k0_t2 : Fin (k0_t2_loop i).trips) : Fin 3 → Nat :=
  let c0_146 : Index := 0#32
  let arg2 : BitVec 32 := BitVec.ofNat 32 (i 2).val
  let c1_i32_144 : BitVec 32 := 1#32
  let v412 : BitVec 32 := Scalar.subi arg2 c1_i32_144
  let c0_i32_116 : BitVec 32 := 0#32
  let v373 : BitVec 32 := Scalar.subi arg2 c0_i32_116
  let c1_i32_117 : BitVec 32 := 1#32
  let v375 : BitVec 32 := Scalar.divsi v373 c1_i32_117
  let v376 : BitVec 32 := Scalar.muli v375 c1_i32_117
  let v377 : BitVec 32 := Scalar.addi c0_i32_116 v376
  let c1_i32_119 : BitVec 32 := 1#32
  let arg8 : BitVec 32 := Scf.iv v377 c1_i32_119 k0_t2
  let v413 : BitVec 32 := Scalar.subi v412 arg8
  let c256_i32_145 : BitVec 32 := 256#32
  let v414 : BitVec 32 := Scalar.muli v413 c256_i32_145
  let v415 : BitVec 32 := v414
  let v416 : Index := Scalar.indexCast v415
  let c0_147 : Index := 0#32
  ![0, v416.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8 : Shape := ⟨1, ![8]⟩
abbrev S8192x1024 : Shape := ⟨2, ![8192, 1024]⟩
abbrev S4x2048x8x128 : Shape := ⟨4, ![4, 2048, 8, 128]⟩
abbrev S4x8x2048x2048 : Shape := ⟨4, ![4, 8, 2048, 2048]⟩
abbrev S1x8x1x1 : Shape := ⟨4, ![1, 8, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S4x8x128x2048 : Shape := ⟨4, ![4, 8, 128, 2048]⟩
abbrev S4x2048x1024 : Shape := ⟨3, ![4, 2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8, .f32⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S4x2048x8x128, .f32⟩
  | .hbm, ⟨6, _⟩ => ⟨S4x2048x8x128, .f32⟩
  | .hbm, ⟨7, _⟩ => ⟨S4x2048x8x128, .f32⟩
  | .hbm, ⟨8, _⟩ => ⟨S4x8x2048x2048, .f32⟩
  | .hbm, ⟨9, _⟩ => ⟨S1x8x1x1, .f32⟩
  | .hbm, ⟨10, _⟩ => ⟨S4x8x2048x2048, .f32⟩
  | .hbm, ⟨11, _⟩ => ⟨S4x8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S1x1x2048x2048, .i1⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .i1⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S_, .f32⟩
  | .hbm, ⟨38, _⟩ => ⟨S4x8x2048x2048, .i1⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S_, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .i1⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S_, .f32⟩
  | .hbm, ⟨63, _⟩ => ⟨S_, .f32⟩
  | .hbm, ⟨64, _⟩ => ⟨S4x8x2048x2048, .i1⟩
  | .hbm, ⟨65, _⟩ => ⟨S4x8x2048x2048, .f32⟩
  | .hbm, ⟨66, _⟩ => ⟨S4x8x2048x2048, .f32⟩
  | .hbm, ⟨67, _⟩ => ⟨S4x8x2048x2048, .f32⟩
  | .hbm, ⟨68, _⟩ => ⟨S4x8x128x2048, .f32⟩
  | .hbm, ⟨69, _⟩ => ⟨S4x2048x8x128, .f32⟩
  | .hbm, ⟨70, _⟩ => ⟨S4x2048x1024, .f32⟩
  | .hbm, ⟨71, _⟩ => ⟨S4x2048x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Ffn.lean ====
abbrev S8192x2048 : Shape := ⟨2, ![8192, 2048]⟩
abbrev S8192x512 : Shape := ⟨2, ![8192, 512]⟩
abbrev S512x2048 : Shape := ⟨2, ![512, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S1024x512 : Shape := ⟨2, ![1024, 512]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S512x2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S512x2048, .bf16⟩
  | .hbm, ⟨7, _⟩ => ⟨S1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S1x2048, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x2048, .f32⟩
  | .local _ .vmem, ⟨11, _⟩ => ⟨S256x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnIdeal.lean ====
abbrev S8192x2048 : Shape := ⟨2, ![8192, 2048]⟩
abbrev S8192x512 : Shape := ⟨2, ![8192, 512]⟩
abbrev S512x2048 : Shape := ⟨2, ![512, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S1024x512 : Shape := ⟨2, ![1024, 512]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S512x2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S512x2048, .bf16⟩
  | .hbm, ⟨7, _⟩ => ⟨S1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S1x2048, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x2048, .f32⟩
  | .local _ .vmem, ⟨11, _⟩ => ⟨S256x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S8192x2048 : Shape := ⟨2, ![8192, 2048]⟩
abbrev S8192x512 : Shape := ⟨2, ![8192, 512]⟩
abbrev S512x2048 : Shape := ⟨2, ![512, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11264 : Shape := ⟨2, ![8192, 11264]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S512x2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S8192x512, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x11264, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== MixOut.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S2048x512 : Shape := ⟨2, ![2048, 512]⟩
abbrev S128 : Shape := ⟨1, ![128]⟩
abbrev S1x2048 : Shape := ⟨2, ![1, 2048]⟩
abbrev S1x128 : Shape := ⟨2, ![1, 128]⟩
abbrev S8192x512 : Shape := ⟨2, ![8192, 512]⟩
abbrev S512x1024 : Shape := ⟨2, ![512, 1024]⟩
abbrev S512x2048 : Shape := ⟨2, ![512, 2048]⟩
abbrev S512x512 : Shape := ⟨2, ![512, 512]⟩
abbrev S1024x2048 : Shape := ⟨2, ![1024, 2048]⟩
abbrev S512 : Shape := ⟨1, ![512]⟩
abbrev S512x1 : Shape := ⟨2, ![512, 1]⟩
abbrev S512x128 : Shape := ⟨2, ![512, 128]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048x512, .f32⟩
  | .hbm, ⟨6, _⟩ => ⟨S128, .f32⟩
  | .hbm, ⟨7, _⟩ => ⟨S2048x2048, .bf16⟩
  | .hbm, ⟨8, _⟩ => ⟨S2048x512, .bf16⟩
  | .hbm, ⟨9, _⟩ => ⟨S1x2048, .f32⟩
  | .hbm, ⟨10, _⟩ => ⟨S1x128, .f32⟩
  | .hbm, ⟨11, _⟩ => ⟨S8192x2048, .f32⟩
  | .hbm, ⟨12, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S2048x512, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x512, .bf16⟩
  | .local _ .vmem, ⟨13, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutReferenceIdeal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S2048x512 : Shape := ⟨2, ![2048, 512]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048x512, .f32⟩
  | .hbm, ⟨6, _⟩ => ⟨S128, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x512, .f32⟩
  | .hbm, ⟨29, _⟩ => ⟨S8192x4x128, .f32⟩
  | .hbm, ⟨30, _⟩ => ⟨S8192x4x128, .f32⟩
  | .hbm, ⟨31, _⟩ => ⟨S_, .f32⟩
  | .hbm, ⟨32, _⟩ => ⟨S8192x4, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S8192x4x1, .f32⟩
  | .hbm, ⟨41, _⟩ => ⟨S8192x4x128, .f32⟩
  | .hbm, ⟨42, _⟩ => ⟨S8192x4x128, .f32⟩
  | .hbm, ⟨43, _⟩ => ⟨S1x1x128, .f32⟩
  | .hbm, ⟨44, _⟩ => ⟨S8192x4x128, .f32⟩
  | .hbm, ⟨45, _⟩ => ⟨S8192x4x128, .f32⟩
  | .hbm, ⟨46, _⟩ => ⟨S8192x512, .f32⟩
  | .hbm, ⟨47, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== XAttn.lean ====
abbrev S8192x512 : Shape := ⟨2, ![8192, 512]⟩
abbrev S4x256x512 : Shape := ⟨3, ![4, 256, 512]⟩
abbrev S4x2048x512 : Shape := ⟨3, ![4, 2048, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S4x256x512, .f32⟩
  | .hbm, ⟨2, _⟩ => ⟨S4x256x512, .f32⟩
  | .hbm, ⟨3, _⟩ => ⟨S4x2048x512, .bf16⟩
  | .hbm, ⟨4, _⟩ => ⟨S4x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XAttnReferenceIdeal.lean ====
abbrev S8192x512 : Shape := ⟨2, ![8192, 512]⟩
abbrev S4x256x512 : Shape := ⟨3, ![4, 256, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x256x512, .f32⟩
  | .hbm, ⟨2, _⟩ => ⟨S4x256x512, .f32⟩
  | .hbm, ⟨3, _⟩ => ⟨S8192x512, .f32⟩
  | .hbm, ⟨4, _⟩ => ⟨S4x2048x4x128, .f32⟩
  | .hbm, ⟨5, _⟩ => ⟨S4x256x4x128, .f32⟩
  | .hbm, ⟨6, _⟩ => ⟨S4x256x4x128, .f32⟩
  | .hbm, ⟨7, _⟩ => ⟨S4x4x2048x256, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x128x2048, .f32⟩
  | .hbm, ⟨26, _⟩ => ⟨S4x2048x4x128, .f32⟩
  | .hbm, ⟨27, _⟩ => ⟨S4x2048x512, .f32⟩
  | .hbm, ⟨28, _⟩ => ⟨S4x2048x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MemKV.lean ====
abbrev S4x256x2048 : Shape := ⟨3, ![4, 256, 2048]⟩
abbrev S2048 : Shape := ⟨1, ![2048]⟩
abbrev S2048x512 : Shape := ⟨2, ![2048, 512]⟩
abbrev S128 : Shape := ⟨1, ![128]⟩
abbrev S1024x2048 : Shape := ⟨2, ![1024, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S1024x2048, .f32⟩
  | .hbm, ⟨6, _⟩ => ⟨S1x2048, .f32⟩
  | .hbm, ⟨7, _⟩ => ⟨S1024x2048, .bf16⟩
  | .hbm, ⟨8, _⟩ => ⟨S1x128, .f32⟩
  | .hbm, ⟨9, _⟩ => ⟨S1024x512, .f32⟩
  | .hbm, ⟨10, _⟩ => ⟨S_, .f32⟩
  | .hbm, ⟨11, _⟩ => ⟨S1x128, .f32⟩
  | .hbm, ⟨12, _⟩ => ⟨S1024x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S2048x512, .f32⟩
  | .local _ .vmem, ⟨7, _⟩ => ⟨S1x128, .f32⟩
  | .local _ .vmem, ⟨8, _⟩ => ⟨S1024x512, .f32⟩
  | .local _ .vmem, ⟨9, _⟩ => ⟨S1024x2048, .bf16⟩
  | .local _ .vmem, ⟨10, _⟩ => ⟨S2048x512, .f32⟩
  | .local _ .vmem, ⟨11, _⟩ => ⟨S1x128, .f32⟩
  | .local _ .vmem, ⟨12, _⟩ => ⟨S1024x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem1_0 : DmaSem sig := 10
abbrev cc2_sem2_0 : DmaSem sig := 11
abbrev cc2_sem3_0 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S2048x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]
-- ==== MemKVReferenceIdeal.lean ====
abbrev S4x256x2048 : Shape := ⟨3, ![4, 256, 2048]⟩
abbrev S2048 : Shape := ⟨1, ![2048]⟩
abbrev S2048x512 : Shape := ⟨2, ![2048, 512]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S1024x512 : Shape := ⟨2, ![1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S4x256x512, .f32⟩
  | .hbm, ⟨22, _⟩ => ⟨S4x256x4x128, .f32⟩
  | .hbm, ⟨23, _⟩ => ⟨S4x256x4x128, .f32⟩
  | .hbm, ⟨24, _⟩ => ⟨S_, .f32⟩
  | .hbm, ⟨25, _⟩ => ⟨S4x256x4, .f32⟩
  | .hbm, ⟨26, _⟩ => ⟨S4x256x4x1, .f32⟩
  | .hbm, ⟨27, _⟩ => ⟨S_, .f32⟩
  | .hbm, ⟨28, _⟩ => ⟨S4x256x4x1, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S4x256x4x1, .f32⟩
  | .hbm, ⟨34, _⟩ => ⟨S4x256x4x128, .f32⟩
  | .hbm, ⟨35, _⟩ => ⟨S4x256x4x128, .f32⟩
  | .hbm, ⟨36, _⟩ => ⟨S1x1x1x128, .f32⟩
  | .hbm, ⟨37, _⟩ => ⟨S4x256x4x128, .f32⟩
  | .hbm, ⟨38, _⟩ => ⟨S4x256x4x128, .f32⟩
  | .hbm, ⟨39, _⟩ => ⟨S4x256x512, .f32⟩
  | .hbm, ⟨40, _⟩ => ⟨S4x256x4x128, .f32⟩
  | .hbm, ⟨41, _⟩ => ⟨S1024x512, .f32⟩
  | .hbm, ⟨42, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== InProj.lean ====
abbrev S8192x2048 : Shape := ⟨2, ![8192, 2048]⟩
abbrev S2048x7184 : Shape := ⟨2, ![2048, 7184]⟩
abbrev S128 : Shape := ⟨1, ![128]⟩
abbrev S7184x2048 : Shape := ⟨2, ![7184, 2048]⟩
abbrev S_ : Shape := ⟨0, ![]⟩
abbrev S1024x2048 : Shape := ⟨2, ![1024, 2048]⟩
abbrev S16x2048 : Shape := ⟨2, ![16, 2048]⟩
abbrev S256x2048 : Shape := ⟨2, ![256, 2048]⟩
abbrev S1x128 : Shape := ⟨2, ![1, 128]⟩
abbrev S8192x1024 : Shape := ⟨2, ![8192, 1024]⟩
abbrev S8192x3072 : Shape := ⟨2, ![8192, 3072]⟩
abbrev S8192x256 : Shape := ⟨2, ![8192, 256]⟩
abbrev S2048x2048 : Shape := ⟨2, ![2048, 2048]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S4x2048x3072 : Shape := ⟨3, ![4, 2048, 3072]⟩
abbrev S4x3x3072 : Shape := ⟨3, ![4, 3, 3072]⟩

abbrev nBuf : Space → Nat
  | .hbm => 23
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x7184, .f32⟩
  | .hbm, ⟨2, _⟩ => ⟨S128, .f32⟩
  | .hbm, ⟨3, _⟩ => ⟨S128, .f32⟩
  | .hbm, ⟨4, _⟩ => ⟨S7184x2048, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S1024x2048, .f32⟩
  | .hbm, ⟨9, _⟩ => ⟨S16x2048, .f32⟩
  | .hbm, ⟨10, _⟩ => ⟨S_, .i32⟩
  | .hbm, ⟨11, _⟩ => ⟨S_, .f32⟩
  | .hbm, ⟨12, _⟩ => ⟨S256x2048, .f32⟩
  | .hbm, ⟨13, _⟩ => ⟨S1x128, .f32⟩
  | .hbm, ⟨14, _⟩ => ⟨S1x128, .f32⟩
  | .hbm, ⟨15, _⟩ => ⟨S8192x1024, .bf16⟩
  | .hbm, ⟨16, _⟩ => ⟨S8192x1024, .f32⟩
  | .hbm, ⟨17, _⟩ => ⟨S8192x1024, .f32⟩
  | .hbm, ⟨18, _⟩ => ⟨S8192x3072, .f32⟩
  | .hbm, ⟨19, _⟩ => ⟨S8192x1024, .f32⟩
  | .hbm, ⟨20, _⟩ => ⟨S8192x256, .f32⟩
  | .hbm, ⟨21, _⟩ => ⟨S4x2048x3072, .f32⟩
  | .hbm, ⟨22, _⟩ => ⟨S4x3x3072, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x128, .f32⟩
  | .local _ .vmem, ⟨8, _⟩ => ⟨S1x128, .f32⟩
  | .local _ .vmem, ⟨9, _⟩ => ⟨S2048x256, .bf16⟩
  | .local _ .vmem, ⟨10, _⟩ => ⟨S2048x256, .bf16⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 29], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c4_i32_1 : BitVec 32 := 4#32
  let v5 : BitVec 1 := Scalar.cmpi .sge arg1 c4_i32_1
  let c8_i32 : BitVec 32 := 8#32
  let v6 : BitVec 1 := Scalar.cmpi .slt arg1 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c8_i32_3 : BitVec 32 := 8#32
  let v10 : BitVec 1 := Scalar.cmpi .sge arg1 c8_i32_3
  let c12_i32 : BitVec 32 := 12#32
  let v11 : BitVec 1 := Scalar.cmpi .slt arg1 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c12_i32_5 : BitVec 32 := 12#32
  let v15 : BitVec 1 := Scalar.cmpi .sge arg1 c12_i32_5
  let c24_i32 : BitVec 32 := 24#32
  let v16 : BitVec 1 := Scalar.cmpi .slt arg1 c24_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c24_i32_7 : BitVec 32 := 24#32
  let v20 : BitVec 1 := Scalar.cmpi .sge arg1 c24_i32_7
  let c28_i32 : BitVec 32 := 28#32
  let v21 : BitVec 1 := Scalar.cmpi .slt arg1 c28_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c28_i32_9 : BitVec 32 := 28#32
  let v25 : BitVec 1 := Scalar.cmpi .sge arg1 c28_i32_9
  let c29_i32 : BitVec 32 := 29#32
  let v26 : BitVec 1 := Scalar.cmpi .slt arg1 c29_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg1 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.subi arg1 c28_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjReferenceIdeal.lean ====
abbrev S8192x2048 : Shape := ⟨2, ![8192, 2048]⟩
abbrev S2048x7184 : Shape := ⟨2, ![2048, 7184]⟩
abbrev S128 : Shape := ⟨1, ![128]⟩
abbrev S8192x7184 : Shape := ⟨2, ![8192, 7184]⟩
abbrev S8192x1024 : Shape := ⟨2, ![8192, 1024]⟩
abbrev S8192x3072 : Shape := ⟨2, ![8192, 3072]⟩
abbrev S8192x16 : Shape := ⟨2, ![8192, 16]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8192x256 : Shape := ⟨2, ![8192, 256]⟩
abbrev S4x3x3072 : Shape := ⟨3, ![4, 3, 3072]⟩
abbrev S4x2048x3072 : Shape := ⟨3, ![4, 2048, 3072]⟩
abbrev S4x2051x3072 : Shape := ⟨3, ![4, 2051, 3072]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7184, .f32⟩
  | .hbm, ⟨2, _⟩ => ⟨S128, .f32⟩
  | .hbm, ⟨3, _⟩ => ⟨S128, .f32⟩
  | .hbm, ⟨4, _⟩ => ⟨S8192x2048, .f32⟩
  | .hbm, ⟨5, _⟩ => ⟨S8192x7184, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3072, .f32⟩
  | .hbm, ⟨10, _⟩ => ⟨S8192x16, .f32⟩
  | .hbm, ⟨11, _⟩ => ⟨S8192x1024, .f32⟩
  | .hbm, ⟨12, _⟩ => ⟨S8192x8x128, .f32⟩
  | .hbm, ⟨13, _⟩ => ⟨S8192x8x128, .f32⟩
  | .hbm, ⟨14, _⟩ => ⟨S_, .f32⟩
  | .hbm, ⟨15, _⟩ => ⟨S8192x8, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x1, .f32⟩
  | .hbm, ⟨24, _⟩ => ⟨S8192x8x128, .f32⟩
  | .hbm, ⟨25, _⟩ => ⟨S8192x8x128, .f32⟩
  | .hbm, ⟨26, _⟩ => ⟨S1x1x128, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S_, .f32⟩
  | .hbm, ⟨35, _⟩ => ⟨S8192x8, .f32⟩
  | .hbm, ⟨36, _⟩ => ⟨S8192x8x1, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S_, .f32⟩
  | .hbm, ⟨41, _⟩ => ⟨S8192x8x1, .f32⟩
  | .hbm, ⟨42, _⟩ => ⟨S8192x8x1, .f32⟩
  | .hbm, ⟨43, _⟩ => ⟨S8192x8x1, .f32⟩
  | .hbm, ⟨44, _⟩ => ⟨S8192x8x128, .f32⟩
  | .hbm, ⟨45, _⟩ => ⟨S8192x8x128, .f32⟩
  | .hbm, ⟨46, _⟩ => ⟨S1x1x128, .f32⟩
  | .hbm, ⟨47, _⟩ => ⟨S8192x8x128, .f32⟩
  | .hbm, ⟨48, _⟩ => ⟨S8192x8x128, .f32⟩
  | .hbm, ⟨49, _⟩ => ⟨S_, .i32⟩
  | .hbm, ⟨50, _⟩ => ⟨S_, .f32⟩
  | .hbm, ⟨51, _⟩ => ⟨S8192x256, .f32⟩
  | .hbm, ⟨52, _⟩ => ⟨S_, .f32⟩
  | .hbm, ⟨53, _⟩ => ⟨S4x3x3072, .f32⟩
  | .hbm, ⟨54, _⟩ => ⟨S4x2048x3072, .f32⟩
  | .hbm, ⟨55, _⟩ => ⟨S4x2051x3072, .f32⟩
  | .hbm, ⟨56, _⟩ => ⟨S8192x1024, .f32⟩
  | .hbm, ⟨57, _⟩ => ⟨S8192x1024, .bf16⟩
  | .hbm, ⟨58, _⟩ => ⟨S8192x1024, .f32⟩
  | .hbm, ⟨59, _⟩ => ⟨S4x3x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== FfnSample.lean ====
abbrev S512x2048 : Shape := ⟨2, ![512, 2048]⟩
abbrev S512x512 : Shape := ⟨2, ![512, 512]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S512x512, .f32⟩
  | .hbm, ⟨2, _⟩ => ⟨S512x2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S512x2048, .bf16⟩
  | .hbm, ⟨7, _⟩ => ⟨S1x2048, .f32⟩
  | .hbm, ⟨8, _⟩ => ⟨S512x2048, .f32⟩
  | .local _ .vmem, ⟨0, _⟩ => ⟨S512x2048, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== FfnSampleReferenceIdeal.lean ====
abbrev S512x2048 : Shape := ⟨2, ![512, 2048]⟩
abbrev S512x512 : Shape := ⟨2, ![512, 512]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x11264 : Shape := ⟨2, ![512, 11264]⟩
abbrev S512x5632 : Shape := ⟨2, ![512, 5632]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x512, .f32⟩
  | .hbm, ⟨2, _⟩ => ⟨S512x2048, .f32⟩
  | .hbm, ⟨3, _⟩ => ⟨S2048, .f32⟩
  | .hbm, ⟨4, _⟩ => ⟨S2048x11264, .f32⟩
  | .hbm, ⟨5, _⟩ => ⟨S5632x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S512x11264, .f32⟩
  | .hbm, ⟨25, _⟩ => ⟨S512x5632, .f32⟩
  | .hbm, ⟨26, _⟩ => ⟨S512x5632, .f32⟩
  | .hbm, ⟨27, _⟩ => ⟨S512x5632, .f32⟩
  | .hbm, ⟨28, _⟩ => ⟨S512x5632, .f32⟩
  | .hbm, ⟨29, _⟩ => ⟨S_, .f32⟩
  | .hbm, ⟨30, _⟩ => ⟨S512x5632, .f32⟩
  | .hbm, ⟨31, _⟩ => ⟨S512x5632, .f32⟩
  | .hbm, ⟨32, _⟩ => ⟨S_, .f32⟩
  | .hbm, ⟨33, _⟩ => ⟨S512x5632, .f32⟩
  | .hbm, ⟨34, _⟩ => ⟨S512x5632, .f32⟩
  | .hbm, ⟨35, _⟩ => ⟨S512x5632, .f32⟩
  | .hbm, ⟨36, _⟩ => ⟨S512x5632, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== InProjSample.lean ====
abbrev S512x2048 : Shape := ⟨2, ![512, 2048]⟩
abbrev S2048x7184 : Shape := ⟨2, ![2048, 7184]⟩
abbrev S128 : Shape := ⟨1, ![128]⟩
abbrev S128x3x3072 : Shape := ⟨3, ![128, 3, 3072]⟩
abbrev S7184x2048 : Shape := ⟨2, ![7184, 2048]⟩
abbrev S_ : Shape := ⟨0, ![]⟩
abbrev S1024x2048 : Shape := ⟨2, ![1024, 2048]⟩
abbrev S16x2048 : Shape := ⟨2, ![16, 2048]⟩
abbrev S1x128 : Shape := ⟨2, ![1, 128]⟩
abbrev S512x1024 : Shape := ⟨2, ![512, 1024]⟩
abbrev S512x3072 : Shape := ⟨2, ![512, 3072]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x4x3072 : Shape := ⟨3, ![128, 4, 3072]⟩

abbrev nBuf : Space → Nat
  | .hbm => 24
  | .vmem => 20
  | .smem => 0
  | _ => 0

abbrev bufTy : (tb : Table) → Fin (tcTables nBuf tb) → BufTy
  | .hbm, ⟨0, _⟩ => ⟨S512x2048, .bf16⟩
  | .hbm, ⟨1, _⟩ => ⟨S2048x7184, .f32⟩
  | .hbm, ⟨2, _⟩ => ⟨S128, .f32⟩
  | .hbm, ⟨3, _⟩ => ⟨S128, .f32⟩
  | .hbm, ⟨4, _⟩ => ⟨S128x3x3072, .f32⟩
  | .hbm, ⟨5, _⟩ => ⟨S7184x2048, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1024x2048, .f32⟩
  | .hbm, ⟨10, _⟩ => ⟨S16x2048, .f32⟩
  | .hbm, ⟨11, _⟩ => ⟨S_, .i32⟩
  | .hbm, ⟨12, _⟩ => ⟨S_, .f32⟩
  | .hbm, ⟨13, _⟩ => ⟨S512x2048, .f32⟩
  | .hbm, ⟨14, _⟩ => ⟨S1x128, .f32⟩
  | .hbm, ⟨15, _⟩ => ⟨S1x128, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x3072, .f32⟩
  | .hbm, ⟨20, _⟩ => ⟨S512x1024, .f32⟩
  | .hbm, ⟨21, _⟩ => ⟨S512x512, .f32⟩
  | .hbm, ⟨22, _⟩ => ⟨S128x4x3072, .f32⟩
  | .hbm, ⟨23, _⟩ => ⟨S128x3x3072, .f32⟩
  | .local _ .vmem, ⟨0, _⟩ => ⟨S512x2048, .bf16⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x128, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 15], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c12_i32 : BitVec 32 := 12#32
  let v16 : BitVec 1 := Scalar.cmpi .slt arg1 c12_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c12_i32_7 : BitVec 32 := 12#32
  let v20 : BitVec 1 := Scalar.cmpi .sge arg1 c12_i32_7
  let c14_i32 : BitVec 32 := 14#32
  let v21 : BitVec 1 := Scalar.cmpi .slt arg1 c14_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c14_i32_9 : BitVec 32 := 14#32
  let v25 : BitVec 1 := Scalar.cmpi .sge arg1 c14_i32_9
  let c15_i32 : BitVec 32 := 15#32
  let v26 : BitVec 1 := Scalar.cmpi .slt arg1 c15_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjSampleReferenceIdeal.lean ====
abbrev S512x2048 : Shape := ⟨2, ![512, 2048]⟩
abbrev S2048x7184 : Shape := ⟨2, ![2048, 7184]⟩
abbrev S128 : Shape := ⟨1, ![128]⟩
abbrev S128x3x3072 : Shape := ⟨3, ![128, 3, 3072]⟩
abbrev S512x7184 : Shape := ⟨2, ![512, 7184]⟩
abbrev S512x1024 : Shape := ⟨2, ![512, 1024]⟩
abbrev S512x3072 : Shape := ⟨2, ![512, 3072]⟩
abbrev S512x16 : Shape := ⟨2, ![512, 16]⟩
abbrev S512x8x128 : Shape := ⟨3, ![512, 8, 128]⟩
abbrev S_ : Shape := ⟨0, ![]⟩
abbrev S512x8 : Shape := ⟨2, ![512, 8]⟩
abbrev S512x8x1 : Shape := ⟨3, ![512, 8, 1]⟩
abbrev S1x1x128 : Shape := ⟨3, ![1, 1, 128]⟩
abbrev S512x512 : Shape := ⟨2, ![512, 512]⟩
abbrev S128x4x3072 : Shape := ⟨3, ![128, 4, 3072]⟩
abbrev S128x7x3072 : Shape := ⟨3, ![128, 7, 3072]⟩

abbrev nBuf : Space → Nat
  | .hbm => 58
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x7184, .f32⟩
  | .hbm, ⟨2, _⟩ => ⟨S128, .f32⟩
  | .hbm, ⟨3, _⟩ => ⟨S128, .f32⟩
  | .hbm, ⟨4, _⟩ => ⟨S128x3x3072, .f32⟩
  | .hbm, ⟨5, _⟩ => ⟨S512x2048, .f32⟩
  | .hbm, ⟨6, _⟩ => ⟨S512x7184, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x3072, .f32⟩
  | .hbm, ⟨11, _⟩ => ⟨S512x16, .f32⟩
  | .hbm, ⟨12, _⟩ => ⟨S512x1024, .f32⟩
  | .hbm, ⟨13, _⟩ => ⟨S512x8x128, .f32⟩
  | .hbm, ⟨14, _⟩ => ⟨S512x8x128, .f32⟩
  | .hbm, ⟨15, _⟩ => ⟨S_, .f32⟩
  | .hbm, ⟨16, _⟩ => ⟨S512x8, .f32⟩
  | .hbm, ⟨17, _⟩ => ⟨S512x8x1, .f32⟩
  | .hbm, ⟨18, _⟩ => ⟨S_, .f32⟩
  | .hbm, ⟨19, _⟩ => ⟨S512x8x1, .f32⟩
  | .hbm, ⟨20, _⟩ => ⟨S512x8x1, .f32⟩
  | .hbm, ⟨21, _⟩ => ⟨S_, .f32⟩
  | .hbm, ⟨22, _⟩ => ⟨S512x8x1, .f32⟩
  | .hbm, ⟨23, _⟩ => ⟨S512x8x1, .f32⟩
  | .hbm, ⟨24, _⟩ => ⟨S512x8x1, .f32⟩
  | .hbm, ⟨25, _⟩ => ⟨S512x8x128, .f32⟩
  | .hbm, ⟨26, _⟩ => ⟨S512x8x128, .f32⟩
  | .hbm, ⟨27, _⟩ => ⟨S1x1x128, .f32⟩
  | .hbm, ⟨28, _⟩ => ⟨S512x8x128, .f32⟩
  | .hbm, ⟨29, _⟩ => ⟨S512x8x128, .f32⟩
  | .hbm, ⟨30, _⟩ => ⟨S_, .f32⟩
  | .hbm, ⟨31, _⟩ => ⟨S512x8x128, .f32⟩
  | .hbm, ⟨32, _⟩ => ⟨S512x8x128, .f32⟩
  | .hbm, ⟨33, _⟩ => ⟨S512x8x128, .f32⟩
  | .hbm, ⟨34, _⟩ => ⟨S512x8x128, .f32⟩
  | .hbm, ⟨35, _⟩ => ⟨S_, .f32⟩
  | .hbm, ⟨36, _⟩ => ⟨S512x8, .f32⟩
  | .hbm, ⟨37, _⟩ => ⟨S512x8x1, .f32⟩
  | .hbm, ⟨38, _⟩ => ⟨S_, .f32⟩
  | .hbm, ⟨39, _⟩ => ⟨S512x8x1, .f32⟩
  | .hbm, ⟨40, _⟩ => ⟨S512x8x1, .f32⟩
  | .hbm, ⟨41, _⟩ => ⟨S_, .f32⟩
  | .hbm, ⟨42, _⟩ => ⟨S512x8x1, .f32⟩
  | .hbm, ⟨43, _⟩ => ⟨S512x8x1, .f32⟩
  | .hbm, ⟨44, _⟩ => ⟨S512x8x1, .f32⟩
  | .hbm, ⟨45, _⟩ => ⟨S512x8x128, .f32⟩
  | .hbm, ⟨46, _⟩ => ⟨S512x8x128, .f32⟩
  | .hbm, ⟨47, _⟩ => ⟨S1x1x128, .f32⟩
  | .hbm, ⟨48, _⟩ => ⟨S512x8x128, .f32⟩
  | .hbm, ⟨49, _⟩ => ⟨S512x8x128, .f32⟩
  | .hbm, ⟨50, _⟩ => ⟨S_, .i32⟩
  | .hbm, ⟨51, _⟩ => ⟨S_, .f32⟩
  | .hbm, ⟨52, _⟩ => ⟨S512x512, .f32⟩
  | .hbm, ⟨53, _⟩ => ⟨S128x4x3072, .f32⟩
  | .hbm, ⟨54, _⟩ => ⟨S128x7x3072, .f32⟩
  | .hbm, ⟨55, _⟩ => ⟨S512x1024, .f32⟩
  | .hbm, ⟨56, _⟩ => ⟨S512x1024, .f32⟩
  | .hbm, ⟨57, _⟩ => ⟨S128x3x3072, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Ffn.Steps.lean ====
module

public import Idealize.ShloMosaic.Lib.Pointwise

@[expose] public section

noncomputable section

open Idealize.ShloMosaic

namespace Cert.FfnSteps

variable {a b n : ℕ} (h : a * b = n) (g : Fin n → EReal)

theorem lt_of_parts {u f : ℕ} (hn : a * b = n) (hu : u < a) (hf : f < b) : b * u + f < n := by
  have e : b * (u + 1) ≤ b * a := Nat.mul_le_mul_left b hu
  rw [Nat.mul_succ, Nat.mul_comm b a, hn] at e
  omega

/-- What the `b` terms of step `u` of `a` steps contribute to a sum of `a * b` terms. -/
def part (u : ℕ) : EReal :=
  if hu : u < a then ∑ f : Fin b, g ⟨b * u + f.val, lt_of_parts h hu f.isLt⟩ else 0

/-- A sum is the sum of what the steps contribute. -/
theorem sum_parts : ∑ i, g i = ∑ u ∈ Finset.range a, part h g u := by
  subst h
  rw [Finset.sum_range]
  refine (Fin.sum_univ_tiles a b rfl _).trans (Finset.sum_congr rfl fun u _ => ?_)
  unfold part
  rw [dif_pos u.isLt]
  refine Finset.sum_congr rfl fun f _ => congrArg g (Fin.ext ?_)
  show u.val * b + f.val = b * u.val + f.val
  rw [Nat.mul_comm]

/-- One more step: the contributions up to a step that isn't a row block's first are those up to the step before it and
    its own. -/
theorem sum_step (v : EReal) (p : ℕ → EReal) {c k : ℕ} (hk : ¬(k + 1) % c = 0) :
    v + ∑ u ∈ Finset.range (k % c + 1), p u + p ((k + 1) % c) = v + ∑ u ∈ Finset.range ((k + 1) % c + 1), p u := by
  have e : (k + 1) % c = k % c + 1 := by
    rw [Nat.add_mod_eq_add_mod_right 1 (Nat.mod_mod k c).symm] at hk ⊢
    rcases Nat.eq_zero_or_pos c with rfl | hc
    · simp
    · have hl := Nat.mod_lt k hc
      rcases Nat.lt_or_ge (k % c + 1) c with h' | h'
      · exact Nat.mod_eq_of_lt h'
      · exact absurd (by rw [show k % c + 1 = c by omega, Nat.mod_self]) hk
  rw [e, add_assoc, Finset.sum_range_succ _ (k % c + 1)]

/-- What holds after the first step of every row block, and after a later step if it holds after the step before it, holds
    after every step. -/
theorem walk {c N : ℕ} (P : (k : ℕ) → k < N → Prop) (first : ∀ k hk, k % c = 0 → P k hk)
    (later : ∀ k (hk : k + 1 < N), ¬(k + 1) % c = 0 → P k (Nat.lt_of_succ_lt hk) → P (k + 1) hk) : ∀ k hk, P k hk
  | 0, hk => first 0 hk (Nat.zero_mod c)
  | k + 1, hk => by
    by_cases h0 : (k + 1) % c = 0
    · exact first (k + 1) hk h0
    · exact later k hk h0 (walk P first later k _)

end Cert.FfnSteps

end
-- ==== Proof.Ffn.Pure.lean ====
module

public import proofs.«01_k».proof.Proof.Gen.FfnIdeal.Value
public import proofs.«01_k».proof.Proof.Gen.FfnReferenceIdeal.Read
public import Idealize.ShloMosaic.Lib.Pointwise

@[expose] public section

set_option maxRecDepth 16384

noncomputable section

open Idealize.ShloMosaic Idealize.ShloMosaic.TcCoe Idealize.SL.Sem

namespace Cert.FfnIdeal.Pure

open Cert.FfnIdeal

variable (x0 : Vec Ideal S8192x2048 .f32) (x1 : Vec Ideal S8192x512 .bf16) (x2 : Vec Ideal S512x2048 .f32)
  (x3 : Vec Ideal S2048 .f32) (x4 : Vec Ideal S2048x11264 .f32) (x5 : Vec Ideal S5632x2048 .f32)
  (R : Fin 1024 → Fin 8192)
  (b0 : Vec Ideal S1024x2048 .f32) (b1 : Vec Ideal S1024x512 .bf16) (b2 : Vec Ideal S512x2048 .bf16)
  (b3 : Vec Ideal S1x2048 .f32)

open Cert.FfnReferenceIdeal.Read in
/-- The block the first step forms, the residual stream plus the projected attention output, is the reference's
    stream at the block's rows. -/
theorem pay1_eq
    (h0 : ∀ (r : Fin 1024) (k : Fin 2048), b0 (ix2 r k : S1024x2048.Idx) = x0 (ix2 (R r) k : S8192x2048.Idx))
    (h1 : ∀ (r : Fin 1024) (q : Fin 512), b1 (ix2 r q : S1024x512.Idx) = x1 (ix2 (R r) q : S8192x512.Idx))
    (h2 : ∀ (q : Fin 512) (k : Fin 2048), b2 (ix2 q k : S512x2048.Idx) = x2 (ix2 q k : S512x2048.Idx))
    (r : Fin 1024) (k : Fin 2048) :
    Gen.k0_pay1 b0 b1 b2 (ix2 r k : S1024x2048.Idx) = val_main_v2 (F := Ideal) x0 x1 x2 (ix2 (R r) k : S8192x2048.Idx) := by
  pointwise! [Gen.k0_pay1, val_main_v2, val_main_v1, val_main_v0, h0, h1, h2]

open Cert.FfnReferenceIdeal.Read in
/-- The block kept in scratch, the normalised stream, is the reference's normalised stream at the block's rows. -/
theorem pay2_eq
    (h0 : ∀ (r : Fin 1024) (k : Fin 2048), b0 (ix2 r k : S1024x2048.Idx) = x0 (ix2 (R r) k : S8192x2048.Idx))
    (h1 : ∀ (r : Fin 1024) (q : Fin 512), b1 (ix2 r q : S1024x512.Idx) = x1 (ix2 (R r) q : S8192x512.Idx))
    (h2 : ∀ (q : Fin 512) (k : Fin 2048), b2 (ix2 q k : S512x2048.Idx) = x2 (ix2 q k : S512x2048.Idx))
    (h3 : ∀ (k : Fin 2048), b3 (ix2 0 k : S1x2048.Idx) = x3 (ix1 k : S2048.Idx))
    (r : Fin 1024) (k : Fin 2048) :
    Gen.k0_pay2 b0 b1 b2 b3 (ix2 r k : S1024x2048.Idx) = val_main_v15 (F := Ideal) x0 x1 x2 x3 (ix2 (R r) k : S8192x2048.Idx) := by
  have e := pay1_eq x0 x1 x2 R b0 b1 b2 h0 h1 h2
  pointwise! [Gen.k0_pay2, e, h3, val_main_v15, val_main_v14, val_main_v13, val_main_v12, val_main_v11, val_main_v10,
    val_main_v9, val_main_v8, val_main_v7, val_main_v6, val_main_v5, val_main_v4, val_main_v3, val_main_cst, val_main_cst_0, val_main_cst_1]

open Cert.FfnReferenceIdeal.Read in
/-- One step adds to the accumulator the contribution of its 256 hidden units: the reference's gated activations
    of these units times their rows of the down projection. -/
theorem pay3_eq (u : ℕ) (hu : u < 22)
    (s : Vec Ideal S1024x2048 .bf16) (b4 b5 : Vec Ideal S2048x256 .f32) (b6 : Vec Ideal S256x2048 .f32)
    (acc : Vec Ideal S1024x2048 .f32)
    (hs : ∀ (r : Fin 1024) (k : Fin 2048), s (ix2 r k : S1024x2048.Idx) = val_main_v15 (F := Ideal) x0 x1 x2 x3 (ix2 (R r) k : S8192x2048.Idx))
    (h4 : ∀ (k : Fin 2048) (f : Fin 256), b4 (ix2 k f : S2048x256.Idx) = x4 (ix2 k (⟨256 * u + f.val, by omega⟩ : Fin 11264) : S2048x11264.Idx))
    (h5 : ∀ (k : Fin 2048) (f : Fin 256), b5 (ix2 k f : S2048x256.Idx) = x4 (ix2 k (⟨5632 + (256 * u + f.val), by omega⟩ : Fin 11264) : S2048x11264.Idx))
    (h6 : ∀ (f : Fin 256) (k : Fin 2048), b6 (ix2 f k : S256x2048.Idx) = x5 (ix2 (⟨256 * u + f.val, by omega⟩ : Fin 5632) k : S5632x2048.Idx))
    (r : Fin 1024) (k : Fin 2048) :
    Gen.k0_pay3 s b4 b5 acc b6 (ix2 r k : S1024x2048.Idx) = acc (ix2 r k : S1024x2048.Idx) +
      ∑ f : Fin 256, val_main_v20 (F := Ideal) x0 x1 x2 x3 x4 (ix2 (R r) (⟨256 * u + f.val, by omega⟩ : Fin 5632) : Cert.FfnReferenceIdeal.S8192x5632.Idx)
        * x5 (ix2 (⟨256 * u + f.val, by omega⟩ : Fin 5632) k : S5632x2048.Idx) := by
  pointwise! [Gen.k0_pay3, hs, h4, h5, h6, val_main_v20, val_main_v19, val_main_v18, val_main_v17, val_main_v16,
    val_main_call0_v5, val_main_call0_v4, val_main_call0_v3, val_main_call0_v2, val_main_call0_v1, val_main_call0_v0,
    val_main_call0_cst, val_main_call0_cst_0]

end Cert.FfnIdeal.Pure

end
-- ==== Proof.Ffn.Blocks.lean ====
module

public import proofs.«01_k».proof.Proof.Gen.FfnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Blocks

open Cert.FfnIdeal Cert.FfnIdeal.Gen

variable (m : (ℓ : Loc nD τ sig) → Buf (Elt Ideal) ℓ)

/-- The block every window reads or writes at a grid point: the row blocks follow the outer coordinate, the hidden
    units follow the inner one. -/
theorem idx : ∀ t : Fin cfg0.N,
    win0_0.index t (0 : Fin 2) = t.val / 22 ∧ win0_0.index t (1 : Fin 2) = 0
    ∧ win0_1.index t (0 : Fin 2) = t.val / 22 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 22
    ∧ win0_5.index t (0 : Fin 2) = 0 ∧ win0_5.index t (1 : Fin 2) = 22 + t.val % 22
    ∧ win0_6.index t (0 : Fin 2) = t.val % 22 ∧ win0_6.index t (1 : Fin 2) = 0 :=
  (by decide +kernel : ∀ t : Fin grid0.N, _)

theorem hz : (![0, 0] : Fin 2 → Nat) = fun _ => 0 := funext fun a => by fin_cases a <;> rfl

section Terms

variable (c : Dev nD) (t : Fin cfg0.N)
  (x0 : Vec Ideal S1024x2048 .f32) (x1 : Vec Ideal S1024x512 .bf16) (x2 : Vec Ideal S512x2048 .bf16)
  (x3 : Vec Ideal S1x2048 .f32) (x4 x5 : Vec Ideal S2048x256 .f32) (x6 : Vec Ideal S256x2048 .f32)
  (xo : Vec Ideal S1024x2048 .f32) (xs : Vec Ideal S1024x2048 .bf16)

/-- What the first step of a row block leaves in the output block: one step's update of the stream block. -/
theorem out_A (hc : cond0_0 (grid0.coords t)) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6
      = k0_pay3 (k0_pay2 x0 x1 x2 x3) x4 x5 (k0_pay1 x0 x1 x2) x6 := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6)]
  unfold kernelRun0_A
  dsimp only
  sl_unfold_words
  simp only [View.canon_cons_unit_zero (S := S1024x2048) hz, View.readCov_unit_zero (S := S1024x2048) _ hz, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x2048) hz, View.ld_unit_zero (S := S1024x512) hz, View.ld_unit_zero (S := S512x2048) hz, View.ld_unit_zero (S := S1x2048) hz, View.ld_unit_zero (S := S2048x256) hz, View.ld_unit_zero (S := S256x2048) hz, shapeCast_self]

/-- What the first step of a row block leaves in scratch: the normalised stream block. -/
theorem sout_A (hc : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6
      = k0_pay2 x0 x1 x2 x3 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6)]
  unfold kernelRun0_A
  dsimp only
  sl_unfold_words
  simp only [View.canon_cons_unit_zero (S := S1024x2048) hz, View.canon_unit_zero (S := S1024x2048) hz, View.readCov_unit_zero (S := S1024x2048) _ hz, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x2048) hz, View.ld_unit_zero (S := S1024x512) hz, View.ld_unit_zero (S := S512x2048) hz, View.ld_unit_zero (S := S1x2048) hz, View.ld_unit_zero (S := S2048x256) hz, View.ld_unit_zero (S := S256x2048) hz, shapeCast_self]

/-- What a later step leaves in the output block: one step's update of what the step before left. -/
theorem out_B (hc : ¬cond0_0 (grid0.coords t)) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6 xo xs
      = k0_pay3 xs x4 x5 xo x6 := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc x0 x1 x2 x3 x4 x5 x6 xo xs)]
  unfold kernelRun0_B
  dsimp only
  sl_unfold_words
  simp only [View.canon_cons_unit_zero (S := S1024x2048) hz, View.canon_unit_zero (S := S1024x2048) hz, View.readCov_unit_zero (S := S1024x2048) _ hz, View.readAt_eq_ld, (Memref.isWhole_whole _ : scM0_0.IsWhole).read_unread, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1024x2048) hz, View.ld_unit_zero (S := S1024x512) hz, View.ld_unit_zero (S := S512x2048) hz, View.ld_unit_zero (S := S1x2048) hz, View.ld_unit_zero (S := S2048x256) hz, View.ld_unit_zero (S := S256x2048) hz, shapeCast_self]

end Terms

section Reads

variable (c : Dev nD) (t : Fin cfg0.N)

/-- The global row of a row of a point's block. -/
abbrev row (t : Fin cfg0.N) (r : Fin 1024) : Fin 8192 :=
  ⟨1024 * (t.val / 22) + r.val, by have := lt_of_lt_of_eq t.isLt N_0; have := r.isLt; omega⟩

theorem blk0 (r : Fin 1024) (k : Fin 2048) :
    (iblk m c 0 t : Vec Ideal S1024x2048 .f32) (ix2 r k) = (m ((c : Thread nD τ).loc main_arg0) : Vec Ideal S8192x2048 .f32) (ix2 (row t r) k) := by
  blk_point [iblk, V, idx t]

theorem blk1 (r : Fin 1024) (q : Fin 512) :
    (iblk m c 1 t : Vec Ideal S1024x512 .bf16) (ix2 r q) = (m ((c : Thread nD τ).loc main_arg1) : Vec Ideal S8192x512 .bf16) (ix2 (row t r) q) := by
  blk_point [iblk, V, idx t]

theorem blk2 (q : Fin 512) (k : Fin 2048) :
    (iblk m c 2 t : Vec Ideal S512x2048 .bf16) (ix2 q k) = (m ((c : Thread nD τ).loc main_arg2) : Vec Ideal S512x2048 .f32) (ix2 q k) := by
  blk_point [iblk, V, idx t]

theorem blk3 (k : Fin 2048) :
    (iblk m c 3 t : Vec Ideal S1x2048 .f32) (ix2 0 k) = (m ((c : Thread nD τ).loc main_arg3) : Vec Ideal S2048 .f32) (ix1 k) := by
  blk_point [iblk, V, idx t]

theorem blk4 (k : Fin 2048) (f : Fin 256) :
    (iblk m c 4 t : Vec Ideal S2048x256 .f32) (ix2 k f) = (m ((c : Thread nD τ).loc main_arg4) : Vec Ideal S2048x11264 .f32) (ix2 k ⟨256 * (t.val % 22) + f.val, by omega⟩) := by
  blk_point [iblk, V, idx t]

theorem blk5 (k : Fin 2048) (f : Fin 256) :
    (iblk m c 5 t : Vec Ideal S2048x256 .f32) (ix2 k f) = (m ((c : Thread nD τ).loc main_arg4) : Vec Ideal S2048x11264 .f32) (ix2 k ⟨5632 + (256 * (t.val % 22) + f.val), by omega⟩) := by
  blk_point [iblk, V, idx t]

theorem blk6 (f : Fin 256) (k : Fin 2048) :
    (iblk m c 6 t : Vec Ideal S256x2048 .f32) (ix2 f k) = (m ((c : Thread nD τ).loc main_arg5) : Vec Ideal S5632x2048 .f32) (ix2 ⟨256 * (t.val % 22) + f.val, by omega⟩ k) := by
  blk_point [iblk, V, idx t]

end Reads

end Cert.FfnIdeal.Blocks

end
-- ==== Proof.Ffn.Value.lean ====
module

public import proofs.«01_k».proof.Proof.Ffn.Steps
public import proofs.«01_k».proof.Proof.Ffn.Pure
public import proofs.«01_k».proof.Proof.Ffn.Blocks

@[expose] public section

set_option maxRecDepth 16384

noncomputable section

open Idealize.ShloMosaic Idealize.ShloMosaic.TcCoe Idealize.SL.Sem

namespace Cert.FfnIdeal.Layer

open Cert.FfnIdeal Cert.FfnIdeal.Gen Cert.FfnIdeal.Blocks

variable (m : (ℓ : Loc nD τ sig) → Buf (Elt Ideal) ℓ)

/-- The reference's stream after the attention's output projection, of the arguments the run starts with. -/
abbrev strm (c : Dev nD) : Vec Ideal S8192x2048 .f32 :=
  Cert.FfnReferenceIdeal.Read.val_main_v2 (F := Ideal) (m ((c : Thread nD τ).loc main_arg0)) (m ((c : Thread nD τ).loc main_arg1))
    (m ((c : Thread nD τ).loc main_arg2))

/-- The reference's normalised stream. -/
abbrev norm (c : Dev nD) : Vec Ideal S8192x2048 .f32 :=
  Cert.FfnReferenceIdeal.Read.val_main_v15 (F := Ideal) (m ((c : Thread nD τ).loc main_arg0)) (m ((c : Thread nD τ).loc main_arg1))
    (m ((c : Thread nD τ).loc main_arg2)) (m ((c : Thread nD τ).loc main_arg3))

/-- The reference's gated activations. -/
abbrev act (c : Dev nD) : Vec Ideal Cert.FfnReferenceIdeal.S8192x5632 .f32 :=
  Cert.FfnReferenceIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's result. -/
abbrev ref (c : Dev nD) : Vec Ideal S8192x2048 .f32 :=
  Cert.FfnReferenceIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The contribution of a hidden unit to a result's element. -/
abbrev term (c : Dev nD) (R : Fin 8192) (k : Fin 2048) (f : Fin 5632) : EReal :=
  act m c (ix2 R f) * (m ((c : Thread nD τ).loc main_arg5) : Vec Ideal S5632x2048 .f32) (ix2 f k)

/-- The contribution of 256 hidden units, those of inner step `u`, to a result's element. -/
abbrev part (c : Dev nD) (R : Fin 8192) (k : Fin 2048) (u : ℕ) : EReal :=
  FfnSteps.part (a := 22) (b := 256) rfl (term m c R k) u

theorem row_succ (n : ℕ) (hn : n + 1 < cfg0.N) (h0 : ¬(n + 1) % 22 = 0) (r : Fin 1024) :
    row ⟨n + 1, hn⟩ r = row ⟨n, Nat.lt_of_succ_lt hn⟩ r := by
  apply Fin.ext
  show 1024 * ((n + 1) / 22) + r.val = 1024 * (n / 22) + r.val
  omega

/-- One step at a grid point, over whatever normalised block it reads. -/
theorem step (c : Dev nD) (t : Fin cfg0.N) (s : Vec Ideal S1024x2048 .bf16) (acc : Vec Ideal S1024x2048 .f32)
    (hs : ∀ (r : Fin 1024) (k : Fin 2048), s (ix2 r k) = norm m c (ix2 (row t r) k)) (r : Fin 1024) (k : Fin 2048) :
    k0_pay3 s (iblk m c 4 t) (iblk m c 5 t) acc (iblk m c 6 t) (ix2 r k)
      = acc (ix2 r k) + part m c (row t r) k (t.val % 22) := by
  have hu : t.val % 22 < 22 := Nat.mod_lt _ (by decide)
  unfold part FfnSteps.part
  rw [dif_pos hu]
  exact Pure.pay3_eq _ _ _ _ _ _ (row t) (t.val % 22) hu s _ _ _ acc hs (blk4 m c t) (blk5 m c t) (blk6 m c t) r k

/-- What the first step of a row block leaves, in the output block and in scratch. -/
theorem outs_first (c : Dev nD) (t : Fin cfg0.N) (h0 : t.val % 22 = 0) :
    outsAt0 m c t.val t.isLt = (k0_pay3 (k0_pay2 (iblk m c 0 t) (iblk m c 1 t) (iblk m c 2 t) (iblk m c 3 t)) (iblk m c 4 t) (iblk m c 5 t)
      (k0_pay1 (iblk m c 0 t) (iblk m c 1 t) (iblk m c 2 t)) (iblk m c 6 t), k0_pay2 (iblk m c 0 t) (iblk m c 1 t) (iblk m c 2 t) (iblk m c 3 t)) := by
  rw [outsAt0_A m c t h0, out_A, sout_A]

/-- What a later step leaves, over what the step before left. -/
theorem outs_later (c : Dev nD) (n : ℕ) (hn : n + 1 < cfg0.N) (h0 : ¬(n + 1) % 22 = 0) :
    outsAt0 m c (n + 1) hn = (k0_pay3 (outsAt0 m c n (Nat.lt_of_succ_lt hn)).2 (iblk m c 4 ⟨n + 1, hn⟩) (iblk m c 5 ⟨n + 1, hn⟩)
      (outsAt0 m c n (Nat.lt_of_succ_lt hn)).1 (iblk m c 6 ⟨n + 1, hn⟩), (outsAt0 m c n (Nat.lt_of_succ_lt hn)).2) := by
  have e := outsAt0_B m c ⟨n + 1, hn⟩ h0
  rw [out_B] at e
  unfold sout0_B_0 at e
  exact e

/-- What the accumulation claims of the contents after a point: the scratch holds the normalised stream of the point's
    rows, the output block the stream plus the contributions of the hidden units of the steps so far. -/
def Holds (c : Dev nD) (t : Fin cfg0.N) (p : Vec Ideal S1024x2048 .f32 × Vec Ideal S1024x2048 .bf16) : Prop :=
  (∀ (r : Fin 1024) (k : Fin 2048), p.2 (ix2 r k) = norm m c (ix2 (row t r) k))
    ∧ ∀ (r : Fin 1024) (k : Fin 2048), p.1 (ix2 r k)
        = strm m c (ix2 (row t r) k) + ∑ u ∈ Finset.range (t.val % 22 + 1), part m c (row t r) k u

theorem holds_first (c : Dev nD) (t : Fin cfg0.N) (h0 : t.val % 22 = 0) : Holds m c t (outsAt0 m c t.val t.isLt) := by
  rw [outs_first m c t h0]
  have hs := Pure.pay2_eq _ _ _ (m ((c : Thread nD τ).loc main_arg3)) (row t) (iblk m c 0 t) (iblk m c 1 t) (iblk m c 2 t) (iblk m c 3 t)
    (blk0 m c t) (blk1 m c t) (blk2 m c t) (blk3 m c t)
  refine ⟨hs, fun r k => ?_⟩
  refine (step m c t _ _ hs r k).trans ?_
  rw [Pure.pay1_eq _ _ _ (row t) (iblk m c 0 t) (iblk m c 1 t) (iblk m c 2 t) (blk0 m c t) (blk1 m c t) (blk2 m c t), h0,
    Nat.zero_add, Finset.sum_range_one]

theorem holds_later (c : Dev nD) (n : ℕ) (hn : n + 1 < cfg0.N) (h0 : ¬(n + 1) % 22 = 0)
    (ih : Holds m c ⟨n, Nat.lt_of_succ_lt hn⟩ (outsAt0 m c n (Nat.lt_of_succ_lt hn))) :
    Holds m c ⟨n + 1, hn⟩ (outsAt0 m c (n + 1) hn) := by
  rw [outs_later m c n hn h0]
  generalize outsAt0 m c n (Nat.lt_of_succ_lt hn) = p at ih
  obtain ⟨i1, i2⟩ := ih
  have hs : ∀ (r : Fin 1024) (k : Fin 2048), p.2 (ix2 r k) = norm m c (ix2 (row ⟨n + 1, hn⟩ r) k) := by
    intro r k; rw [i1, row_succ n hn h0]
  refine ⟨hs, fun r k => ?_⟩
  refine (step m c ⟨n + 1, hn⟩ _ _ hs r k).trans ?_
  rw [i2, row_succ n hn h0]
  exact FfnSteps.sum_step _ _ h0

/-- THE ACCUMULATION, at every grid point. -/
theorem outs_eq (c : Dev nD) : ∀ (n : ℕ) (hn : n < cfg0.N), Holds m c ⟨n, hn⟩ (outsAt0 m c n hn) :=
  FfnSteps.walk _ (fun n hn => holds_first m c ⟨n, hn⟩) (holds_later m c)

/-- The reference's result is the stream plus the contributions of all 22 steps. -/
theorem ref_eq (c : Dev nD) (R : Fin 8192) (k : Fin 2048) :
    ref m c (ix2 R k) = strm m c (ix2 R k) + ∑ u ∈ Finset.range 22, part m c R k u := by
  unfold ref
  rw [Cert.FfnReferenceIdeal.Read.val_main_v22_apply, Cert.FfnReferenceIdeal.Read.val_main_v21_apply]
  refine congrArg (strm m c (ix2 R k) + ·) ((Finset.sum_congr rfl fun f _ => ?_).trans (FfnSteps.sum_parts (a := 22) (b := 256) rfl (term m c R k)))
  exact congrArg₂ (· * ·) (congrArg (act m c) (funext fun a => by fin_cases a <;> rfl)) (congrArg _ (funext fun a => by fin_cases a <;> rfl))

/-- The array the kernel leaves is the reference's result. -/
theorem final (c : Dev nD) : Value.G7 m c = ref m c := by
  funext i
  idx_vars i
  have hN : cfg0.N = 176 := N_0
  have hp : Value.pt7Of (ix2 i0 i1) = 22 * (i0.val / 1024) + 21 := by
    show 22 * (1 * (i0.val / 1024 - 0) + 1 * (i1.val / 2048 - 0)) + 21 = _
    have := i1.isLt; omega
  have hlt : Value.pt7Of (ix2 i0 i1) < cfg0.N := by rw [hp, hN]; have := i0.isLt; omega
  have hl : Value.loc7Of (ix2 i0 i1) = ix2 (⟨i0.val % 1024, Nat.mod_lt _ (by decide)⟩ : Fin 1024) i1 := by
    funext a; fin_cases a
    · rfl
    · exact Fin.ext (Nat.mod_eq_of_lt i1.isLt)
  unfold Value.G7
  rw [dif_pos hlt, ← Value.outsAt0_sweep m c _ hlt, hl, (outs_eq m c _ hlt).2, ref_eq]
  have hr : row ⟨Value.pt7Of (ix2 i0 i1), hlt⟩ ⟨i0.val % 1024, Nat.mod_lt _ (by decide)⟩ = i0 := by
    apply Fin.ext
    show 1024 * (Value.pt7Of (ix2 i0 i1) / 22) + i0.val % 1024 = i0.val
    rw [hp]; omega
  rw [hr, show Value.pt7Of (ix2 i0 i1) % 22 + 1 = 22 by rw [hp]; omega]

end Cert.FfnIdeal.Layer

end
-- ==== Proof.Sb.Step.lean ====
module

public import proofs.«01_k».proof.Proof.Gen.KernelIdeal.Value

@[expose] public section

set_option maxRecDepth 16384

noncomputable section

/-!
# One trip of the attention kernel, head by head

The kernel carries a running sum of logarithms and an accumulator for each of its eight heads. The definitions here say
what one block of keys does to the pair of one head, and the theorems say that the printed trip does exactly this to
each of the eight pairs.
-/

namespace Cert.KernelIdeal.Sb
open Cert.KernelIdeal Cert.KernelIdeal.Gen Idealize.ShloMosaic Idealize.ShloMosaic.TcCoe Idealize.SL.Sem
variable {F : FTy → Type} [FloatOps F]

/-- The columns of head `g` lie inside a block of keys or values. -/
theorem cols_slices (g : Fin 8) : S256x1024.Slices ![0, 128 * g.val] S256x128 := by
  revert g; decide

/-- The columns of head `g` of a block of keys or values. -/
def headCols (y : Vec F S1x256x1024 .f32) (g : Fin 8) : FVec F S256x128 .bf16 :=
  extractStridedSlice S256x128 ![0, 128 * g.val] (k0_pay7 y) (cols_slices g)

/-- The logits of one head against a block of keys. -/
def logits (q : FVec F S256x128 .bf16) (b : Elt F .f32) (y : Vec F S1x256x1024 .f32) (g : Fin 8) : FVec F S256x256 .f32 :=
  addf (matmul dot_S256x128_S256x128_S256x256_1_1_0_0_n_n none q (headCols y g) (constant S256x256 .f32 0x00000000#32))
    (broadcast S256x256 b)

/-- The softplus of a block of logits, as the kernel computes it. -/
def soft (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- Minus the sum of the later columns of the block, by the product with the stacked triangle. -/
def later (lv : FVec F S256x256 .f32) : FVec F S256x256 .f32 :=
  matmul dot_S256x512_S512x256_S256x256_1_0_0_1_n_n none
    (concatenate S256x512 1
      [⟨S256x256, truncf .bf16 lv bitsLt_bf16_f32⟩,
       ⟨S256x256, truncf .bf16 (subf lv (extf .f32 (truncf .bf16 lv bitsLt_bf16_f32) bitsLt_bf16_f32)) bitsLt_bf16_f32⟩]
      concatenates_S256x256_S256x256_S256x512_d1)
    k0_pay93 (constant S256x256 .f32 0x00000000#32)

/-- The running sum after a block. -/
def sumAfter (s : FVec F S256x1 .f32) (lv : FVec F S256x256 .f32) : FVec F S256x1 .f32 :=
  subf s (shapeCast S256x1 (multiReduction .add [1] S256 lv 0x00000000#32 reduces_S256x256_S256 (.inl rfl) rfl)
    shapeCasts_S256_S256x1)

/-- The weights of a block: the exponential of the logits' logarithms of leaving plus what is left after the later keys. -/
def weights (s : FVec F S256x1 .f32) (z lv : FVec F S256x256 .f32) : FVec F S256x256 .f32 :=
  exp (addf (addf (subf z (soft z)) (later lv)) (broadcastTo S256x256 s broadcasts_S256x1_S256x256))

/-- The accumulator after a block. -/
def accAfter (a : FVec F S256x128 .f32) (w : FVec F S256x256 .f32) (y : Vec F S1x256x1024 .f32) (g : Fin 8) :
    FVec F S256x128 .f32 :=
  addf a (matmul dot_S256x256_S256x128_S256x128_1_0_0_1_n_n none (truncf .bf16 w bitsLt_bf16_f32) (headCols y g)
    (constant S256x128 .f32 0x00000000#32))

/-- What a block below the diagonal does to the pair of head `g`. -/
def step (q : FVec F S256x128 .bf16) (b : Elt F .f32) (yk yv : Vec F S1x256x1024 .f32) (g : Fin 8)
    (p : FVec F S256x1 .f32 × FVec F S256x128 .f32) : FVec F S256x1 .f32 × FVec F S256x128 .f32 :=
  (sumAfter p.1 (soft (logits q b yk g)),
    accAfter p.2 (weights p.1 (logits q b yk g) (soft (logits q b yk g))) yv g)

/-- The leaves of the diagonal block: the softplus before the diagonal and zero from it on. -/
def leaves (z : FVec F S256x256 .f32) : FVec F S256x256 .f32 :=
  select k0_pay94 (soft z) (broadcast S256x256 (Scalar.ofBits .f32 0x00000000#32))

/-- The zero sum. -/
def zeroS : FVec F S256x1 .f32 := broadcast S256x1 (Scalar.ofBits .f32 0x00000000#32)

/-- The zero accumulator. -/
def zeroA : FVec F S256x128 .f32 := broadcast S256x128 (Scalar.ofBits .f32 0x00000000#32)

/-- What the block on the diagonal leaves in the pair of head `g`. -/
def first (q : FVec F S256x128 .bf16) (b : Elt F .f32) (yk yv : Vec F S1x256x1024 .f32) (g : Fin 8) :
    FVec F S256x1 .f32 × FVec F S256x128 .f32 :=
  (sumAfter zeroS (leaves (logits q b yk g)),
    accAfter zeroA (select k0_pay94 (weights zeroS (logits q b yk g) (leaves (logits q b yk g)))
      (broadcast S256x256 (Scalar.ofBits .f32 0x00000000#32))) yv g)

/-- The pairs of the eight heads as the loop carries them. -/
def pack (f : Fin 8 → FVec F S256x1 .f32 × FVec F S256x128 .f32) :
    FVec F S256x1 .f32 × FVec F S256x128 .f32 × FVec F S256x1 .f32 × FVec F S256x128 .f32 × FVec F S256x1 .f32 ×
    FVec F S256x128 .f32 × FVec F S256x1 .f32 × FVec F S256x128 .f32 × FVec F S256x1 .f32 × FVec F S256x128 .f32 ×
    FVec F S256x1 .f32 × FVec F S256x128 .f32 × FVec F S256x1 .f32 × FVec F S256x128 .f32 × FVec F S256x1 .f32 ×
    FVec F S256x128 .f32 :=
  ((f 0).1, (f 0).2, (f 1).1, (f 1).2, (f 2).1, (f 2).2, (f 3).1, (f 3).2, (f 4).1, (f 4).2, (f 5).1, (f 5).2,
    (f 6).1, (f 6).2, (f 7).1, (f 7).2)

/-- One trip of the loop over the blocks below the diagonal takes each head's pair one step. -/
theorem trip_eq (𝒱 : Variants) (c : Dev nD) (bd : Option 𝒱.V) (i : grid0.Coords) (arg3 : Memref sig .tc .smem S8 .f32) (harg3 : arg3.IsWhole) (arg4 : Memref sig .tc .vmem S1x256x1024 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x256x1024 .bf16) (harg7 : arg7.IsWhole) (arg2 : BitVec 32) (v10 : IVec S256x256 1) (v12 : FVec F S256x128 .bf16) (v14 : FVec F S256x128 .bf16) (v16 : FVec F S256x128 .bf16) (v18 : FVec F S256x128 .bf16) (v20 : FVec F S256x128 .bf16) (v22 : FVec F S256x128 .bf16) (v24 : FVec F S256x128 .bf16) (v26 : FVec F S256x128 .bf16) (v30 : Elt F .f32) (v34 : Elt F .f32) (v38 : Elt F .f32) (v42 : Elt F .f32) (v46 : Elt F .f32) (v50 : Elt F .f32) (v54 : Elt F .f32) (v58 : Elt F .f32) (v71 : FVec F S256x1 .f32) (v72 : FVec F S256x128 .f32) (v73 : FVec F S256x1 .f32) (v74 : FVec F S256x128 .f32) (v84 : FVec F S256x1024 .bf16) (v116 : FVec F S256x256 .f32) (v196 : FVec F S256x256 .f32) (v210 : FVec F S256x256 .f32) (v212 : FVec F S256x256 .f32) (v260 : FVec F S256x256 .f32) (v271 : FVec F S256x128 .f32) (v274 : FVec F S256x1 .f32) (v285 : FVec F S256x128 .f32) (v288 : FVec F S256x1 .f32) (v299 : FVec F S256x128 .f32) (v302 : FVec F S256x1 .f32) (v313 : FVec F S256x128 .f32) (v316 : FVec F S256x1 .f32) (v327 : FVec F S256x128 .f32) (v330 : FVec F S256x1 .f32) (v341 : FVec F S256x128 .f32) (v344 : FVec F S256x1 .f32) (v346 : FVec F S256x256 .f32) (v347 : FVec F S256x256 .f32) (X_arg5 : BufTy.Contents (Elt F) arg5.view.ty) (X_arg6 : BufTy.Contents (Elt F) arg6.view.ty) (k : Fin (k0_t1_loop i).trips)
    (f : Fin 8 → FVec F S256x1 .f32 × FVec F S256x128 .f32) :
    tripR_k0_t1 𝒱 c bd i arg3 harg3 arg4 harg4 arg5 harg5 arg6 harg6 arg7 harg7 arg2 k0_pay93 v10 v12 v14 v16 v18 v20 v22 v24 v26 v30 v34 v38 v42 v46 v50 v54 v58 v71 v72 v73 v74 v84 v116 v196 v210 v212 v260 v271 v274 v285 v288 v299 v302 v313 v316 v327 v330 v341 v344 v346 v347 X_arg5 X_arg6 k (pack f)
      = pack fun g => step (![v12, v14, v16, v18, v20, v22, v24, v26] g) (![v30, v34, v38, v42, v46, v50, v54, v58] g)
          (View.readAt (Elt F) arg5.view (Rect.unit (s := S1x2048x1024) (k0_off3 i k) S1x256x1024.size (k0_off3_inb i k)).toLoadRect X_arg5)
          (View.readAt (Elt F) arg6.view (Rect.unit (s := S1x2048x1024) (k0_off3 i k) S1x256x1024.size (k0_off3_inb i k)).toLoadRect X_arg6) g (f g) := by
  unfold tripR_k0_t1 trip_k0_t1
  rfl

end Cert.KernelIdeal.Sb
-- ==== Proof.Sb.Walk.lean ====
module

public import proofs.«01_k».proof.Proof.Sb.Step
public import Idealize.ShloMosaic.Lib.Pipeline.ValueKit

@[expose] public section

set_option maxRecDepth 16384

noncomputable section

/-!
# The loop of the attention kernel and what it stores

The loop over the blocks below the diagonal, as a walk of each head's pair from the diagonal block downwards, and the
value that a grid point leaves in the output's block.
-/

namespace Cert.KernelIdeal.Sb
open Cert.KernelIdeal Cert.KernelIdeal.Gen Idealize.ShloMosaic Idealize.ShloMosaic.TcCoe Idealize.SL.Sem
variable {F : FTy → Type} [FloatOps F]

/-- The loop makes as many trips as there are blocks below the diagonal. -/
theorem trips_eq : ∀ i : grid0.Coords, (k0_t1_loop i).trips = (i 2).val := by decide +kernel

/-- The loop for what is left over makes no trip. -/
theorem rest_eq : ∀ i : grid0.Coords, (k0_t2_loop i).trips = 0 := by decide +kernel

/-- Trip `k` reads the block of keys `k + 1` places below the diagonal one. -/
theorem off3_eq : ∀ (i : grid0.Coords) (k : Fin (k0_t1_loop i).trips),
    k0_off3 i k = ![0, 256 * ((i 2).val - 1 - k.val), 0] := by decide +kernel

/-- The block on the diagonal is the one with the grid point's number. -/
theorem off2_eq : ∀ i : grid0.Coords, k0_off2 i = ![0, 256 * (i 2).val, 0] := by decide +kernel

/-- The bias of head `g` is read at its place. -/
theorem off1_eq : ∀ (i : grid0.Coords) (g : Fin 8), k0_off1 i (BitVec.ofNat 32 g.val) = ![g.val] := by decide +kernel

/-- Block `j` of the keys or values lies inside them. -/
theorem block_inb (j : ℕ) (h : j < 8) : ∀ a, (![0, 256 * j, 0] : Fin 3 → ℕ) a + S1x256x1024.size a ≤ S1x2048x1024.size a := by
  intro a
  match a with
  | ⟨0, _⟩ => show 0 + 1 ≤ 1; omega
  | ⟨1, _⟩ => show 256 * j + 256 ≤ 2048; omega
  | ⟨2, _⟩ => show 0 + 1024 ≤ 1024; omega

/-- Block `j` of the keys or values. -/
def blockOf (x : Vec F S1x2048x1024 .f32) (j : ℕ) (h : j < 8) : Vec F S1x256x1024 .f32 :=
  View.ld x (Rect.unit (s := S1x2048x1024) ![0, 256 * j, 0] S1x256x1024.size (block_inb j h))

/-- The columns of head `g` lie inside the block of queries. -/
theorem query_inb (g : Fin 8) : ∀ a, (![0, 0, 128 * g.val] : Fin 3 → ℕ) a + S1x256x128.size a ≤ S1x256x1024.size a := by
  revert g; decide

/-- The queries of head `g`. -/
def headQ (x : Vec F S1x256x1024 .bf16) (g : Fin 8) : FVec F S256x128 .bf16 :=
  shapeCast S256x128
    (View.ld x (Rect.unit (s := S1x256x1024) ![0, 0, 128 * g.val] S1x256x128.size (query_inb g)) :
      Vec F S1x256x128 .bf16) shapeCasts_S1x256x128_S256x128

/-- The pair of head `g` after the diagonal block `i` and `n` blocks below it. -/
def walk (b : Fin 8 → Elt F .f32) (q : Fin 8 → FVec F S256x128 .bf16) (x2 x3 : Vec F S1x2048x1024 .f32) (i : ℕ)
    (h : i < 8) (g : Fin 8) : ℕ → FVec F S256x1 .f32 × FVec F S256x128 .f32
  | 0 => first (q g) (b g) (blockOf x2 i h) (blockOf x3 i h) g
  | n + 1 => step (q g) (b g) (blockOf x2 (i - 1 - n) (by omega)) (blockOf x3 (i - 1 - n) (by omega)) g
      (walk b q x2 x3 i h g n)

/-- A load of a block at an offset equal to that of block `j` reads block `j`. -/
theorem load_block {sp : Space} {κ : Kind} (v : Memref sig κ sp S1x2048x1024 .f32) (hv : v.IsWhole)
    (x : Vec F S1x2048x1024 .f32) (off : Fin 3 → ℕ) (inb : ∀ a, off a + S1x256x1024.size a ≤ S1x2048x1024.size a)
    (j : ℕ) (h : j < 8) (e : off = ![0, 256 * j, 0]) :
    View.readAt (Elt F) v.view (Rect.unit (s := S1x2048x1024) off S1x256x1024.size inb).toLoadRect (hv.unread x)
      = blockOf x j h := by
  subst e
  rw [View.readAt_eq_ld, hv.read_unread]
  rfl

/-- The loop over the blocks below the diagonal walks each head's pair. -/
theorem loop_eq (𝒱 : Variants) (c : Dev nD) (bd : Option 𝒱.V) (i : grid0.Coords) (arg3 : Memref sig .tc .smem S8 .f32) (harg3 : arg3.IsWhole) (arg4 : Memref sig .tc .vmem S1x256x1024 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x256x1024 .bf16) (harg7 : arg7.IsWhole) (arg2 : BitVec 32) (v10 : IVec S256x256 1) (v12 : FVec F S256x128 .bf16) (v14 : FVec F S256x128 .bf16) (v16 : FVec F S256x128 .bf16) (v18 : FVec F S256x128 .bf16) (v20 : FVec F S256x128 .bf16) (v22 : FVec F S256x128 .bf16) (v24 : FVec F S256x128 .bf16) (v26 : FVec F S256x128 .bf16) (v30 : Elt F .f32) (v34 : Elt F .f32) (v38 : Elt F .f32) (v42 : Elt F .f32) (v46 : Elt F .f32) (v50 : Elt F .f32) (v54 : Elt F .f32) (v58 : Elt F .f32) (v71 : FVec F S256x1 .f32) (v72 : FVec F S256x128 .f32) (v73 : FVec F S256x1 .f32) (v74 : FVec F S256x128 .f32) (v84 : FVec F S256x1024 .bf16) (v116 : FVec F S256x256 .f32) (v196 : FVec F S256x256 .f32) (v210 : FVec F S256x256 .f32) (v212 : FVec F S256x256 .f32) (v260 : FVec F S256x256 .f32) (v271 : FVec F S256x128 .f32) (v274 : FVec F S256x1 .f32) (v285 : FVec F S256x128 .f32) (v288 : FVec F S256x1 .f32) (v299 : FVec F S256x128 .f32) (v302 : FVec F S256x1 .f32) (v313 : FVec F S256x128 .f32) (v316 : FVec F S256x1 .f32) (v327 : FVec F S256x128 .f32) (v330 : FVec F S256x1 .f32) (v341 : FVec F S256x128 .f32) (v344 : FVec F S256x1 .f32) (v346 : FVec F S256x256 .f32) (v347 : FVec F S256x256 .f32)
    (x2 x3 : Vec F S1x2048x1024 .f32) (init : FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32)
    (b : Fin 8 → Elt F .f32) (q : Fin 8 → FVec F S256x128 .bf16)
    (hb : b = ![v30, v34, v38, v42, v46, v50, v54, v58]) (hq : q = ![v12, v14, v16, v18, v20, v22, v24, v26])
    (h0 : init = pack fun g => walk b q x2 x3 (i 2).val (i 2).isLt g 0)
    (n : ℕ) (hn : n ≤ (k0_t1_loop i).trips) :
    st_k0_t1 𝒱 c bd i arg3 harg3 arg4 harg4 arg5 harg5 arg6 harg6 arg7 harg7 arg2 k0_pay93 v10 v12 v14 v16 v18 v20 v22 v24 v26 v30 v34 v38 v42 v46 v50 v54 v58 v71 v72 v73 v74 v84 v116 v196 v210 v212 v260 v271 v274 v285 v288 v299 v302 v313 v316 v327 v330 v341 v344 v346 v347 (harg5.unread x2) (harg6.unread x3)
        init n
      = pack fun g => walk b q x2 x3 (i 2).val (i 2).isLt g n := by
  subst hb hq
  induction n with
  | zero => exact (st_k0_t1_zero ..).trans h0
  | succ n ih =>
    have hlt : n < (k0_t1_loop i).trips := hn
    have h8 : (i 2).val < 8 := (i 2).isLt
    rw [st_k0_t1_succ 𝒱 c bd i arg3 harg3 arg4 harg4 arg5 harg5 arg6 harg6 arg7 harg7 arg2 k0_pay93 v10 v12 v14 v16 v18 v20 v22 v24 v26 v30 v34 v38 v42 v46 v50 v54 v58 v71 v72 v73 v74 v84 v116 v196 v210 v212 v260 v271 v274 v285 v288 v299 v302 v313 v316 v327 v330 v341 v344 v346 v347 (harg5.unread x2) (harg6.unread x3) _ ⟨n, hlt⟩, ih (Nat.le_of_lt hlt), trip_eq]
    rw [load_block arg5 harg5 x2 _ _ ((i 2).val - 1 - n) (by omega) (off3_eq i ⟨n, hlt⟩),
      load_block arg6 harg6 x3 _ _ ((i 2).val - 1 - n) (by omega) (off3_eq i ⟨n, hlt⟩)]
    rfl

/-- The loop for what is left over leaves what it finds. -/
theorem rest_keeps (𝒱 : Variants) (c : Dev nD) (bd : Option 𝒱.V) (i : grid0.Coords) (arg3 : Memref sig .tc .smem S8 .f32) (harg3 : arg3.IsWhole) (arg4 : Memref sig .tc .vmem S1x256x1024 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x256x1024 .bf16) (harg7 : arg7.IsWhole) (arg2 : BitVec 32) (v9 : FVec F S512x256 .bf16) (v10 : IVec S256x256 1) (v12 : FVec F S256x128 .bf16) (v14 : FVec F S256x128 .bf16) (v16 : FVec F S256x128 .bf16) (v18 : FVec F S256x128 .bf16) (v20 : FVec F S256x128 .bf16) (v22 : FVec F S256x128 .bf16) (v24 : FVec F S256x128 .bf16) (v26 : FVec F S256x128 .bf16) (v30 : Elt F .f32) (v34 : Elt F .f32) (v38 : Elt F .f32) (v42 : Elt F .f32) (v46 : Elt F .f32) (v50 : Elt F .f32) (v54 : Elt F .f32) (v58 : Elt F .f32) (v71 : FVec F S256x1 .f32) (v72 : FVec F S256x128 .f32) (v73 : FVec F S256x1 .f32) (v74 : FVec F S256x128 .f32) (v84 : FVec F S256x1024 .bf16) (v116 : FVec F S256x256 .f32) (v196 : FVec F S256x256 .f32) (v210 : FVec F S256x256 .f32) (v212 : FVec F S256x256 .f32) (v260 : FVec F S256x256 .f32) (v271 : FVec F S256x128 .f32) (v274 : FVec F S256x1 .f32) (v285 : FVec F S256x128 .f32) (v288 : FVec F S256x1 .f32) (v299 : FVec F S256x128 .f32) (v302 : FVec F S256x1 .f32) (v313 : FVec F S256x128 .f32) (v316 : FVec F S256x1 .f32) (v327 : FVec F S256x128 .f32) (v330 : FVec F S256x1 .f32) (v341 : FVec F S256x128 .f32) (v344 : FVec F S256x1 .f32) (v346 : FVec F S256x256 .f32) (v347 : FVec F S256x256 .f32) (v377 : BitVec 32) (X_arg5 : BufTy.Contents (Elt F) arg5.view.ty) (X_arg6 : BufTy.Contents (Elt F) arg6.view.ty) (init : FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32) :
    st_k0_t2 𝒱 c bd i arg3 harg3 arg4 harg4 arg5 harg5 arg6 harg6 arg7 harg7 arg2 v9 v10 v12 v14 v16 v18 v20 v22 v24 v26 v30 v34 v38 v42 v46 v50 v54 v58 v71 v72 v73 v74 v84 v116 v196 v210 v212 v260 v271 v274 v285 v288 v299 v302 v313 v316 v327 v330 v341 v344 v346 v347 v377 X_arg5 X_arg6 init (k0_t2_loop i).trips = init := by
  rw [rest_eq]; exact st_k0_t2_zero ..

/-- The bias of head `g`. -/
def headB (x : Vec F S8 .f32) (g : Fin 8) : Elt F .f32 := x (fun a => match a with | ⟨0, _⟩ => g)

/-- A load of the bias at an offset equal to that of head `g` reads its bias. -/
theorem load_bias {sp : Space} {κ : Kind} (v : Memref sig κ sp S8 .f32) (hv : v.IsWhole) (x : Vec F S8 .f32)
    (off : Fin 1 → ℕ) (inb : ∀ a, off a + S1.size a ≤ S8.size a) (g : Fin 8) (e : off = ![g.val]) (h : 0 < S1.numel) :
    View.readAt (Elt F) v.view (Rect.unit (s := S8) off S1.size inb).toLoadRect (hv.unread x) (Shape.Idx.first h)
      = headB x g := by
  subst e
  rw [View.readAt_eq_ld, hv.read_unread]
  refine congrArg x (funext fun a => ?_)
  match a with
  | ⟨0, _⟩ => rfl

/-- A load of a head's columns of the queries. -/
theorem load_query {sp : Space} {κ : Kind} (v : Memref sig κ sp S1x256x1024 .bf16) (hv : v.IsWhole)
    (x : Vec F S1x256x1024 .bf16) (g : Fin 8) :
    shapeCast S256x128 (View.readAt (Elt F) v.view
      (Rect.unit (s := S1x256x1024) ![0, 0, 128 * g.val] S1x256x128.size (query_inb g)).toLoadRect (hv.unread x))
        shapeCasts_S1x256x128_S256x128 = headQ x g := by
  rw [View.readAt_eq_ld, hv.read_unread]
  rfl

/-- A head's accumulator as it is stored. -/
def stored (a : FVec F S256x128 .f32) : Vec F S1x256x128 .bf16 :=
  shapeCast S1x256x128 (truncf .bf16 a bitsLt_bf16_f32) shapeCasts_S256x128_S1x256x128

/-- A run's stores: one for each head, at its columns. -/
def stores (a0 a1 a2 a3 a4 a5 a6 a7 : FVec F S256x128 .f32) : List (View.Piece (Elt F) S1x256x1024 .bf16) :=
  [⟨Rect.unit (s := S1x256x1024) ![0, 0, 896] S1x256x128.size inb_S1x256x1024_S1x256x128_0_0_896, stored a7⟩,
   ⟨Rect.unit (s := S1x256x1024) ![0, 0, 768] S1x256x128.size inb_S1x256x1024_S1x256x128_0_0_768, stored a6⟩,
   ⟨Rect.unit (s := S1x256x1024) ![0, 0, 640] S1x256x128.size inb_S1x256x1024_S1x256x128_0_0_640, stored a5⟩,
   ⟨Rect.unit (s := S1x256x1024) ![0, 0, 512] S1x256x128.size inb_S1x256x1024_S1x256x128_0_0_512, stored a4⟩,
   ⟨Rect.unit (s := S1x256x1024) ![0, 0, 384] S1x256x128.size inb_S1x256x1024_S1x256x128_0_0_384, stored a3⟩,
   ⟨Rect.unit (s := S1x256x1024) ![0, 0, 256] S1x256x128.size inb_S1x256x1024_S1x256x128_0_0_256, stored a2⟩,
   ⟨Rect.unit (s := S1x256x1024) ![0, 0, 128] S1x256x128.size inb_S1x256x1024_S1x256x128_0_0_128, stored a1⟩,
   ⟨Rect.unit (s := S1x256x1024) ![0, 0, 0] S1x256x128.size inb_S1x256x1024_S1x256x128_0_0_0, stored a0⟩]

/-- The accumulator of head `g` when the walk has come to the first block. -/
def last (i : grid0.Coords) (x0 : Vec F S8 .f32) (x1 : Vec F S1x256x1024 .bf16) (x2 : Vec F S1x2048x1024 .f32)
    (x3 : Vec F S1x2048x1024 .f32) (g : Fin 8) : FVec F S256x128 .f32 :=
  (walk (headB x0) (headQ x1) x2 x3 (i 2).val (i 2).isLt g (i 2).val).2

/-- A run's stores are those of the carried values after the loop. -/
theorem run_stores (c : Dev nD) (i : grid0.Coords) (arg3 : Memref sig .tc .smem S8 .f32) (harg3 : arg3.IsWhole) (arg4 : Memref sig .tc .vmem S1x256x1024 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x256x1024 .bf16) (harg7 : arg7.IsWhole)
    (x0 : Vec F S8 .f32) (x1 : Vec F S1x256x1024 .bf16) (x2 : Vec F S1x2048x1024 .f32) (x3 : Vec F S1x2048x1024 .f32) :
    (kernelRun0_A c i arg3 harg3 arg4 harg4 arg5 harg5 arg6 harg6 arg7 harg7 x0 x1 x2 x3).1
      = stores (last i x0 x1 x2 x3 0) (last i x0 x1 x2 x3 1) (last i x0 x1 x2 x3 2) (last i x0 x1 x2 x3 3)
          (last i x0 x1 x2 x3 4) (last i x0 x1 x2 x3 5) (last i x0 x1 x2 x3 6) (last i x0 x1 x2 x3 7) := by
  have h8 : (i 2).val < 8 := (i 2).isLt
  unfold kernelRun0_A kernelRun0_A.sl.r_71 kernelRun0_A.sl.r_72 kernelRun0_A.sl.r_73 kernelRun0_A.sl.r_74
    kernelRun0_A.sl.r_75 kernelRun0_A.sl.r_76
  dsimp only
  rw [rest_keeps, loop_eq (n := (k0_t1_loop i).trips) (hn := le_refl _) (b := headB x0) (q := headQ x1) (hb := ?hb) (hq := ?hq) (h0 := ?h0)]
  case hb =>
    funext g
    fin_cases g
    · exact (load_bias arg3 harg3 x0 _ _ 0 (off1_eq i 0) _).symm
    · exact (load_bias arg3 harg3 x0 _ _ 1 (off1_eq i 1) _).symm
    · exact (load_bias arg3 harg3 x0 _ _ 2 (off1_eq i 2) _).symm
    · exact (load_bias arg3 harg3 x0 _ _ 3 (off1_eq i 3) _).symm
    · exact (load_bias arg3 harg3 x0 _ _ 4 (off1_eq i 4) _).symm
    · exact (load_bias arg3 harg3 x0 _ _ 5 (off1_eq i 5) _).symm
    · exact (load_bias arg3 harg3 x0 _ _ 6 (off1_eq i 6) _).symm
    · exact (load_bias arg3 harg3 x0 _ _ 7 (off1_eq i 7) _).symm
  case hq =>
    funext g
    refine (load_query arg4 harg4 x1 g).symm.trans ?_
    fin_cases g <;> rfl
  case h0 =>
    refine Eq.trans (b := pack fun g => first (headQ x1 g) (headB x0 g)
      (View.readAt (Elt F) arg5.view (Rect.unit (s := S1x2048x1024) (k0_off2 i) S1x256x1024.size (k0_off2_inb i)).toLoadRect (harg5.unread x2))
      (View.readAt (Elt F) arg6.view (Rect.unit (s := S1x2048x1024) (k0_off2 i) S1x256x1024.size (k0_off2_inb i)).toLoadRect (harg6.unread x3)) g) ?_ ?_
    · have hb : ∀ g, headB x0 g = _ := fun g => (load_bias arg3 harg3 x0 _ (k0_off1_inb i g) g (off1_eq i g) (by decide)).symm
      have hq : ∀ g, headQ x1 g = _ := fun g => (load_query arg4 harg4 x1 g).symm
      simp only [hb, hq]
      rfl
    · rw [load_block arg5 harg5 x2 _ _ (i 2).val h8 (off2_eq i), load_block arg6 harg6 x3 _ _ (i 2).val h8 (off2_eq i)]
      rfl
  rw [trips_eq i]
  rfl

end Cert.KernelIdeal.Sb
-- ==== Proof.Sb.Point.lean ====
module

public import proofs.«01_k».proof.Proof.Sb.Step
public import Idealize.ShloMosaic.Lib.Pipeline.ValueKit
public import Idealize.ShloMosaic.Lib.Pointwise
public import Idealize.ShloMosaic.Lib.WordCmp

@[expose] public section

set_option maxRecDepth 16384

noncomputable section

/-!
# One step of the attention kernel at an index

The values of the definitions of `Step` at a row and a column, over the extended reals.
-/

namespace Cert.KernelIdeal.Sb
open Cert.KernelIdeal Cert.KernelIdeal.Gen Idealize.ShloMosaic Idealize.ShloMosaic.TcCoe Idealize.SL.Sem

/-- A choice by a signed comparison of small words. -/
theorem select_slt {α : Type} (a b : ℕ) (ha : a < 2048) (hb : b < 2048) (x y : α) :
    Scalar.select (IntOp.cmpi .slt (BitVec.ofNat 32 a) (BitVec.ofNat 32 b)) x y = if a < b then x else y := by
  rw [WordCmp.cmpi_slt_ofNat (show a < 2 ^ 31 by omega) (show b < 2 ^ 31 by omega)]
  by_cases h : a < b <;> simp [h, Scalar.select]

/-- A choice by a signed comparison of small words, the other way. -/
theorem select_sgt {α : Type} (a b : ℕ) (ha : a < 2048) (hb : b < 2048) (x y : α) :
    Scalar.select (IntOp.cmpi .sgt (BitVec.ofNat 32 a) (BitVec.ofNat 32 b)) x y = if b < a then x else y := by
  rw [WordCmp.cmpi_sgt_ofNat (show a < 2 ^ 31 by omega) (show b < 2 ^ 31 by omega)]
  by_cases h : b < a <;> simp [h, Scalar.select]

/-- The word of minus one. -/
theorem word_neg_one : Ideal.ofBits .f32 0xBF800000#32 = -1 := by
  have e : (BitVec.extractLsb' 31 1 0xBF800000#32 == 1#1) = true := by decide
  have e1 : (BitVec.extractLsb' 23 8 0xBF800000#32).toNat = 127 := by decide
  have e2 : (BitVec.extractLsb' 0 23 0xBF800000#32).toNat = 0 := by decide
  show Ideal.ieee 8 23 0xBF800000#32 = -1
  unfold Ideal.ieee
  dsimp only
  rw [e1, e2, e]
  norm_num

/-- Column `d` of head `g`. -/
def col (g : Fin 8) (d : Fin 128) : Fin 1024 := ⟨128 * g.val + d.val, by omega⟩

/-- A head's columns of a block. -/
theorem headCols_at (y : Vec Ideal S1x256x1024 .f32) (g : Fin 8) (s : Fin 256) (d : Fin 128) :
    headCols y g (ix2 s d) = y (ix3 (0 : Fin 1) s (col g d)) := by
  fin_cases g <;> pointwise! [headCols, k0_pay7, col]

/-- The softplus of an extended real, as the kernel computes it. -/
def sp (z : EReal) : EReal := max z 0 + Ideal.log (1 + Ideal.exp (0 - max z (-z)))

/-- The softplus acts on each entry. -/
theorem soft_at (z : FVec Ideal S256x256 .f32) (r s : Fin 256) : soft z (ix2 r s) = sp (z (ix2 r s)) := by
  pointwise! [soft, sp]

/-- The logits are the inner products plus the bias. -/
theorem logits_at (q : FVec Ideal S256x128 .bf16) (b : Elt Ideal .f32) (y : Vec Ideal S1x256x1024 .f32) (g : Fin 8)
    (r s : Fin 256) :
    logits q b y g (ix2 r s) = (∑ d : Fin 128, q (ix2 r d) * headCols y g (ix2 s d)) + b := by
  unfold logits
  generalize headCols y g = yk
  pointwise!

/-- The accumulator gains the product with the values. -/
theorem accAfter_at (a : FVec Ideal S256x128 .f32) (w : FVec Ideal S256x256 .f32) (y : Vec Ideal S1x256x1024 .f32)
    (g : Fin 8) (r : Fin 256) (d : Fin 128) :
    accAfter a w y g (ix2 r d) = a (ix2 r d) + ∑ s : Fin 256, w (ix2 r s) * headCols y g (ix2 s d) := by
  unfold accAfter
  generalize headCols y g = yk
  pointwise!

/-- The running sum loses the row's sum. -/
theorem sumAfter_at (s : FVec Ideal S256x1 .f32) (lv : FVec Ideal S256x256 .f32) (r : Fin 256) :
    sumAfter s lv (ix2 r (0 : Fin 1)) = s (ix2 r (0 : Fin 1)) - ∑ k : Fin 256, lv (ix2 r k) := by
  pointwise! [sumAfter]

/-- The weights of a block at an entry. -/
theorem weights_at (s : FVec Ideal S256x1 .f32) (z lv : FVec Ideal S256x256 .f32) (r k : Fin 256) :
    weights s z lv (ix2 r k)
      = Ideal.exp (z (ix2 r k) - sp (z (ix2 r k)) + later lv (ix2 r k) + s (ix2 r (0 : Fin 1))) := by
  unfold weights
  generalize later lv = l
  pointwise! [soft, sp]

/-- The leaves of the diagonal block at an entry. -/
theorem leaves_at (z : FVec Ideal S256x256 .f32) (r k : Fin 256) :
    leaves z (ix2 r k) = if k.val < r.val then sp (z (ix2 r k)) else 0 := by
  unfold leaves
  pointwise [k0_pay94, soft, sp]
  rw [select_slt _ _ (by omega) (by omega)]
  rfl

/-- A block kept before the diagonal only. -/
theorem masked_at (w : FVec Ideal S256x256 .f32) (r k : Fin 256) :
    (select k0_pay94 w (broadcast S256x256 (Scalar.ofBits .f32 0x00000000#32)) : FVec Ideal S256x256 .f32) (ix2 r k)
      = if k.val < r.val then w (ix2 r k) else 0 := by
  pointwise [k0_pay94]
  rw [select_slt _ _ (by omega) (by omega)]

/-- The product with the stacked triangle at an entry. -/
theorem later_at (lv : FVec Ideal S256x256 .f32) (r s : Fin 256) :
    later lv (ix2 r s) = (∑ k : Fin 256, lv (ix2 r k) * (if s.val < k.val then -1 else 0))
      + ∑ k : Fin 256, (lv (ix2 r k) - lv (ix2 r k)) * (if s.val < k.val then -1 else 0) := by
  unfold later
  pointwise [k0_pay93]
  simp only [select_sgt _ _ (lt_of_lt_of_le (Fin.isLt _) (show 256 ≤ 2048 by omega)) (lt_of_lt_of_le (Fin.isLt _) (show 256 ≤ 2048 by omega)), word_neg_one]
  simp only [mul_ite, mul_zero]

end Cert.KernelIdeal.Sb
-- ==== Proof.Sb.Real.lean ====
module

public import proofs.«01_k».proof.Proof.Sb.Point

@[expose] public section

noncomputable section

/-!
# Stick-breaking attention over the reals

For finite logits every quantity of the kernel but the values is a real number. The sums of the leaves over intervals of
positions, and one block of the walk as a statement about them.
-/

namespace Cert.KernelIdeal.Sb
open Idealize.ShloMosaic Cert.KernelIdeal.Gen

/-- The softplus of a real number, as the kernel computes it. -/
def spr (z : ℝ) : ℝ := max z 0 + Real.log (1 + Real.exp (0 - max z (-z)))

/-- The logarithm of one plus an exponential. -/
theorem log_one_add (x : ℝ) : Ideal.log (1 + ((Real.exp x : ℝ) : EReal)) = ((Real.log (1 + Real.exp x) : ℝ) : EReal) := by
  have h : (1 : EReal) + ((Real.exp x : ℝ) : EReal) = ((1 + Real.exp x : ℝ) : EReal) := by
    rw [EReal.coe_add]; rfl
  rw [h]
  show (if 1 + Real.exp x ≤ 0 then (⊥ : EReal) else _) = _
  rw [if_neg (by have := Real.exp_pos x; linarith)]

/-- The larger of two reals among the extended reals. -/
theorem coe_max' (a b : ℝ) : max (a : EReal) (b : EReal) = ((max a b : ℝ) : EReal) :=
  (EReal.coe_strictMono.monotone.map_max).symm

/-- The softplus of a finite extended real. -/
theorem sp_coe (z : ℝ) : sp (z : EReal) = ((spr z : ℝ) : EReal) := by
  unfold sp spr
  have h0 : (0 : EReal) = ((0 : ℝ) : EReal) := rfl
  rw [← EReal.coe_neg, coe_max', h0, coe_max', ← EReal.coe_sub, EReal.coe_add, ← log_one_add]
  rfl

/-- The softplus at the opposite number. -/
theorem spr_neg (z : ℝ) : spr (-z) = spr z - z := by
  unfold spr
  rw [neg_neg, max_comm (-z) z]
  have : max (-z) 0 = max z 0 - z := by
    rcases le_total z 0 with h | h
    · rw [max_eq_left (by linarith), max_eq_right h]; ring
    · rw [max_eq_right (by linarith), max_eq_left h]; ring
  rw [this]; ring

/-- A finite sum of reals among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => rfl
  | insert a s h ih => rw [Finset.sum_insert h, Finset.sum_insert h, ih, EReal.coe_add]

/-- The weight of position `s` in row `t`. -/
def weight (z : ℕ → ℝ) (t s : ℕ) : ℝ := Real.exp (z s - spr (z s) - ∑ s' ∈ Finset.Ico (s + 1) t, spr (z s'))

/-- A sum over the places `a ≤ k < n` of a block is a sum over an interval of positions. -/
theorem sum_block {M : Type} [AddCommMonoid M] (f : ℕ → M) (lo a n N : ℕ) (hn : n ≤ N) :
    (∑ k : Fin N, if a ≤ k.val ∧ k.val < n then f (lo + k.val) else 0) = ∑ s ∈ Finset.Ico (lo + a) (lo + n), f s := by
  rw [Fin.sum_univ_eq_sum_range (fun k => if a ≤ k ∧ k < n then f (lo + k) else 0) N, ← Finset.sum_filter]
  have e : (Finset.range N).filter (fun k => a ≤ k ∧ k < n) = Finset.Ico a n := by
    ext k; simp only [Finset.mem_filter, Finset.mem_range, Finset.mem_Ico]; omega
  rw [e, Finset.sum_Ico_add f a n lo, Nat.add_comm a lo, Nat.add_comm n lo]

/-- The product with the stacked triangle, for finite leaves. -/
theorem later_coe (lv : FVec Ideal Cert.KernelIdeal.S256x256 .f32) (r s : Fin 256) (L : ℕ → ℝ)
    (h : ∀ k : Fin 256, lv (ix2 r k) = ((L k.val : ℝ) : EReal)) :
    later lv (ix2 r s) = ((-∑ k : Fin 256, if s.val < k.val then L k.val else 0 : ℝ) : EReal) := by
  rw [later_at]
  have h2 : ∀ k : Fin 256, (lv (ix2 r k) - lv (ix2 r k)) * (if s.val < k.val then (-1 : EReal) else 0) = 0 := fun k => by
    rw [h k, ← EReal.coe_sub, sub_self]; exact zero_mul _
  have h1 : ∀ k : Fin 256, lv (ix2 r k) * (if s.val < k.val then (-1 : EReal) else 0)
      = ((-(if s.val < k.val then L k.val else 0) : ℝ) : EReal) := fun k => by
    rw [h k]
    by_cases hk : s.val < k.val
    · rw [if_pos hk, if_pos hk, mul_neg, mul_one, EReal.coe_neg]
    · rw [if_neg hk, if_neg hk, mul_zero, neg_zero]; rfl
  rw [Finset.sum_congr rfl fun k _ => h1 k, Finset.sum_congr rfl fun k _ => h2 k, coe_sum, Finset.sum_const_zero, add_zero,
    Finset.sum_neg_distrib]

/-- The pair of a head in row `r` after the positions from `lo` to `t` have been added. -/
def Holds (z : ℕ → ℝ) (v : ℕ → Fin 128 → EReal) (t lo : ℕ) (r : Fin 256)
    (p : FVec Ideal Cert.KernelIdeal.S256x1 .f32 × FVec Ideal Cert.KernelIdeal.S256x128 .f32) : Prop :=
  p.1 (ix2 r (0 : Fin 1)) = ((-∑ s ∈ Finset.Ico lo t, spr (z s) : ℝ) : EReal)
    ∧ ∀ d : Fin 128, p.2 (ix2 r d) = ∑ s ∈ Finset.Ico lo t, ((weight z t s : ℝ) : EReal) * v s d

/-- A weight as the kernel computes it from finite pieces. -/
theorem weight_coe (z A S : ℝ) :
    Ideal.exp ((z : EReal) - sp (z : EReal) + ((-A : ℝ) : EReal) + ((-S : ℝ) : EReal))
      = ((Real.exp (z - spr z - (A + S)) : ℝ) : EReal) := by
  rw [sp_coe, ← EReal.coe_sub, ← EReal.coe_add, ← EReal.coe_add]
  show ((Real.exp _ : ℝ) : EReal) = _
  congr 2
  ring

/-- A block below the diagonal keeps the statement. -/
theorem holds_step (q : FVec Ideal Cert.KernelIdeal.S256x128 .bf16) (b : Elt Ideal .f32)
    (yk yv : Vec Ideal Cert.KernelIdeal.S1x256x1024 .f32) (g : Fin 8)
    (p : FVec Ideal Cert.KernelIdeal.S256x1 .f32 × FVec Ideal Cert.KernelIdeal.S256x128 .f32)
    (z : ℕ → ℝ) (v : ℕ → Fin 128 → EReal) (t lo : ℕ) (r : Fin 256) (hlo : lo + 256 ≤ t)
    (hz : ∀ k : Fin 256, logits q b yk g (ix2 r k) = ((z (lo + k.val) : ℝ) : EReal))
    (hv : ∀ (k : Fin 256) (d : Fin 128), headCols yv g (ix2 k d) = v (lo + k.val) d)
    (h : Holds z v t (lo + 256) r p) : Holds z v t lo r (step q b yk yv g p) := by
  have hs : ∀ k : Fin 256, soft (logits q b yk g) (ix2 r k) = ((spr (z (lo + k.val)) : ℝ) : EReal) := fun k => by
    rw [soft_at, hz, sp_coe]
  have split : ∀ {M : Type} [AddCommMonoid M] (f : ℕ → M) (a : ℕ), a ≤ 256 →
      (∑ s ∈ Finset.Ico (lo + a) (lo + 256), f s) + ∑ s ∈ Finset.Ico (lo + 256) t, f s = ∑ s ∈ Finset.Ico (lo + a) t, f s :=
    fun f a ha => Finset.sum_Ico_consecutive f (by omega) hlo
  have full : ∀ {M : Type} [AddCommMonoid M] (f : ℕ → M),
      (∑ k : Fin 256, f (lo + k.val)) = ∑ s ∈ Finset.Ico (lo + 0) (lo + 256), f s := fun f => by
    rw [← sum_block f lo 0 256 256 (le_refl _)]
    exact Finset.sum_congr rfl fun k _ => (if_pos ⟨Nat.zero_le _, k.isLt⟩).symm
  refine ⟨?_, fun d => ?_⟩
  · show sumAfter p.1 _ (ix2 r (0 : Fin 1)) = _
    rw [sumAfter_at, h.1, Finset.sum_congr rfl fun k _ => hs k, coe_sum, ← EReal.coe_sub, full (fun s => spr (z s))]
    congr 1
    have e := split (fun s => spr (z s)) 0 (by omega)
    rw [Nat.add_zero] at e ⊢
    rw [← e]
    ring
  · show accAfter p.2 _ yv g (ix2 r d) = _
    rw [accAfter_at, h.2 d]
    have hw : ∀ k : Fin 256, weights p.1 (logits q b yk g) (soft (logits q b yk g)) (ix2 r k) * headCols yv g (ix2 k d)
        = ((weight z t (lo + k.val) : ℝ) : EReal) * v (lo + k.val) d := fun k => by
      rw [weights_at, hv, h.1, later_coe _ r k (fun k => spr (z (lo + k))) hs, hz, weight_coe]
      congr 3
      rw [Nat.add_assoc lo, ← split (fun s => spr (z s)) (k.val + 1) (by omega), ← sum_block (fun s => spr (z s)) lo (k.val + 1) 256 256 (le_refl _)]
      congr 3
      exact funext fun j => if_congr (by have := j.isLt; omega) rfl rfl
    rw [Finset.sum_congr rfl fun k _ => hw k, full (fun s => ((weight z t s : ℝ) : EReal) * v s d), add_comm]
    exact split (fun s => ((weight z t s : ℝ) : EReal) * v s d) 0 (by omega)

/-- The diagonal block makes the statement. -/
theorem holds_first (q : FVec Ideal Cert.KernelIdeal.S256x128 .bf16) (b : Elt Ideal .f32)
    (yk yv : Vec Ideal Cert.KernelIdeal.S1x256x1024 .f32) (g : Fin 8)
    (z : ℕ → ℝ) (v : ℕ → Fin 128 → EReal) (lo : ℕ) (r : Fin 256)
    (hz : ∀ k : Fin 256, logits q b yk g (ix2 r k) = ((z (lo + k.val) : ℝ) : EReal))
    (hv : ∀ (k : Fin 256) (d : Fin 128), headCols yv g (ix2 k d) = v (lo + k.val) d) :
    Holds z v (lo + r.val) lo r (first q b yk yv g) := by
  have hl : ∀ k : Fin 256, leaves (logits q b yk g) (ix2 r k)
      = (((fun k : ℕ => if k < r.val then spr (z (lo + k)) else 0) k.val : ℝ) : EReal) := fun k => by
    rw [leaves_at, hz, sp_coe]
    by_cases hk : k.val < r.val
    · simp only [if_pos hk]
    · simp only [if_neg hk]; rfl
  have tri : ∀ (a : ℕ), (∑ k : Fin 256, if a ≤ k.val then (if k.val < r.val then spr (z (lo + k.val)) else 0) else 0)
      = ∑ s ∈ Finset.Ico (lo + a) (lo + r.val), spr (z s) := fun a => by
    rw [← sum_block (fun s => spr (z s)) lo a r.val 256 (by omega)]
    exact Finset.sum_congr rfl fun k _ => by rw [← ite_and]
  have hz0 : (zeroS (F := Ideal)) (ix2 r (0 : Fin 1)) = ((-0 : ℝ) : EReal) := by
    rw [neg_zero]; exact Ideal.ofBits_zero_f32
  refine ⟨?_, fun d => ?_⟩
  · show sumAfter zeroS _ (ix2 r (0 : Fin 1)) = _
    rw [sumAfter_at, hz0, Finset.sum_congr rfl fun k _ => hl k, coe_sum, ← EReal.coe_sub]
    congr 1
    have := tri 0
    simp only [Nat.zero_le, if_true, Nat.add_zero] at this
    rw [← this]
    ring
  · show accAfter zeroA _ yv g (ix2 r d) = _
    rw [accAfter_at]
    have hw : ∀ k : Fin 256, (select k0_pay94 (weights zeroS (logits q b yk g) (leaves (logits q b yk g)))
          (broadcast Cert.KernelIdeal.S256x256 (Scalar.ofBits .f32 0x00000000#32)) : FVec Ideal Cert.KernelIdeal.S256x256 .f32) (ix2 r k)
          * headCols yv g (ix2 k d)
        = if 0 ≤ k.val ∧ k.val < r.val then ((weight z (lo + r.val) (lo + k.val) : ℝ) : EReal) * v (lo + k.val) d else 0 := fun k => by
      rw [masked_at, hv]
      by_cases hk : k.val < r.val
      · rw [if_pos hk, if_pos ⟨Nat.zero_le _, hk⟩]
        rw [weights_at, hz0, later_coe _ r k (fun k : ℕ => if k < r.val then spr (z (lo + k)) else 0) hl, hz, weight_coe]
        congr 3
        have := tri (k.val + 1)
        simp only [Nat.succ_le_iff] at this
        rw [this, add_zero]
        rfl
      · rw [if_neg hk, if_neg fun h => hk h.2, zero_mul]
    rw [Finset.sum_congr rfl fun k _ => hw k, sum_block (fun s => ((weight z (lo + r.val) s : ℝ) : EReal) * v s d) lo 0 r.val 256 (by omega)]
    have : (zeroA (F := Ideal)) (ix2 r d) = 0 := Ideal.ofBits_zero_f32
    rw [this, zero_add, Nat.add_zero]

end Cert.KernelIdeal.Sb
-- ==== Proof.Sb.Block.lean ====
module

public import proofs.«01_k».proof.Proof.Sb.Walk
public import proofs.«01_k».proof.Proof.Sb.Real

@[expose] public section

set_option maxRecDepth 16384

noncomputable section

/-!
# The output block of the attention kernel

The walk from the diagonal down to the first block adds every earlier position, and the run's stores leave each head's
sum in its columns.
-/

namespace Cert.KernelIdeal.Sb
open Cert.KernelIdeal Cert.KernelIdeal.Gen Idealize.ShloMosaic Idealize.ShloMosaic.TcCoe Idealize.SL.Sem

/-- Row `k` of block `j`. -/
theorem blockOf_at (x : Vec Ideal S1x2048x1024 .f32) (j : ℕ) (h : j < 8) (k : Fin 256) (c : Fin 1024) :
    blockOf x j h (ix3 (0 : Fin 1) k c) = x (ix3 (0 : Fin 1) (⟨256 * j + k.val, by omega⟩ : Fin 2048) c) := by
  refine congrArg x (funext fun a => Fin.ext ?_)
  match a with
  | ⟨0, _⟩ => show 0 + 0 * 1 = 0; omega
  | ⟨1, _⟩ => show 256 * j + 1 * k.val = 256 * j + k.val; omega
  | ⟨2, _⟩ => show 0 + 1 * c.val = c.val; omega

/-- The queries of a head. -/
theorem headQ_at (x : Vec Ideal S1x256x1024 .bf16) (g : Fin 8) (r : Fin 256) (d : Fin 128) :
    headQ x g (ix2 r d) = x (ix3 (0 : Fin 1) r (col g d)) := by
  unfold headQ
  refine (shapeCast_apply _ shapeCasts_S1x256x128_S256x128 (ix2 r d) (ix3 (0 : Fin 1) r d) ?_).trans
    (congrArg x (funext fun a => Fin.ext ?_))
  · rw [Shape.rowMajor_val_three, Shape.rowMajor_val_two]
    show (0 * 256 + r.val) * 128 + d.val = r.val * 128 + d.val
    omega
  · match a with
    | ⟨0, _⟩ => show 0 + 0 * 1 = 0; omega
    | ⟨1, _⟩ => show 0 + 1 * r.val = r.val; omega
    | ⟨2, _⟩ => show 128 * g.val + 1 * d.val = 128 * g.val + d.val; omega

/-- The walk keeps the statement: after `n` blocks below the diagonal, the positions from `256 (i - n)` have been added. -/
theorem walk_holds (b : Fin 8 → Elt Ideal .f32) (q : Fin 8 → FVec Ideal S256x128 .bf16) (x2 x3 : Vec Ideal S1x2048x1024 .f32)
    (i : ℕ) (hi : i < 8) (g : Fin 8) (r : Fin 256) (z : ℕ → ℝ) (v : ℕ → Fin 128 → EReal)
    (hz : ∀ s : Fin 2048, (∑ d : Fin 128, q g (ix2 r d) * x2 (ix3 (0 : Fin 1) s (col g d))) + b g = ((z s.val : ℝ) : EReal))
    (hv : ∀ (s : Fin 2048) (d : Fin 128), x3 (ix3 (0 : Fin 1) s (col g d)) = v s.val d) :
    ∀ n, n ≤ i → Holds z v (256 * i + r.val) (256 * (i - n)) r (walk b q x2 x3 i hi g n) := by
  have hz' : ∀ (j : ℕ) (hj : j < 8) (k : Fin 256), logits (q g) (b g) (blockOf x2 j hj) g (ix2 r k) = ((z (256 * j + k.val) : ℝ) : EReal) :=
    fun j hj k => by
      rw [logits_at, ← hz ⟨256 * j + k.val, by omega⟩]
      congr 1
      exact Finset.sum_congr rfl fun d _ => by rw [headCols_at, blockOf_at]
  have hv' : ∀ (j : ℕ) (hj : j < 8) (k : Fin 256) (d : Fin 128), headCols (blockOf x3 j hj) g (ix2 k d) = v (256 * j + k.val) d :=
    fun j hj k d => by rw [headCols_at, blockOf_at, hv]
  intro n
  induction n with
  | zero => exact fun _ => holds_first _ _ _ _ g z v (256 * i) r (hz' i hi) (hv' i hi)
  | succ n ih =>
    intro hn
    have e : i - (n + 1) = i - 1 - n := by omega
    rw [e]
    refine holds_step _ _ _ _ g _ z v _ (256 * (i - 1 - n)) r (by omega) (hz' _ (by omega)) (hv' _ (by omega)) ?_
    have := ih (by omega)
    rwa [show 256 * (i - 1 - n) + 256 = 256 * (i - n) by omega]

/-- What is stored at a place of a head's columns. -/
theorem stored_at (G : Fin 8 → FVec Ideal S256x128 .f32) (r : Fin 256) (g g' : Fin 8) (d : Fin 128) (x : S1x256x128.Idx)
    (h1 : r.val = (x 1).val) (h2 : 128 * g.val + d.val = 128 * g'.val + (x 2).val) : stored (G g') x = G g (ix2 r d) := by
  have hx : (x 2).val < 128 := (x 2).isLt
  have hg : g' = g := Fin.ext (by omega)
  subst hg
  have e : x = ix3 (0 : Fin 1) r d := funext fun a => Fin.ext (by
    match a with
    | ⟨0, _⟩ => have : (x 0).val < 1 := (x 0).isLt; show (x 0).val = 0; omega
    | ⟨1, _⟩ => exact h1.symm
    | ⟨2, _⟩ => show (x 2).val = d.val; omega)
  rw [e]
  generalize G g' = y
  pointwise! [stored]

/-- What a run leaves in its output block: at each head's columns its last accumulator. -/
theorem out_at (c : Dev nD) (t : Fin cfg0.N) (x0 : Vec Ideal S8 .f32) (x1 : Vec Ideal S1x256x1024 .bf16)
    (x2 x3 : Vec Ideal S1x2048x1024 .f32) (r : Fin 256) (g : Fin 8) (d : Fin 128) :
    out0_A_4 c (grid0.coords t) (ms0_0 t) (hs0_0 t) (ms0_1 t) (hs0_1 t) (ms0_2 t) (hs0_2 t) (ms0_3 t) (hs0_3 t) (ms0_4 t) (hs0_4 t)
      x0 x1 x2 x3 (ix3 (0 : Fin 1) r (col g d)) = last (grid0.coords t) x0 x1 x2 x3 g (ix2 r d) := by
  have hc := cover0_A_4 c (grid0.coords t) (ms0_0 t) (hs0_0 t) (ms0_1 t) (hs0_1 t) (ms0_2 t) (hs0_2 t) (ms0_3 t) (hs0_3 t) (ms0_4 t) (hs0_4 t)
      x0 x1 x2 x3
  unfold out0_A_4
  rw [View.read_writes_eq_canon _ _ _ hc, run_stores]
  unfold stores
  canon_tiles x h
  all_goals first
    | exact stored_at _ _ _ _ _ x h1 h2
    | exact stored_at _ _ _ _ _ x h1 (h2.trans (Nat.zero_add _).symm)

end Cert.KernelIdeal.Sb
-- ==== Proof.Sb.Ref.lean ====
module

public import proofs.«01_k».proof.Proof.Sb.Real
public import proofs.«01_k».proof.Proof.Gen.ReferenceIdeal.Read

@[expose] public section

set_option maxRecDepth 16384

noncomputable section

/-!
# The reference of the attention call at an index

Where the logits of a row are finite, the reference's result is the sum of the values of the earlier positions under the
weights of `Real`.
-/

namespace Cert.ReferenceIdeal.Sb
open Cert.ReferenceIdeal Cert.ReferenceIdeal.Gen Cert.ReferenceIdeal.Read Idealize.ShloMosaic Cert.KernelIdeal.Sb

/-- Adding a list of numbers one after another. -/
theorem foldl_add {α : Type} (l : List α) (f : α → EReal) (a : EReal) :
    l.foldl (fun r n => r + f n) a = a + (l.map f).sum := by
  induction l generalizing a with
  | nil => exact (add_zero a).symm
  | cons x l ih => rw [List.foldl_cons, ih, List.map_cons, List.sum_cons, add_assoc]

/-- The window of the reversed running sum. -/
abbrev W : Shape := ⟨4, ![1, 1, 1, 2048]⟩

/-- Place `n` of the window lies `n` columns to the right. -/
theorem window_at (n : Fin W.numel) : ((W.rowMajor.symm n) 0).val = 0 ∧ ((W.rowMajor.symm n) 1).val = 0
    ∧ ((W.rowMajor.symm n) 2).val = 0 ∧ ((W.rowMajor.symm n) 3).val = n.val := by
  have h0 : ((W.rowMajor.symm n) 0).val < 1 := ((W.rowMajor.symm n) 0).isLt
  have h1 : ((W.rowMajor.symm n) 1).val < 1 := ((W.rowMajor.symm n) 1).isLt
  have h2 : ((W.rowMajor.symm n) 2).val < 1 := ((W.rowMajor.symm n) 2).isLt
  have e := congrArg Fin.val (W.rowMajor.apply_symm_apply n)
  rw [Shape.rowMajor_val_four] at e
  have e' : ((((W.rowMajor.symm n) 0).val * 1 + ((W.rowMajor.symm n) 1).val) * 1 + ((W.rowMajor.symm n) 2).val) * 2048
    + ((W.rowMajor.symm n) 3).val = n.val := e
  omega

/-- The window has 2048 places. -/
theorem window_size : W.numel = 2048 := by decide

/-- The reversed running sum along a row: the sum from the position on. -/
theorem reversed_sum (x : FVec Ideal S4x8x2048x2048 .f32) (u : FVec Ideal S_ .f32) (hu : u (Shape.Idx.first h_S_) = 0)
    (b : Fin 4) (h : Fin 8) (q s : Fin 2048) (f : ℕ → EReal) (hx : ∀ k : Fin 2048, x (ix4 b h q k) = f k.val) :
    Host.reduceWindowAdd ![1, 1, 1, 2048] ![1, 1, 1, 1] ![0, 0, 0, 0] ![0, 0, 0, 2047] x u
      reduceWindows_S4x8x2048x2048_S4x8x2048x2048_w1s1p0_0_w1s1p0_0_w1s1p0_0_w2048s1p0_2047 h_S_ (ix4 b h q s)
      = ∑ k ∈ Finset.Ico s.val 2048, f k := by
  have hs := s.isLt
  have key : ∀ n : Fin W.numel, (if 0 ≤ n.val ∧ n.val < 2048 - s.val then f (s.val + n.val) else 0)
      = (fun n : Fin W.numel => if 0 ≤ n.val ∧ n.val < 2048 - s.val then f (s.val + n.val) else 0) n := fun n => rfl
  have e := sum_block f s.val 0 (2048 - s.val) W.numel (by rw [window_size]; omega)
  rw [Nat.add_zero, show s.val + (2048 - s.val) = 2048 by omega] at e
  rw [← e]
  unfold Host.reduceWindowAdd
  rw [Ideal.hostReduceWindowAdd_def]
  unfold Ideal.hostReduceWindowAdd Host.reduceWindow
  rw [foldl_add, hu, zero_add, ← List.ofFn_eq_map, List.sum_ofFn]
  refine Finset.sum_congr rfl fun n _ => ?_
  obtain ⟨w0, w1, w2, w3⟩ := window_at n
  have hn : n.val < 2048 := lt_of_lt_of_eq n.isLt window_size
  dsimp only
  split
  · next hin =>
    have h3 : 0 ≤ s.val * 1 + ((W.rowMajor.symm n) 3).val ∧ s.val * 1 + ((W.rowMajor.symm n) 3).val - 0 < 2048 := hin 3
    rw [w3] at h3
    rw [if_pos (by omega)]
    refine Eq.trans (congrArg x (funext fun a => Fin.ext ?_)) (hx ⟨s.val + n.val, by omega⟩)
    match a with
    | ⟨0, _⟩ => show b.val * 1 + ((W.rowMajor.symm n) 0).val - 0 = b.val; omega
    | ⟨1, _⟩ => show h.val * 1 + ((W.rowMajor.symm n) 1).val - 0 = h.val; omega
    | ⟨2, _⟩ => show q.val * 1 + ((W.rowMajor.symm n) 2).val - 0 = q.val; omega
    | ⟨3, _⟩ => show s.val * 1 + ((W.rowMajor.symm n) 3).val - 0 = s.val + n.val; omega
  · next hin =>
    rw [if_neg fun hlt => hin fun a => by
      match a with
      | ⟨0, _⟩ => show 0 ≤ b.val * 1 + ((W.rowMajor.symm n) 0).val ∧ b.val * 1 + ((W.rowMajor.symm n) 0).val - 0 < 4; omega
      | ⟨1, _⟩ => show 0 ≤ h.val * 1 + ((W.rowMajor.symm n) 1).val ∧ h.val * 1 + ((W.rowMajor.symm n) 1).val - 0 < 8; omega
      | ⟨2, _⟩ => show 0 ≤ q.val * 1 + ((W.rowMajor.symm n) 2).val ∧ q.val * 1 + ((W.rowMajor.symm n) 2).val - 0 < 2048; omega
      | ⟨3, _⟩ => show 0 ≤ s.val * 1 + ((W.rowMajor.symm n) 3).val ∧ s.val * 1 + ((W.rowMajor.symm n) 3).val - 0 < 2048; omega]

/-- The reference's softplus of a finite number. -/
theorem softplus_coe (z : ℝ) :
    Scalar.select (Ideal.cmp .une ((z : EReal) - 0) ((z : EReal) - 0)) ((z : EReal) + 0)
      (max (z : EReal) 0 + Ideal.log (1 + Ideal.exp (-(max ((z : EReal) - 0) (-((z : EReal) - 0)))))) = ((spr z : ℝ) : EReal) := by
  have hc : Ideal.cmp .une ((z : EReal) - 0) ((z : EReal) - 0) = 0#1 := by simp [Ideal.cmp]
  rw [hc, sub_zero, ← sp_coe]
  unfold sp
  rw [zero_sub]
  rfl

variable (x0 : FVec Ideal S8 .f32) (x1 : FVec Ideal S8192x1024 .bf16) (x2 x3 : FVec Ideal S8192x1024 .f32)

/-- The logarithm of one minus the gate. -/
theorem v16_at (i : S4x8x2048x2048.Idx) (z : ℝ) (hz : val_main_v7 (F := Ideal) x0 x1 x2 i = (z : EReal)) :
    val_main_v16 (F := Ideal) x0 x1 x2 i = ((-spr z : ℝ) : EReal) := by
  have e := softplus_coe z
  rw [val_main_v16_apply, EReal.coe_neg, ← e]
  simp only [val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply, val_main_call0_v0_apply, val_main_v15_apply, hz]
  have hn : FloatOps.hostNegf (F := Ideal) (φ := .f32) (FloatOps.hostNegf (F := Ideal) (φ := .f32) (z : EReal)) = (z : EReal) := neg_neg _
  have h0 : (FloatOps.ofBits (F := Ideal) .f32 0x00000000#32) = (0 : EReal) := Ideal.ofBits_zero_f32
  rw [hn, h0]
  rfl

/-- The logarithm of the gate. -/
theorem v20_at (i : S4x8x2048x2048.Idx) (z : ℝ) (hz : val_main_v7 (F := Ideal) x0 x1 x2 i = (z : EReal)) :
    val_main_v20 (F := Ideal) x0 x1 x2 i = ((z - spr z : ℝ) : EReal) := by
  have e := softplus_coe (-z)
  rw [val_main_v20_apply, show z - spr z = -spr (-z) by rw [spr_neg]; ring, EReal.coe_neg, ← e]
  simp only [val_main_call3_v1_apply, val_main_call3_call0_v11_apply, val_main_call3_call0_v10_apply, val_main_call3_call0_v9_apply,
    val_main_call3_call0_v8_apply, val_main_call3_call0_v7_apply, val_main_call3_call0_v6_apply, val_main_call3_call0_v5_apply,
    val_main_call3_call0_v4_apply, val_main_call3_call0_v3_apply, val_main_call3_call0_v2_apply, val_main_call3_call0_v1_apply,
    val_main_call3_call0_v0_apply, val_main_call3_call0_cst_apply, val_main_call3_v0_apply, hz]
  have hn : FloatOps.hostNegf (F := Ideal) (φ := .f32) (z : EReal) = ((-z : ℝ) : EReal) := (EReal.coe_neg z).symm
  have h0 : (FloatOps.ofBits (F := Ideal) .f32 0x00000000#32) = (0 : EReal) := Ideal.ofBits_zero_f32
  rw [hn, h0]
  rfl

/-- The word of minus infinity. -/
theorem word_neg_inf : Ideal.ofBits .f32 0xFF800000#32 = ⊥ := by
  have e : (BitVec.extractLsb' 31 1 0xFF800000#32 == 1#1) = true := by decide
  have e1 : (BitVec.extractLsb' 23 8 0xFF800000#32).toNat = 255 := by decide
  have e2 : (BitVec.extractLsb' 0 23 0xFF800000#32).toNat = 0 := by decide
  show Ideal.ieee 8 23 0xFF800000#32 = ⊥
  unfold Ideal.ieee
  dsimp only
  rw [e, e1, e2]
  rfl

/-- The choice by the causal mask. -/
theorem causal_at (i : S1x1x2048x2048.Idx) {α : Type} (x y : α) :
    Scalar.select (val_main_v14 (F := Ideal) i) x y = if (i 3).val < (i 2).val then x else y := by
  rw [val_main_v14_apply, val_main_v13_apply, val_main_v11_apply, val_main_v12_apply, val_main_v9_apply, val_main_v10_apply,
    val_main_v8_apply, val_main_v8_apply]
  exact select_slt _ _ (i 3).isLt (i 2).isLt x y

/-- The reference's weights. -/
theorem v23_at (b : Fin 4) (h : Fin 8) (q s : Fin 2048) (z : ℕ → ℝ)
    (hz : ∀ k : Fin 2048, val_main_v7 (F := Ideal) x0 x1 x2 (ix4 b h q k) = ((z k.val : ℝ) : EReal)) :
    val_main_v23 (F := Ideal) x0 x1 x2 (ix4 b h q s)
      = if s.val < q.val then ((weight z q.val s.val : ℝ) : EReal) else 0 := by
  have h17 : ∀ k : Fin 2048, val_main_v17 (F := Ideal) x0 x1 x2 (ix4 b h q k)
      = (fun k : ℕ => ((-(if k < q.val then spr (z k) else 0) : ℝ) : EReal)) k.val := fun k => by
    rw [val_main_v17_apply, val_main_call1_v1_apply, causal_at, v16_at x0 x1 x2 _ _ (hz k), val_main_call1_v2_apply]
    show (if k.val < q.val then _ else _) = _
    by_cases hk : k.val < q.val
    · simp only [if_pos hk]
    · simp only [if_neg hk, neg_zero]; exact Ideal.ofBits_zero_f32
  have h18 : val_main_v18 (F := Ideal) x0 x1 x2 (ix4 b h q s)
      = ((-∑ k ∈ Finset.Ico s.val 2048, (if k < q.val then spr (z k) else 0) : ℝ) : EReal) := by
    unfold val_main_v18
    rw [reversed_sum _ _ Ideal.ofBits_zero_f32 b h q s (fun k : ℕ => ((-(if k < q.val then spr (z k) else 0) : ℝ) : EReal)) h17, coe_sum, Finset.sum_neg_distrib]
  rw [val_main_v23_apply, val_main_v22_apply, val_main_call4_v1_apply, causal_at, val_main_v21_apply, val_main_v19_apply,
    v20_at x0 x1 x2 _ _ (hz s), h18, h17 s, val_main_call4_v2_apply]
  show Ideal.exp (if s.val < q.val then _ else _) = _
  by_cases hk : s.val < q.val
  · rw [if_pos hk, if_pos hk]
    simp only [if_pos hk]
    show Ideal.exp (((z s.val - spr (z s.val) : ℝ) : EReal) + (((-∑ k ∈ Finset.Ico s.val 2048, (if k < q.val then spr (z k) else 0) : ℝ) : EReal)
      - ((-spr (z s.val) : ℝ) : EReal))) = _
    rw [← EReal.coe_sub, ← EReal.coe_add]
    show ((Real.exp _ : ℝ) : EReal) = _
    unfold weight
    refine congrArg (fun x : ℝ => ((Real.exp x : ℝ) : EReal)) ?_
    have hq := q.isLt
    have e : ∑ k ∈ Finset.Ico s.val 2048, (if k < q.val then spr (z k) else 0) = ∑ k ∈ Finset.Ico s.val q.val, spr (z k) := by
      rw [← Finset.sum_filter]
      refine Finset.sum_congr (Finset.ext fun k => ?_) fun _ _ => rfl
      simp only [Finset.mem_filter, Finset.mem_Ico]
      omega
    rw [e, Finset.sum_eq_sum_Ico_succ_bot hk]
    ring
  · rw [if_neg hk, if_neg hk]
    have hb : val_main_call4_v0 (F := Ideal) (idx_main_call4_v2 (ix4 b h q s)) = (⊥ : EReal) := word_neg_inf
    rw [hb]
    rfl

/-- The reference's result. -/
theorem v27_at (b : Fin 4) (q : Fin 2048) (h : Fin 8) (d : Fin 128) (z : ℕ → ℝ)
    (hz : ∀ k : Fin 2048, val_main_v7 (F := Ideal) x0 x1 x2 (ix4 b h q k) = ((z k.val : ℝ) : EReal))
    (v : ℕ → EReal) (hv : ∀ k : Fin 2048, val_main_v3 (F := Ideal) x3 (ix4 b k h d) = v k.val) :
    val_main_v27 (F := Ideal) x0 x1 x2 x3 (ix3 b q (col h d))
      = ∑ s ∈ Finset.Ico 0 q.val, ((weight z q.val s : ℝ) : EReal) * v s := by
  have hh := h.isLt
  have hd := d.isLt
  have hq := q.isLt
  have hb := b.isLt
  have ei : idx_main_v25 (idx_main_v26 (ix3 b q (col h d))) = ix4 b h d q := funext fun a => Fin.ext (by
    match a with
    | ⟨0, _⟩ => show ((b.val * 2048 + q.val) * 1024 + (128 * h.val + d.val)) / 2097152 = b.val; omega
    | ⟨1, _⟩ => show ((b.val * 2048 + q.val) * 1024 + (128 * h.val + d.val)) / 128 % 8 = h.val; omega
    | ⟨2, _⟩ => show ((b.val * 2048 + q.val) * 1024 + (128 * h.val + d.val)) % 128 = d.val; omega
    | ⟨3, _⟩ => show ((b.val * 2048 + q.val) * 1024 + (128 * h.val + d.val)) / 1024 % 2048 = q.val; omega)
  rw [val_main_v27_apply, val_main_v26_apply, val_main_v25_apply, ei]
  show val_main_v24 (F := Ideal) x0 x1 x2 x3 (ix4 b h d q) = _
  rw [val_main_v24_apply]
  have e := sum_block (fun s => ((weight z q.val s : ℝ) : EReal) * v s) 0 0 q.val 2048 (by omega)
  simp only [Nat.zero_add] at e
  rw [← e]
  refine Finset.sum_congr rfl fun k _ => ?_
  have el : lidx_main_v24 (ix4 b h d q) k = ix4 b k h d := funext fun a => Fin.ext (by
    match a with | ⟨0, _⟩ => rfl | ⟨1, _⟩ => rfl | ⟨2, _⟩ => rfl | ⟨3, _⟩ => rfl)
  have er : ridx_main_v24 (ix4 b h d q) k = ix4 b h q k := funext fun a => Fin.ext (by
    match a with | ⟨0, _⟩ => rfl | ⟨1, _⟩ => rfl | ⟨2, _⟩ => rfl | ⟨3, _⟩ => rfl)
  rw [el, er, hv, v23_at x0 x1 x2 b h q k z hz]
  by_cases hk : k.val < q.val
  · rw [if_pos hk, if_pos ⟨Nat.zero_le _, hk⟩, mul_comm]
  · rw [if_neg hk, if_neg fun h => hk h.2, mul_zero]

end Cert.ReferenceIdeal.Sb
-- ==== Proof.Sb.Value.lean ====
module

public import proofs.«01_k».proof.Defs
public import proofs.«01_k».proof.Proof.Sb.Block
public import proofs.«01_k».proof.Proof.Sb.Ref
public import proofs.«01_k».proof.Proof.Gen.KernelIdeal.Value
public import proofs.«01_k».proof.Proof.Gen.Pre_finite_logits
public import Idealize.ShloMosaic.Lib.Claim

@[expose] public section

set_option maxRecDepth 16384

noncomputable section

/-!
# The array of the attention call

The array the kernel leaves is the reference's result, where the arguments of the logits are finite.
-/

namespace Cert.KernelIdeal.Sb
open Cert.KernelIdeal Cert.KernelIdeal.Gen Idealize.ShloMosaic Idealize.ShloMosaic.TcCoe Idealize.SL.Sem

variable (m : (ℓ : Loc nD τ sig) → Buf (Elt Ideal) ℓ) (c : Dev nD)

/-- The bias, the queries, the keys and the values that the run starts with. -/
abbrev a0 : FVec Ideal S8 .f32 := m ((c : Thread nD τ).loc main_arg0)
abbrev a1 : FVec Ideal S8192x1024 .bf16 := m ((c : Thread nD τ).loc main_arg1)
abbrev a2 : FVec Ideal S8192x1024 .f32 := m ((c : Thread nD τ).loc main_arg2)
abbrev a3 : FVec Ideal S8192x1024 .f32 := m ((c : Thread nD τ).loc main_arg3)

/-- Position `q` of sequence `b` as a row of the argument arrays. -/
def pos (b : Fin 4) (q : Fin 2048) : Fin 8192 := ⟨2048 * b.val + q.val, by omega⟩

/-- The windows' blocks: the sequence follows the outer coordinate, the query block the inner one. -/
theorem idx : ∀ t : Fin cfg0.N, win0_0.index t (0 : Fin 1) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = t.val % 8 ∧ win0_4.index t (2 : Fin 3) = 0
    ∧ (grid0.coords t 2).val = t.val % 8 :=
  (by decide +kernel : ∀ t : Fin grid0.N, _)

theorem lt_N (t : Fin cfg0.N) : t.val < 32 := lt_of_lt_of_eq t.isLt N_0

/-- The sequence of a grid point. -/
def seq (t : Fin cfg0.N) : Fin 4 := ⟨t.val / 8, by have := lt_N t; omega⟩

theorem blk0 (t : Fin cfg0.N) (g : Fin 8) : headB (iblk m c 0 t) g = a0 m c (ix1 g) := by
  unfold headB
  blk_point [iblk, V, idx t]

theorem blk1 (t : Fin cfg0.N) (r : Fin 256) (d : Fin 1024) :
    (iblk m c 1 t : Vec Ideal S1x256x1024 .bf16) (ix3 (0 : Fin 1) r d) = a1 m c (ix2 (pos (seq t) ⟨256 * (t.val % 8) + r.val, by omega⟩) d) := by
  have := lt_N t
  blk_simp [iblk]
  entry_read
  pointwise
  blk_ext [idx t, pos, seq]

theorem blk2 (t : Fin cfg0.N) (s : Fin 2048) (d : Fin 1024) :
    (iblk m c 2 t : Vec Ideal S1x2048x1024 .f32) (ix3 (0 : Fin 1) s d) = a2 m c (ix2 (pos (seq t) s) d) := by
  have := lt_N t
  blk_simp [iblk]
  entry_read
  pointwise
  blk_ext [idx t, pos, seq]

theorem blk3 (t : Fin cfg0.N) (s : Fin 2048) (d : Fin 1024) :
    (iblk m c 3 t : Vec Ideal S1x2048x1024 .f32) (ix3 (0 : Fin 1) s d) = a3 m c (ix2 (pos (seq t) s) d) := by
  have := lt_N t
  blk_simp [iblk]
  entry_read
  pointwise
  blk_ext [idx t, pos, seq]

/-- A position of the reshaped arguments. -/
theorem reshaped (b : Fin 4) (s : Fin 2048) (g : Fin 8) (d : Fin 128) :
    Cert.ReferenceIdeal.Read.idx_main_v3 (ix4 b s g d) = ix2 (pos b s) (col g d) := funext fun a => Fin.ext (by
  have := b.isLt; have := s.isLt; have := g.isLt; have := d.isLt
  match a with
  | ⟨0, _⟩ => show (((b.val * 2048 + s.val) * 8 + g.val) * 128 + d.val) / 1024 = 2048 * b.val + s.val; omega
  | ⟨1, _⟩ => show (((b.val * 2048 + s.val) * 8 + g.val) * 128 + d.val) % 1024 = 128 * g.val + d.val; omega)

/-- The reference's logits of the arguments. -/
theorem logits_ref (b : Fin 4) (g : Fin 8) (q s : Fin 2048) (x0 : FVec Ideal S8 .f32) (x1 : FVec Ideal S8192x1024 .bf16)
    (x2 : FVec Ideal S8192x1024 .f32) :
    Cert.ReferenceIdeal.Read.val_main_v7 (F := Ideal) x0 x1 x2 (ix4 b g q s)
      = (∑ d : Fin 128, x1 (ix2 (pos b q) (col g d)) * x2 (ix2 (pos b s) (col g d))) + x0 (ix1 g) := by
  rw [Cert.ReferenceIdeal.Read.val_main_v7_apply, Cert.ReferenceIdeal.Read.val_main_v6_apply, Cert.ReferenceIdeal.Read.val_main_v5_apply,
    Cert.ReferenceIdeal.Read.val_main_v4_apply]
  refine congrArg₂ (fun a b : EReal => a + b) (Finset.sum_congr rfl fun d _ => ?_) (congrArg x0 ?_)
  · rw [Cert.ReferenceIdeal.Read.val_main_v1_apply, Cert.ReferenceIdeal.Read.val_main_v0_apply, Cert.ReferenceIdeal.Read.val_main_v2_apply]
    exact congrArg₂ (fun a b : EReal => a * b) (congrArg x1 (reshaped b q g d)) (congrArg x2 (reshaped b s g d))
  · funext a
    match a with
    | ⟨0, _⟩ => rfl

/-- An extended real smaller in absolute value than infinity is a real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by
    have e : (BitVec.extractLsb' 31 1 0x7F800000#32 == 1#1) = false := by decide
    have e1 : (BitVec.extractLsb' 23 8 0x7F800000#32).toNat = 255 := by decide
    have e2 : (BitVec.extractLsb' 0 23 0x7F800000#32).toNat = 0 := by decide
    show Ideal.ieee 8 23 0x7F800000#32 = ⊤
    unfold Ideal.ieee
    dsimp only
    rw [e, e1, e2]
    rfl
  rw [ht] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- What the precondition says: the bias, the queries and the keys are finite. -/
def Finite : Prop := (∀ g, ∃ r : ℝ, a0 m c g = (r : EReal)) ∧ (∀ i, ∃ r : ℝ, a1 m c i = (r : EReal)) ∧ ∀ i, ∃ r : ℝ, a2 m c i = (r : EReal)

theorem finite_of_pre (h : Pre_KernelIdeal_finite_logits (hPre_finite_logits := Cert.Pre_finite_logits.Gen.facts) m) : Finite m c := by
  obtain ⟨h0, h1, h2⟩ := h c
  refine ⟨fun g => real_of_abs_lt _ ?_, fun i => real_of_abs_lt _ ?_, fun i => real_of_abs_lt _ ?_⟩
  · exact congrFun h0 g
  · exact congrFun h1 i
  · exact congrFun h2 i

/-- Then the logits of a row are finite. -/
theorem finite_row (hf : Finite m c) (b : Fin 4) (g : Fin 8) (q : Fin 2048) : ∃ z : ℕ → ℝ, ∀ s : Fin 2048,
    (∑ d : Fin 128, a1 m c (ix2 (pos b q) (col g d)) * a2 m c (ix2 (pos b s) (col g d))) + a0 m c (ix1 g) = ((z s.val : ℝ) : EReal) := by
  obtain ⟨h0, h1, h2⟩ := hf
  choose f0 h0 using h0
  choose f1 h1 using h1
  choose f2 h2 using h2
  refine ⟨fun n => if hn : n < 2048 then (∑ d : Fin 128, f1 (ix2 (pos b q) (col g d)) * f2 (ix2 (pos b ⟨n, hn⟩) (col g d))) + f0 (ix1 g) else 0, fun s => ?_⟩
  beta_reduce
  rw [dif_pos s.isLt, EReal.coe_add, ← coe_sum, h0]
  congr 1
  exact Finset.sum_congr rfl fun d _ => by rw [h1, h2, EReal.coe_mul]

/-- The array the kernel leaves is the reference's result. -/
theorem final (hf : Finite m c) : (dats m 0 c).arrAt 4 cfg0.N
    = Cert.ReferenceIdeal.Read.val_main_v27 (F := Ideal) (a0 m c) (a1 m c) (a2 m c) (a3 m c) := by
  refine (dats m 0 c).arrAt_eq_of_covers 4 _ (by decide +kernel) fun t _ y => ?_
  blk_simp
  rw [after0_4]
  unfold outsAt0
  have hN := lt_N t
  obtain ⟨r, g, d, hy⟩ : ∃ (r : Fin 256) (g : Fin 8) (d : Fin 128), y = ix3 (0 : Fin 1) r (col g d) := by
    have h0 : (y 0).val < 1 := (y 0).isLt
    have h1 : (y 1).val < 256 := (y 1).isLt
    have h2 : (y 2).val < 1024 := (y 2).isLt
    refine ⟨⟨(y 1).val, h1⟩, ⟨(y 2).val / 128, by omega⟩, ⟨(y 2).val % 128, Nat.mod_lt _ (by decide)⟩, funext fun a => Fin.ext ?_⟩
    match a with
    | ⟨0, _⟩ => show (y 0).val = 0; omega
    | ⟨1, _⟩ => rfl
    | ⟨2, _⟩ => show (y 2).val = 128 * ((y 2).val / 128) + (y 2).val % 128; omega
  subst hy
  have hg : (grid0.coords t 2).val = t.val % 8 := (idx t).2.2.2.2.2.2.2.2.2.2.2.2.2
  have hq : 256 * (t.val % 8) + r.val < 2048 := by omega
  obtain ⟨z, hz⟩ := finite_row m c hf (seq t) g ⟨256 * (t.val % 8) + r.val, hq⟩
  have hw := walk_holds (headB (iblk m c 0 t)) (headQ (iblk m c 1 t)) (iblk m c 2 t) (iblk m c 3 t) (grid0.coords t 2).val
    (grid0.coords t 2).isLt g r z (fun n d => if hn : n < 2048 then a3 m c (ix2 (pos (seq t) ⟨n, hn⟩) (col g d)) else 0)
    (fun s => by
      rw [← hz s, blk0]
      congr 1
      exact Finset.sum_congr rfl fun d _ => by rw [headQ_at, blk1, blk2])
    (fun s d => by rw [blk3, dif_pos s.isLt]) _ (le_refl _)
  have he := hw.2 d
  have hr := Cert.ReferenceIdeal.Sb.v27_at (a0 m c) (a1 m c) (a2 m c) (a3 m c) (seq t) ⟨256 * (t.val % 8) + r.val, hq⟩ g d z
    (fun k => by rw [logits_ref, hz])
    (fun n => if hn : n < 2048 then a3 m c (ix2 (pos (seq t) ⟨n, hn⟩) (col g d)) else 0)
    (fun k => by
      rw [Cert.ReferenceIdeal.Read.val_main_v3_apply, reshaped, dif_pos k.isLt])
  rw [Nat.sub_self, Nat.mul_zero] at he
  refine (out_at c t _ _ _ _ r g d).trans (he.trans ?_)
  rw [hg]
  refine hr.symm.trans ?_
  congr 1
  blk_ext [idx t, seq]

end Cert.KernelIdeal.Sb
-- ==== Proof.MixOut.Pure.lean ====
module

public import proofs.«01_k».proof.Proof.Gen.MixOutIdeal.Value
public import proofs.«01_k».proof.Proof.Gen.MixOutReferenceIdeal.Read
public import Idealize.ShloMosaic.Lib.Pointwise

@[expose] public section

set_option maxRecDepth 16384

noncomputable section

open Idealize.ShloMosaic Idealize.ShloMosaic.TcCoe Idealize.SL.Sem

namespace Cert.MixOutIdeal.Pure

open Cert.MixOutIdeal

variable (x0 x1 : Vec Ideal S8192x1024 .bf16) (x2 : Vec Ideal S2048x2048 .f32) (x3 : Vec Ideal S8192x2048 .f32)
  (x4 : Vec Ideal S2048 .f32) (x5 : Vec Ideal S2048x512 .f32) (x6 : Vec Ideal S128 .f32)
  (R : Fin 512 → Fin 8192)

/-- The two mixers' outputs side by side times the output projection: the sum over the first mixer's columns plus the
    sum over the second's. -/
theorem proj_split (i : Fin 8192) (k : Fin 2048) :
    Cert.MixOutReferenceIdeal.Read.val_main_v3 (F := Ideal) x0 x1 x2 (ix2 i k) =
      (∑ q : Fin 1024, x0 (ix2 i q) * x2 (ix2 (⟨q.val, by omega⟩ : Fin 2048) k))
      + ∑ q : Fin 1024, x1 (ix2 i q) * x2 (ix2 (⟨1024 + q.val, by omega⟩ : Fin 2048) k) := by
  rw [Cert.MixOutReferenceIdeal.Read.val_main_v3_apply]
  rw [Fin.sum_univ_add (a := 1024) (b := 1024)]
  congr 1
  · refine Finset.sum_congr rfl fun q _ => ?_
    pointwise! [Cert.MixOutReferenceIdeal.Read.val_main_v2, Cert.MixOutReferenceIdeal.Read.val_main_v0]
    rw [dif_pos (show (Fin.castAdd 1024 q).val < 1024 from q.isLt)]
    exact congrArg₂ (· * ·) rfl (congrArg x2 (funext fun a => by fin_cases a <;> rfl))
  · refine Finset.sum_congr rfl fun q _ => ?_
    pointwise! [Cert.MixOutReferenceIdeal.Read.val_main_v2, Cert.MixOutReferenceIdeal.Read.val_main_v1]
    rw [dif_neg (show ¬ (Fin.natAdd 1024 q).val < 1024 from by show ¬ 1024 + q.val < 1024; omega)]
    exact congrArg₂ (· * ·) (congrArg x1 (congrArg (ix2 i) (Fin.ext (by show 1024 + q.val - 1024 = _; omega))))
      (congrArg x2 (funext fun a => by fin_cases a <;> rfl))

variable (b0 b1 : Vec Ideal S512x1024 .bf16) (w0 w1 : Vec Ideal S1024x2048 .bf16) (b3 : Vec Ideal S512x2048 .f32)
  (b4 : Vec Ideal S1x2048 .f32) (b5 : Vec Ideal S2048x512 .bf16)

/-- The block of the stream that a point stores is the reference's stream at the block's rows. -/
theorem stream_eq
    (h0 : ∀ (r : Fin 512) (q : Fin 1024), b0 (ix2 r q : S512x1024.Idx) = x0 (ix2 (R r) q))
    (h1 : ∀ (r : Fin 512) (q : Fin 1024), b1 (ix2 r q : S512x1024.Idx) = x1 (ix2 (R r) q))
    (hw0 : ∀ (q : Fin 1024) (k : Fin 2048), w0 (ix2 q k : S1024x2048.Idx) = x2 (ix2 (⟨q.val, by omega⟩ : Fin 2048) k))
    (hw1 : ∀ (q : Fin 1024) (k : Fin 2048), w1 (ix2 q k : S1024x2048.Idx) = x2 (ix2 (⟨1024 + q.val, by omega⟩ : Fin 2048) k))
    (h3 : ∀ (r : Fin 512) (k : Fin 2048), b3 (ix2 r k : S512x2048.Idx) = x3 (ix2 (R r) k))
    (r : Fin 512) (k : Fin 2048) :
    Gen.k0_pay2 b3 b0 w0 b1 w1 (ix2 r k : S512x2048.Idx) = Cert.MixOutReferenceIdeal.Read.val_main_v4 (F := Ideal) x0 x1 x2 x3 (ix2 (R r) k) := by
  have e := proj_split x0 x1 x2 (R r) k
  pointwise! [Gen.k0_pay2, Cert.MixOutReferenceIdeal.Read.val_main_v4, h0, h1, hw0, hw1, h3]
  rw [e, add_assoc]

open Cert.MixOutReferenceIdeal.Read in
/-- The block of queries before the heads' norms is the reference's at the block's rows. -/
theorem query_eq
    (hs : ∀ (r : Fin 512) (k : Fin 2048), Gen.k0_pay2 b3 b0 w0 b1 w1 (ix2 r k : S512x2048.Idx) = val_main_v4 (F := Ideal) x0 x1 x2 x3 (ix2 (R r) k))
    (h4 : ∀ k : Fin 2048, b4 (ix2 0 k : S1x2048.Idx) = x4 (ix1 k))
    (h5 : ∀ (k : Fin 2048) (n : Fin 512), b5 (ix2 k n : S2048x512.Idx) = x5 (ix2 k n)) (r : Fin 512) (n : Fin 512) :
    Gen.k0_pay3 b3 b0 w0 b1 w1 b4 b5 (ix2 r n : S512x512.Idx) = val_main_v18 (F := Ideal) x0 x1 x2 x3 x4 x5 (ix2 (R r) n) := by
  pointwise! [Gen.k0_pay3, hs, h4, h5, val_main_v18, val_main_v17, val_main_v16, val_main_v15, val_main_v14, val_main_v13, val_main_v12,
    val_main_v11, val_main_v10, val_main_v9, val_main_v8, val_main_v7, val_main_v6, val_main_v5, val_main_cst, val_main_cst_0, val_main_cst_1]

variable (v29 : Vec Ideal S512x512 .f32) (v31 : Vec Ideal S1x128 .f32)

open Cert.MixOutReferenceIdeal.Read in
/-- Head 0 of the block's queries, normalised, is the reference's head 0 at the block's rows. -/
theorem head0_eq (v32 v33 : Vec Ideal S512x128 .f32)
    (h32 : ∀ (r : Fin 512) (l : Fin 128), v32 (ix2 r l : S512x128.Idx) = val_main_v18 (F := Ideal) x0 x1 x2 x3 x4 x5 (ix2 (R r) (⟨l.val, by omega⟩ : Fin 512)))
    (h33 : ∀ (r : Fin 512) (l : Fin 128), v33 (ix2 r l : S512x128.Idx) = v32 (ix2 r l) * v32 (ix2 r l))
    (h31 : ∀ l : Fin 128, v31 (ix2 0 l : S1x128.Idx) = x6 (ix1 l)) (r : Fin 512) (l : Fin 128) :
    (Gen.k0_pay7 (F := Ideal) v31 v32 v33 (ix2 r l : S512x128.Idx) : EReal) = val_main_v32 (F := Ideal) x0 x1 x2 x3 x4 x5 x6 (ix3 (R r) (0 : Fin 4) l) := by
  pointwise! [Gen.k0_pay7, h33, h32, h31, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

open Cert.MixOutReferenceIdeal.Read in
/-- Head 1 of the block's queries, normalised, is the reference's head 1 at the block's rows. -/
theorem head1_eq (h29 : ∀ (r : Fin 512) (k : Fin 512), v29 (ix2 r k : S512x512.Idx) = val_main_v18 (F := Ideal) x0 x1 x2 x3 x4 x5 (ix2 (R r) k))
    (h31 : ∀ l : Fin 128, v31 (ix2 0 l : S1x128.Idx) = x6 (ix1 l)) (r : Fin 512) (l : Fin 128) :
    (Gen.k0_pay8 (F := Ideal) v29 v31 (ix2 r l : S512x128.Idx) : EReal) = val_main_v32 (F := Ideal) x0 x1 x2 x3 x4 x5 x6 (ix3 (R r) (1 : Fin 4) l) := by
  pointwise! [Gen.k0_pay8, h29, h31, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

open Cert.MixOutReferenceIdeal.Read in
/-- Head 2 of the block's queries, normalised, is the reference's head 2 at the block's rows. -/
theorem head2_eq (h29 : ∀ (r : Fin 512) (k : Fin 512), v29 (ix2 r k : S512x512.Idx) = val_main_v18 (F := Ideal) x0 x1 x2 x3 x4 x5 (ix2 (R r) k))
    (h31 : ∀ l : Fin 128, v31 (ix2 0 l : S1x128.Idx) = x6 (ix1 l)) (r : Fin 512) (l : Fin 128) :
    (Gen.k0_pay9 (F := Ideal) v29 v31 (ix2 r l : S512x128.Idx) : EReal) = val_main_v32 (F := Ideal) x0 x1 x2 x3 x4 x5 x6 (ix3 (R r) (2 : Fin 4) l) := by
  pointwise! [Gen.k0_pay9, h29, h31, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

open Cert.MixOutReferenceIdeal.Read in
/-- Head 3 of the block's queries, normalised, is the reference's head 3 at the block's rows. -/
theorem head3_eq (h29 : ∀ (r : Fin 512) (k : Fin 512), v29 (ix2 r k : S512x512.Idx) = val_main_v18 (F := Ideal) x0 x1 x2 x3 x4 x5 (ix2 (R r) k))
    (h31 : ∀ l : Fin 128, v31 (ix2 0 l : S1x128.Idx) = x6 (ix1 l)) (r : Fin 512) (l : Fin 128) :
    (Gen.k0_pay1 (F := Ideal) v29 v31 (ix2 r l : S512x128.Idx) : EReal) = val_main_v32 (F := Ideal) x0 x1 x2 x3 x4 x5 x6 (ix3 (R r) (3 : Fin 4) l) := by
  pointwise! [Gen.k0_pay1, h29, h31, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

end Cert.MixOutIdeal.Pure

end
-- ==== Proof.MixOut.Value.lean ====
module

public import proofs.«01_k».proof.Proof.MixOut.Pure
public import Idealize.ShloMosaic.Lib.Pipeline.ValueKit

@[expose] public section

set_option maxRecDepth 16384

noncomputable section

open Idealize.ShloMosaic Idealize.ShloMosaic.TcCoe Idealize.SL.Sem

namespace Cert.MixOutIdeal.Layer

open Cert.MixOutIdeal Cert.MixOutIdeal.Gen

variable (m : (ℓ : Loc nD τ sig) → Buf (Elt Ideal) ℓ) (c : Dev nD)

/-- The first mixer's output that the run starts with. -/
abbrev a0 : Vec Ideal S8192x1024 .bf16 := m ((c : Thread nD τ).loc main_arg0)
/-- The second mixer's output that the run starts with. -/
abbrev a1 : Vec Ideal S8192x1024 .bf16 := m ((c : Thread nD τ).loc main_arg1)
/-- The output projection that the run starts with. -/
abbrev a2 : Vec Ideal S2048x2048 .f32 := m ((c : Thread nD τ).loc main_arg2)
/-- The residual stream that the run starts with. -/
abbrev a3 : Vec Ideal S8192x2048 .f32 := m ((c : Thread nD τ).loc main_arg3)
/-- The gain of the norm that the run starts with. -/
abbrev a4 : Vec Ideal S2048 .f32 := m ((c : Thread nD τ).loc main_arg4)
/-- The query projection that the run starts with. -/
abbrev a5 : Vec Ideal S2048x512 .f32 := m ((c : Thread nD τ).loc main_arg5)
/-- The gain of the heads' norm that the run starts with. -/
abbrev a6 : Vec Ideal S128 .f32 := m ((c : Thread nD τ).loc main_arg6)

/-- The windows' block indices at a grid point. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem hz : (![0, 0] : Fin 2 → Nat) = fun _ => 0 := funext fun a => by fin_cases a <;> rfl

variable (t : Fin cfg0.N)

/-- The global row of a row of a point's block. -/
abbrev row (r : Fin 512) : Fin 8192 :=
  ⟨512 * t.val + r.val, by have := lt_of_lt_of_eq t.isLt N_0; have := r.isLt; omega⟩

theorem blk0 (r : Fin 512) (q : Fin 1024) : View.ld (iblk m c 0 t : Vec Ideal S512x1024 .bf16) r0_1 (ix2 r q) = a0 m c (ix2 (row t r) q) := by
  frame_out
  blk_point [iblk, V, idx t]

theorem blk1 (r : Fin 512) (q : Fin 1024) : View.ld (iblk m c 1 t : Vec Ideal S512x1024 .bf16) r0_1 (ix2 r q) = a1 m c (ix2 (row t r) q) := by
  frame_out
  blk_point [iblk, V, idx t]

theorem blk2 (q : Fin 1024) (k : Fin 2048) : View.ld (iblk m c 2 t : Vec Ideal S2048x2048 .bf16) r0_2 (ix2 q k) = a2 m c (ix2 (⟨q.val, by omega⟩ : Fin 2048) k) := by
  blk_point [iblk, V, idx t]

theorem blk2' (q : Fin 1024) (k : Fin 2048) : View.ld (iblk m c 2 t : Vec Ideal S2048x2048 .bf16) r0_3 (ix2 q k) = a2 m c (ix2 (⟨1024 + q.val, by omega⟩ : Fin 2048) k) := by
  blk_point [iblk, V, idx t]

theorem blk3 (r : Fin 512) (k : Fin 2048) : View.ld (iblk m c 3 t : Vec Ideal S512x2048 .f32) r0_0 (ix2 r k) = a3 m c (ix2 (row t r) k) := by
  blk_point [iblk, V, idx t]

theorem gain4 (k : Fin 2048) : (iblk m c 4 t : Vec Ideal S1x2048 .f32) (ix2 0 k) = (m ((c : Thread nD τ).loc main_arg4) : Vec Ideal S2048 .f32) (ix1 k) := by
  blk_point [iblk, V, idx t]

theorem blk4 (k : Fin 2048) : View.ld (iblk m c 4 t : Vec Ideal S1x2048 .f32) r0_4 (ix2 0 k) = a4 m c (ix1 k) := by
  have e : View.ld (iblk m c 4 t : Vec Ideal S1x2048 .f32) r0_4 = (iblk m c 4 t : Vec Ideal S1x2048 .f32) := View.ld_unit_zero (S := S1x2048) hz _ _
  exact (congrFun e _).trans (gain4 m c t k)

theorem blk5 (k : Fin 2048) (n : Fin 512) : View.ld (iblk m c 5 t : Vec Ideal S2048x512 .bf16) r0_5 (ix2 k n) = a5 m c (ix2 k n) := by
  blk_point [iblk, V, idx t]

theorem gain6 (l : Fin 128) : (iblk m c 6 t : Vec Ideal S1x128 .f32) (ix2 0 l) = (m ((c : Thread nD τ).loc main_arg6) : Vec Ideal S128 .f32) (ix1 l) := by
  blk_point [iblk, V, idx t]

theorem blk6 (l : Fin 128) : View.ld (iblk m c 6 t : Vec Ideal S1x128 .f32) r0_6 (ix2 0 l) = a6 m c (ix1 l) := by
  have e : View.ld (iblk m c 6 t : Vec Ideal S1x128 .f32) r0_6 = (iblk m c 6 t : Vec Ideal S1x128 .f32) := View.ld_unit_zero (S := S1x128) hz _ _
  exact (congrFun e _).trans (gain6 m c t l)

/-- What a point stores of the stream. -/
theorem stream_at (r : Fin 512) (k : Fin 2048) :
    k0_pay2 (View.ld (iblk m c 3 t : Vec Ideal S512x2048 .f32) r0_0) (View.ld (iblk m c 0 t : Vec Ideal S512x1024 .bf16) r0_1)
      (View.ld (iblk m c 2 t : Vec Ideal S2048x2048 .bf16) r0_2) (View.ld (iblk m c 1 t : Vec Ideal S512x1024 .bf16) r0_1)
      (View.ld (iblk m c 2 t : Vec Ideal S2048x2048 .bf16) r0_3) (ix2 r k : S512x2048.Idx)
      = Cert.MixOutReferenceIdeal.Read.val_main_v4 (F := Ideal) (a0 m c) (a1 m c) (a2 m c) (a3 m c) (ix2 (row t r) k) :=
  Pure.stream_eq (a0 m c) (a1 m c) (a2 m c) (a3 m c) (row t) _ _ _ _ _ (blk0 m c t) (blk1 m c t) (blk2 m c t) (blk2' m c t) (blk3 m c t) r k

/-- What a point forms of the queries, before the heads' norms. -/
theorem query_at (r : Fin 512) (n : Fin 512) :
    k0_pay10 (iblk m c 0 t) (iblk m c 1 t) (iblk m c 2 t) (iblk m c 3 t) (iblk m c 4 t) (iblk m c 5 t) (iblk m c 6 t) (ix2 r n : S512x512.Idx)
      = Cert.MixOutReferenceIdeal.Read.val_main_v18 (F := Ideal) (a0 m c) (a1 m c) (a2 m c) (a3 m c) (a4 m c) (a5 m c) (ix2 (row t r) n) :=
  Pure.query_eq (a0 m c) (a1 m c) (a2 m c) (a3 m c) (a4 m c) (a5 m c) (row t) _ _ _ _ _ _ _ (stream_at m c t) (blk4 m c t) (blk5 m c t) r n

/-- The heads' gain as a point reads it. -/
theorem gain_at (l : Fin 128) :
    k0_pay11 (iblk m c 0 t) (iblk m c 1 t) (iblk m c 2 t) (iblk m c 3 t) (iblk m c 4 t) (iblk m c 5 t) (iblk m c 6 t) (ix2 0 l : S1x128.Idx)
      = a6 m c (ix1 l) := by
  have e := blk6 m c t l
  unfold k0_pay11
  generalize View.ld (iblk m c 6 t : Vec Ideal S1x128 .f32) r0_6 = y at e
  pointwise! [k0_pay4, e]

/-- The stream that the kernel leaves is the reference's. -/
theorem final7 : (dats m 0 c).arrAt 7 cfg0.N
    = Cert.MixOutReferenceIdeal.Read.val_main_v4 (F := Ideal) (a0 m c) (a1 m c) (a2 m c) (a3 m c) := by
  refine (dats m 0 c).arrAt_eq_of_covers 7 _ (by decide +kernel) fun t _ y => ?_
  blk_simp
  rw [after0_7]
  unfold out0_7
  canon_tiles x h
  obtain ⟨r, k, rfl⟩ : ∃ (r : Fin 512) (k : Fin 2048), x = ix2 r k := ⟨x 0, x 1, by funext a; fin_cases a <;> rfl⟩
  have e0 : (y 0).val = r.val := h0
  have e1 : (y 1).val = k.val := h1
  refine (stream_at m c t r k).trans ?_
  congr 1
  blk_ext [idx t]

/-- An entry of the reference's queries, by its head. -/
theorem queries_at (i : Fin 8192) (h : Fin 4) (l : Fin 128) (n : Fin 512) (hn : n.val = 128 * h.val + l.val) (x0 x1 : Vec Ideal S8192x1024 .bf16)
    (x2 : Vec Ideal S2048x2048 .f32) (x3 : Vec Ideal S8192x2048 .f32)
    (x4 : Vec Ideal S2048 .f32) (x5 : Vec Ideal S2048x512 .f32) (x6 : Vec Ideal S128 .f32) :
    (Cert.MixOutReferenceIdeal.Read.val_main_v34 (F := Ideal) x0 x1 x2 x3 x4 x5 x6 (ix2 i n) : EReal)
      = Cert.MixOutReferenceIdeal.Read.val_main_v32 (F := Ideal) x0 x1 x2 x3 x4 x5 x6 (ix3 i h l) := by
  rw [Cert.MixOutReferenceIdeal.Read.val_main_v34_apply, Cert.MixOutReferenceIdeal.Read.val_main_v33_apply]
  show Cert.MixOutReferenceIdeal.Read.val_main_v32 (F := Ideal) x0 x1 x2 x3 x4 x5 x6 _ = _
  congr 1
  have := i.isLt; have := h.isLt; have := l.isLt
  funext a
  apply Fin.ext
  match a with
  | ⟨0, _⟩ => show (i.val * 512 + n.val) / 512 = i.val; omega
  | ⟨1, _⟩ => show (i.val * 512 + n.val) / 128 % 4 = h.val; omega
  | ⟨2, _⟩ => show (i.val * 512 + n.val) % 128 = l.val; omega

/-- The queries that the kernel leaves are the reference's. -/
theorem final8 : (dats m 0 c).arrAt 8 cfg0.N
    = Cert.MixOutReferenceIdeal.Read.val_main_v34 (F := Ideal) (a0 m c) (a1 m c) (a2 m c) (a3 m c) (a4 m c) (a5 m c) (a6 m c) := by
  refine (dats m 0 c).arrAt_eq_of_covers 8 _ (by decide +kernel) fun t _ y => ?_
  blk_simp
  rw [after0_8]
  unfold out0_8
  have hN := lt_of_lt_of_eq t.isLt N_0
  have place : ∀ (h : Fin 4) (r : Fin 512) (l : Fin 128), (y 0).val = r.val → (y 1).val = 128 * h.val + l.val →
      (Cert.MixOutReferenceIdeal.Read.val_main_v34 (F := Ideal) (a0 m c) (a1 m c) (a2 m c) (a3 m c) (a4 m c) (a5 m c) (a6 m c) ((win0_8.blk t).view.emb y) : EReal)
      = Cert.MixOutReferenceIdeal.Read.val_main_v32 (F := Ideal) (a0 m c) (a1 m c) (a2 m c) (a3 m c) (a4 m c) (a5 m c) (a6 m c) (ix3 (row t r) h l) := by
    intro h r l e0 e1
    have e : (win0_8.blk t).view.emb y = ix2 (row t r) (⟨128 * h.val + l.val, by omega⟩ : Fin 512) := by
      blk_ext [idx t]
    rw [e]
    exact queries_at _ h l _ rfl _ _ _ _ _ _ _
  canon_tiles x h
  all_goals obtain ⟨r, l, rfl⟩ : ∃ (r : Fin 512) (l : Fin 128), x = ix2 r l := ⟨x 0, x 1, by funext a; fin_cases a <;> rfl⟩
  · exact (Pure.head3_eq _ _ _ _ _ _ _ _ _ _ (query_at m c t) (gain_at m c t) r l).trans (place 3 r l h0 h1).symm
  · exact (Pure.head2_eq _ _ _ _ _ _ _ _ _ _ (query_at m c t) (gain_at m c t) r l).trans (place 2 r l h0 h1).symm
  · exact (Pure.head1_eq _ _ _ _ _ _ _ _ _ _ (query_at m c t) (gain_at m c t) r l).trans (place 1 r l h0 h1).symm
  · refine (Pure.head0_eq _ _ _ _ _ _ _ _ _ _ _ (fun r l => ?_) (fun r l => rfl) (gain_at m c t) r l).trans (place 0 r l h0 (by rw [h1]; exact (Nat.zero_add _).symm)).symm
    refine (?_ : _ = k0_pay10 (iblk m c 0 t) (iblk m c 1 t) (iblk m c 2 t) (iblk m c 3 t) (iblk m c 4 t) (iblk m c 5 t) (iblk m c 6 t) (ix2 r (⟨l.val, by omega⟩ : Fin 512) : S512x512.Idx)).trans (query_at m c t r _)
    unfold k0_pay10
    pointwise! [k0_pay5]

end Cert.MixOutIdeal.Layer

end
-- ==== Proof.XAttn.Pure.lean ====
module

public import proofs.«01_k».proof.Proof.Gen.XAttnIdeal.Value
public import proofs.«01_k».proof.Proof.Gen.XAttnReferenceIdeal.Read
public import Idealize.ShloMosaic.Lib.Pointwise

@[expose] public section

set_option maxRecDepth 16384

noncomputable section

open Idealize.ShloMosaic Idealize.ShloMosaic.TcCoe Idealize.SL.Sem

namespace Cert.XAttnIdeal.Pure

open Cert.XAttnIdeal Cert.XAttnIdeal.Gen Cert.XAttnReferenceIdeal.Read

variable (x0 : Vec Ideal S8192x512 .bf16) (x1 x2 : Vec Ideal S4x256x512 .f32)
  (v0 : Vec Ideal S1x512x128 .bf16) (v2 v18 : Vec Ideal S1x256x128 .f32) (b : Fin 4) (S : Fin 512 → Fin 2048) (h : Fin 4)

/-- The second head's stored block is the first head's term. -/
theorem pay_second : Gen.k0_pay3 (F := Ideal) (Gen.k0_pay2 v0 v2) (Scalar.ofBits .f32 0x3DB504F3#32) v18 = Gen.k0_pay1 v0 v2 v18 := rfl

/-- The third head's stored block is the first head's term. -/
theorem pay_third : Gen.k0_pay5 (F := Ideal) (Gen.k0_pay4 v0 v2) v18 = Gen.k0_pay1 v0 v2 v18 := rfl

/-- The fourth head's stored block is the first head's term. -/
theorem pay_fourth : Gen.k0_pay6 (F := Ideal) v0 v2 v18 = Gen.k0_pay1 v0 v2 v18 := rfl

/-- The scaled scores of a block's rows. -/
def score (v0 : Vec Ideal S1x512x128 .bf16) (v2 : Vec Ideal S1x256x128 .f32) : FVec Ideal S512x256 .f32 :=
  mulf (matmul dot_S512x128_S256x128_S512x256_1_1_0_0_n_n none (shapeCast S512x128 v0 shapeCasts_S1x512x128_S512x128 : FVec Ideal S512x128 .bf16)
    (truncf .bf16 (shapeCast S256x128 v2 shapeCasts_S1x256x128_S256x128 : FVec Ideal S256x128 .f32) bitsLt_bf16_f32) (constant S512x256 .f32 0x00000000#32))
    (broadcast S512x256 (Scalar.ofBits .f32 0x3DB504F3#32))

/-- The exponentials of the scores less their rows' maxima. -/
def expo (s : FVec Ideal S512x256 .f32) : FVec Ideal S512x256 .f32 :=
  exp (subf s (broadcastTo S512x256 (shapeCast S512x1 (multiReduction .maximumf [1] S512 s 0xFF800000#32 reduces_S512x256_S512 (.inl rfl) rfl : FVec Ideal S512 .f32) shapeCasts_S512_S512x1 : FVec Ideal S512x1 .f32) broadcasts_S512x1_S512x256))

/-- The weights: the exponentials over their rows' sums. -/
def weight (e : FVec Ideal S512x256 .f32) : FVec Ideal S512x256 .f32 :=
  divf e (broadcastTo S512x256 (shapeCast S512x1 (multiReduction .add [1] S512 e 0x00000000#32 reduces_S512x256_S512 (.inl rfl) rfl : FVec Ideal S512 .f32) shapeCasts_S512_S512x1 : FVec Ideal S512x1 .f32) broadcasts_S512x1_S512x256)

/-- The weighted sum of the values. -/
def mixed (w : FVec Ideal S512x256 .f32) (v18 : Vec Ideal S1x256x128 .f32) : FVec Ideal S1x512x128 .bf16 :=
  shapeCast S1x512x128 (truncf .bf16 (matmul dot_S512x256_S256x128_S512x128_1_0_0_1_n_n none (truncf .bf16 w bitsLt_bf16_f32)
    (truncf .bf16 (shapeCast S256x128 v18 shapeCasts_S1x256x128_S256x128 : FVec Ideal S256x128 .f32) bitsLt_bf16_f32) (constant S512x128 .f32 0x00000000#32)) bitsLt_bf16_f32 : FVec Ideal S512x128 .bf16)
    shapeCasts_S512x128_S1x512x128

/-- A head's stored block in these terms. -/
theorem pay_eq : Gen.k0_pay1 (F := Ideal) v0 v2 v18 = mixed (weight (expo (score v0 v2))) v18 := rfl

/-- The maximum taken once more from its own start changes nothing. -/
theorem max_fold (c : EReal) (f : Fin 256 → EReal) : max c (Finset.fold max c f Finset.univ) = Finset.fold max c f Finset.univ :=
  max_eq_right ((Finset.le_fold_max _).mpr (Or.inl le_rfl))

/-- The scores are the reference's. -/
theorem score_eq
    (h0 : ∀ (r : Fin 512) (l : Fin 128), (v0 (ix3 0 r l) : EReal) = val_main_v1 (F := Ideal) x0 (ix4 b (S r) h l))
    (h2 : ∀ (n : Fin 256) (l : Fin 128), v2 (ix3 0 n l) = val_main_v2 (F := Ideal) x1 (ix4 b n h l)) (r : Fin 512) (n : Fin 256) :
    score v0 v2 (ix2 r n) = val_main_v6 (F := Ideal) x0 x1 (ix4 b h (S r) n) := by
  pointwise! [score, h0, h2, val_main_v6, val_main_v5, val_main_v4, val_main_cst]

/-- A maximum over the last axis, at an entry. -/
theorem rowfold (x : FVec Ideal Cert.XAttnReferenceIdeal.S4x4x2048x256 .f32) (u : FVec Ideal Cert.XAttnReferenceIdeal.S_ .f32)
    (hr : Cert.XAttnReferenceIdeal.S4x4x2048x256.ReducesTo [3] Cert.XAttnReferenceIdeal.S4x4x2048) (hu : 0 < Cert.XAttnReferenceIdeal.S_.numel) (r : Fin 2048) :
    Host.reduce (t := Cert.XAttnReferenceIdeal.S4x4x2048) (FloatOps.maximumf : Ideal .f32 → Ideal .f32 → Ideal .f32) x u hr hu (ix3 b h r)
      = Finset.fold (FloatOps.maximumf : Ideal .f32 → Ideal .f32 → Ideal .f32) (u (Shape.Idx.first hu)) (fun n : Fin 256 => x (ix4 b h r n)) Finset.univ :=
  (Host.reduce_eq_fold _ x u hr hu _).trans (hr.fold_fiber_r4_a3 _ _ _ _)

/-- The row's maximum in the reference. -/
theorem rowmax_eq (r : Fin 2048) :
    val_main_v9 (F := Ideal) x0 x1 (ix3 b h r)
      = Finset.fold max (Ideal.ofBits .f32 0xFF800000#32) (fun n : Fin 256 => (val_main_v6 (F := Ideal) x0 x1 (ix4 b h r n) : EReal)) Finset.univ := by
  refine Eq.trans ?_ (max_fold _ _)
  have e : val_main_v7 (F := Ideal) x0 x1 (ix3 b h r) = _ := rowfold b h (val_main_v6 (F := Ideal) x0 x1) (val_main_cst_0 (F := Ideal)) _ _ r
  rw [val_main_v9_apply, e]
  rfl

/-- The exponentials, at any scores that are the reference's. -/
theorem expo_eq (s : FVec Ideal S512x256 .f32)
    (hs : ∀ (r : Fin 512) (n : Fin 256), s (ix2 r n) = val_main_v6 (F := Ideal) x0 x1 (ix4 b h (S r) n)) (r : Fin 512) (n : Fin 256) :
    expo s (ix2 r n) = val_main_v13 (F := Ideal) x0 x1 (ix4 b h (S r) n) := by
  pointwise! [expo, hs, val_main_v13, val_main_v12, val_main_v11, val_main_v10, rowmax_eq]

/-- The weights, at any exponentials that are the reference's. -/
theorem weight_eq (s : FVec Ideal S512x256 .f32)
    (hs : ∀ (r : Fin 512) (n : Fin 256), s (ix2 r n) = val_main_v13 (F := Ideal) x0 x1 (ix4 b h (S r) n)) (r : Fin 512) (n : Fin 256) :
    weight s (ix2 r n) = val_main_v17 (F := Ideal) x0 x1 (ix4 b h (S r) n) := by
  pointwise! [weight, hs, val_main_v17, val_main_v16, val_main_v15, val_main_v14, val_main_cst_2]

/-- The weighted sums, at any weights that are the reference's. -/
theorem mixed_eq (s : FVec Ideal S512x256 .f32)
    (hs : ∀ (r : Fin 512) (n : Fin 256), s (ix2 r n) = val_main_v17 (F := Ideal) x0 x1 (ix4 b h (S r) n))
    (h18 : ∀ (n : Fin 256) (l : Fin 128), v18 (ix3 0 n l) = val_main_v3 (F := Ideal) x2 (ix4 b n h l)) (r : Fin 512) (l : Fin 128) :
    (mixed s v18 (ix3 0 r l) : EReal) = val_main_v18 (F := Ideal) x0 x1 x2 (ix4 b h l (S r)) := by
  pointwise! [mixed, hs, h18, val_main_v18, mul_comm]

/-- One head's stored block is the reference's attention at the block's rows. -/
theorem head_eq
    (h0 : ∀ (r : Fin 512) (l : Fin 128), (v0 (ix3 0 r l) : EReal) = val_main_v1 (F := Ideal) x0 (ix4 b (S r) h l))
    (h2 : ∀ (n : Fin 256) (l : Fin 128), v2 (ix3 0 n l) = val_main_v2 (F := Ideal) x1 (ix4 b n h l))
    (h18 : ∀ (n : Fin 256) (l : Fin 128), v18 (ix3 0 n l) = val_main_v3 (F := Ideal) x2 (ix4 b n h l)) (r : Fin 512) (l : Fin 128) :
    (Gen.k0_pay1 (F := Ideal) v0 v2 v18 (ix3 0 r l) : EReal) = val_main_v18 (F := Ideal) x0 x1 x2 (ix4 b h l (S r)) := by
  rw [pay_eq]
  exact mixed_eq x0 x1 x2 v18 b S h _ (weight_eq x0 x1 b S h _ (expo_eq x0 x1 b S h _ (score_eq x0 x1 v0 v2 b S h h0 h2))) h18 r l

end Cert.XAttnIdeal.Pure

end
-- ==== Proof.XAttn.Value.lean ====
module

public import proofs.«01_k».proof.Proof.XAttn.Pure
public import Idealize.ShloMosaic.Lib.Pipeline.ValueKit

@[expose] public section

set_option maxRecDepth 16384

noncomputable section

open Idealize.ShloMosaic Idealize.ShloMosaic.TcCoe Idealize.SL.Sem

namespace Cert.XAttnIdeal.Layer

open Cert.XAttnIdeal Cert.XAttnIdeal.Gen

variable (m : (ℓ : Loc nD τ sig) → Buf (Elt Ideal) ℓ) (c : Dev nD)

/-- The queries that the run starts with. -/
abbrev a0 : Vec Ideal S8192x512 .bf16 := m ((c : Thread nD τ).loc main_arg0)
/-- The memory's keys that the run starts with. -/
abbrev a1 : Vec Ideal S4x256x512 .f32 := m ((c : Thread nD τ).loc main_arg1)
/-- The memory's values that the run starts with. -/
abbrev a2 : Vec Ideal S4x256x512 .f32 := m ((c : Thread nD τ).loc main_arg2)

/-- The windows' block indices at a grid point. -/
theorem idx : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

variable (t : Fin cfg0.N)

/-- The batch entry of a point. -/
abbrev bat : Fin 4 := ⟨t.val / 4, by have := lt_of_lt_of_eq t.isLt N_0; omega⟩
/-- The position of a row of a point's block. -/
abbrev row (r : Fin 512) : Fin 2048 := ⟨512 * (t.val % 4) + r.val, by have := r.isLt; omega⟩
/-- A head's lane as a column. -/
abbrev col (h : Fin 4) (l : Fin 128) : Fin 512 := ⟨128 * h.val + l.val, by have := h.isLt; have := l.isLt; omega⟩

theorem blk0 (r n : Fin 512) : (iblk m c 0 t : Vec Ideal S1x512x512 .bf16) (ix3 0 r n)
    = (m ((c : Thread nD τ).loc main_arg0) : Vec Ideal S8192x512 .bf16) (ix2 (⟨2048 * (bat t).val + (row t r).val, by have := (bat t).isLt; have := (row t r).isLt; omega⟩ : Fin 8192) n) := by
  blk_point [iblk, V, idx t]

theorem blk1 (r : Fin 256) (n : Fin 512) : (iblk m c 1 t : Vec Ideal S1x256x512 .f32) (ix3 0 r n)
    = (m ((c : Thread nD τ).loc main_arg1) : Vec Ideal S4x256x512 .f32) (ix3 (bat t) r n) := by
  blk_point [iblk, V, idx t]

theorem blk2 (r : Fin 256) (n : Fin 512) : (iblk m c 2 t : Vec Ideal S1x256x512 .f32) (ix3 0 r n)
    = (m ((c : Thread nD τ).loc main_arg2) : Vec Ideal S4x256x512 .f32) (ix3 (bat t) r n) := by
  blk_point [iblk, V, idx t]

/-- The queries' entry of a head's lane. -/
theorem query_at (h : Fin 4) (r : Fin 512) (l : Fin 128) : ((iblk m c 0 t : Vec Ideal S1x512x512 .bf16) (ix3 0 r (col h l)) : EReal)
    = Cert.XAttnReferenceIdeal.Read.val_main_v1 (F := Ideal) (a0 m c) (ix4 (bat t) (row t r) h l) := by
  rw [Cert.XAttnReferenceIdeal.Read.val_main_v1_apply, Cert.XAttnReferenceIdeal.Read.val_main_v0_apply, blk0]
  refine congrArg (a0 m c) ?_
  have := (bat t).isLt; have := (row t r).isLt; have := h.isLt; have := l.isLt
  funext a
  apply Fin.ext
  match a with
  | ⟨0, _⟩ => show 2048 * (bat t).val + (row t r).val = ((((bat t).val * 2048 + (row t r).val) * 4 + h.val) * 128 + l.val) / 512; omega
  | ⟨1, _⟩ => show 128 * h.val + l.val = ((((bat t).val * 2048 + (row t r).val) * 4 + h.val) * 128 + l.val) % 512; omega

/-- The keys' entry of a head's lane. -/
theorem key_at (h : Fin 4) (r : Fin 256) (l : Fin 128) : (iblk m c 1 t : Vec Ideal S1x256x512 .f32) (ix3 0 r (col h l))
    = Cert.XAttnReferenceIdeal.Read.val_main_v2 (F := Ideal) (a1 m c) (ix4 (bat t) r h l) := by
  rw [Cert.XAttnReferenceIdeal.Read.val_main_v2_apply, blk1]
  refine congrArg (a1 m c) ?_
  have := (bat t).isLt; have := r.isLt; have := h.isLt; have := l.isLt
  funext a
  apply Fin.ext
  match a with
  | ⟨0, _⟩ => show (bat t).val = ((((bat t).val * 256 + r.val) * 4 + h.val) * 128 + l.val) / 131072; omega
  | ⟨1, _⟩ => show r.val = ((((bat t).val * 256 + r.val) * 4 + h.val) * 128 + l.val) / 512 % 256; omega
  | ⟨2, _⟩ => show 128 * h.val + l.val = ((((bat t).val * 256 + r.val) * 4 + h.val) * 128 + l.val) % 512; omega

/-- The values' entry of a head's lane. -/
theorem value_at (h : Fin 4) (r : Fin 256) (l : Fin 128) : (iblk m c 2 t : Vec Ideal S1x256x512 .f32) (ix3 0 r (col h l))
    = Cert.XAttnReferenceIdeal.Read.val_main_v3 (F := Ideal) (a2 m c) (ix4 (bat t) r h l) := by
  rw [Cert.XAttnReferenceIdeal.Read.val_main_v3_apply, blk2]
  refine congrArg (a2 m c) ?_
  have := (bat t).isLt; have := r.isLt; have := h.isLt; have := l.isLt
  funext a
  apply Fin.ext
  match a with
  | ⟨0, _⟩ => show (bat t).val = ((((bat t).val * 256 + r.val) * 4 + h.val) * 128 + l.val) / 131072; omega
  | ⟨1, _⟩ => show r.val = ((((bat t).val * 256 + r.val) * 4 + h.val) * 128 + l.val) / 512 % 256; omega
  | ⟨2, _⟩ => show 128 * h.val + l.val = ((((bat t).val * 256 + r.val) * 4 + h.val) * 128 + l.val) % 512; omega

/-- A load of one head's columns of the queries' block. -/
theorem ld_query (X : Vec Ideal S1x512x512 .bf16) (o : Fin 3 → Nat) (hin) (h : Fin 4) (ho : o = ![0, 0, 128 * h.val]) (r : Fin 512) (l : Fin 128) :
    View.ld X (Rect.unit (s := S1x512x512) o S1x512x128.size hin) (ix3 0 r l : S1x512x128.Idx) = X (ix3 0 r (col h l)) := by
  subst ho
  refine View.ld_unit_apply_of X _ _ _ _ _ fun a => ?_
  match a with
  | ⟨0, _⟩ => rfl
  | ⟨1, _⟩ => exact (Nat.zero_add _).symm
  | ⟨2, _⟩ => rfl

/-- A load of one head's columns of the keys' or values' block. -/
theorem ld_memory (X : Vec Ideal S1x256x512 .f32) (o : Fin 3 → Nat) (hin) (h : Fin 4) (ho : o = ![0, 0, 128 * h.val]) (r : Fin 256) (l : Fin 128) :
    View.ld X (Rect.unit (s := S1x256x512) o S1x256x128.size hin) (ix3 0 r l : S1x256x128.Idx) = X (ix3 0 r (col h l)) := by
  subst ho
  refine View.ld_unit_apply_of X _ _ _ _ _ fun a => ?_
  match a with
  | ⟨0, _⟩ => rfl
  | ⟨1, _⟩ => exact (Nat.zero_add _).symm
  | ⟨2, _⟩ => rfl

/-- What a point stores for one head. -/
theorem head_at (h : Fin 4) (o : Fin 3 → Nat) (h1 h2) (ho : o = ![0, 0, 128 * h.val]) (r : Fin 512) (l : Fin 128) :
    (k0_pay1 (View.ld (iblk m c 0 t : Vec Ideal S1x512x512 .bf16) (Rect.unit (s := S1x512x512) o S1x512x128.size h1))
      (View.ld (iblk m c 1 t : Vec Ideal S1x256x512 .f32) (Rect.unit (s := S1x256x512) o S1x256x128.size h2))
      (View.ld (iblk m c 2 t : Vec Ideal S1x256x512 .f32) (Rect.unit (s := S1x256x512) o S1x256x128.size h2)) (ix3 0 r l : S1x512x128.Idx) : EReal)
      = Cert.XAttnReferenceIdeal.Read.val_main_v18 (F := Ideal) (a0 m c) (a1 m c) (a2 m c) (ix4 (bat t) h l (row t r)) :=
  Pure.head_eq (a0 m c) (a1 m c) (a2 m c) _ _ _ (bat t) (row t) h
    (fun r l => (ld_query _ o _ h ho r l).trans (query_at m c t h r l))
    (fun r l => (ld_memory _ o _ h ho r l).trans (key_at m c t h r l))
    (fun r l => (ld_memory _ o _ h ho r l).trans (value_at m c t h r l)) r l

/-- An entry of the reference's result, by its head. -/
theorem result_at (b : Fin 4) (s : Fin 2048) (h : Fin 4) (l : Fin 128) (x0 : Vec Ideal S8192x512 .bf16) (x1 x2 : Vec Ideal S4x256x512 .f32) :
    (Cert.XAttnReferenceIdeal.Read.val_main_v21 (F := Ideal) x0 x1 x2 (ix3 b s (col h l)) : EReal)
      = Cert.XAttnReferenceIdeal.Read.val_main_v18 (F := Ideal) x0 x1 x2 (ix4 b h l s) := by
  rw [Cert.XAttnReferenceIdeal.Read.val_main_v21_apply, Cert.XAttnReferenceIdeal.Read.val_main_v20_apply, Cert.XAttnReferenceIdeal.Read.val_main_v19_apply]
  show Cert.XAttnReferenceIdeal.Read.val_main_v18 (F := Ideal) x0 x1 x2 _ = _
  congr 1
  have := b.isLt; have := s.isLt; have := h.isLt; have := l.isLt
  funext a
  apply Fin.ext
  match a with
  | ⟨0, _⟩ => show ((b.val * 2048 + s.val) * 512 + (128 * h.val + l.val)) / 1048576 = b.val; omega
  | ⟨1, _⟩ => show ((b.val * 2048 + s.val) * 512 + (128 * h.val + l.val)) / 128 % 4 = h.val; omega
  | ⟨2, _⟩ => show ((b.val * 2048 + s.val) * 512 + (128 * h.val + l.val)) % 128 = l.val; omega
  | ⟨3, _⟩ => show ((b.val * 2048 + s.val) * 512 + (128 * h.val + l.val)) / 512 % 2048 = s.val; omega

/-- The result that the kernel leaves is the reference's. -/
theorem final3 : (dats m 0 c).arrAt 3 cfg0.N
    = Cert.XAttnReferenceIdeal.Read.val_main_v21 (F := Ideal) (a0 m c) (a1 m c) (a2 m c) := by
  refine (dats m 0 c).arrAt_eq_of_covers 3 _ (by decide +kernel) fun t _ y => ?_
  blk_simp
  rw [after0_3]
  unfold out0_3
  rw [Pure.pay_second, Pure.pay_third, Pure.pay_fourth]
  have hN := lt_of_lt_of_eq t.isLt N_0
  have place : ∀ (h : Fin 4) (r : Fin 512) (l : Fin 128), (y 1).val = r.val → (y 2).val = 128 * h.val + l.val →
      (Cert.XAttnReferenceIdeal.Read.val_main_v21 (F := Ideal) (a0 m c) (a1 m c) (a2 m c) ((win0_3.blk t).view.emb y) : EReal)
      = Cert.XAttnReferenceIdeal.Read.val_main_v18 (F := Ideal) (a0 m c) (a1 m c) (a2 m c) (ix4 (bat t) h l (row t r)) := by
    intro h r l e1 e2
    have e : (win0_3.blk t).view.emb y = ix3 (bat t) (row t r) (col h l) := by
      blk_ext [idx t]
    rw [e]
    exact result_at _ _ h l _ _ _
  canon_tiles x h
  all_goals obtain ⟨r, l, rfl⟩ : ∃ (r : Fin 512) (l : Fin 128), x = ix3 0 r l := ⟨x 1, x 2, by funext a; fin_cases a <;> first | rfl | exact Fin.ext (Nat.lt_one_iff.mp (x 0).isLt)⟩
  · exact (head_at m c t 3 _ _ _ rfl r l).trans (place 3 r l h1 h2).symm
  · exact (head_at m c t 2 _ _ _ rfl r l).trans (place 2 r l h1 h2).symm
  · exact (head_at m c t 1 _ _ _ rfl r l).trans (place 1 r l h1 h2).symm
  · exact (head_at m c t 0 _ _ _ rfl r l).trans (place 0 r l h1 (by rw [h2]; exact (Nat.zero_add _).symm)).symm

end Cert.XAttnIdeal.Layer

end
-- ==== Proof.MemKV.Run.lean ====
module

public import proofs.«01_k».proof.Proof.Gen.MemKVIdeal.Frame

@[expose] public section

set_option maxRecDepth 16384

noncomputable section

namespace Cert.MemKVIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The keys at the end of the run are what the second call leaves: nothing after it writes them. -/
theorem keys_at (c : Dev nD) : W6 m ρ c (Proc.devRef .tc main_v4) = (dat1 (V3 m ρ) c).arrAt 3 cfg1.N :=
  (W6_of m ρ c main_v4 (by decide)).trans ((W5_of m ρ c main_v4 (by decide)).trans (W4_arr m ρ c 3))

set_option backward.isDefEq.respectTransparency.types false in
/-- Every execution ends with the keys and the values at what the second and third calls leave, the arguments as
    launched: the launch over the segments, the last thread state read against the final state. -/
theorem run : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_v6) = (dat2 (V5 m ρ) c).arrAt 3 cfg2.N
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v4 (by decide))).trans (keys_at m ρ c),
       (h c _ (mem_uc main_v6 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.MemKVIdeal.Gen

end
-- ==== Proof.MemKV.Pure.lean ====
module

public import proofs.«01_k».proof.Proof.Gen.MemKVIdeal.Frame
public import proofs.«01_k».proof.Proof.Gen.MemKVReferenceIdeal.Read
public import Idealize.ShloMosaic.Lib.Pointwise

@[expose] public section

set_option maxRecDepth 16384

noncomputable section

open Idealize.ShloMosaic Idealize.ShloMosaic.TcCoe Idealize.SL.Sem

namespace Cert.MemKVIdeal.Pure

open Cert.MemKVIdeal Cert.MemKVReferenceIdeal.Read

variable (x0 : Vec Ideal S4x256x2048 .f32) (x1 : Vec Ideal S2048 .f32) (x2 x3 : Vec Ideal S2048x512 .f32) (x4 : Vec Ideal S128 .f32)

/-- The block of the normalised memory that a point of the first call stores is the reference's at the block's rows. -/
theorem norm_eq (B : Fin 512 → Fin 4) (M : Fin 512 → Fin 256) (v0 : Vec Ideal S512x2048 .f32) (v2 : Vec Ideal S1x2048 .f32)
    (h0 : ∀ (r : Fin 512) (k : Fin 2048), v0 (ix2 r k) = x0 (ix3 (B r) (M r) k))
    (h2 : ∀ k : Fin 2048, v2 (ix2 0 k) = x1 (ix1 k)) (r : Fin 512) (k : Fin 2048) :
    (Gen.k0_pay1 (F := Ideal) v0 v2 (ix2 r k) : EReal) = val_main_v12 (F := Ideal) x0 x1 (ix3 (B r) (M r) k) := by
  pointwise! [Gen.k0_pay1, h0, h2, val_main_v12, val_main_v11, val_main_v10, val_main_v9, val_main_v8, val_main_v7, val_main_v6,
    val_main_v5, val_main_v4, val_main_v3, val_main_v2, val_main_v1, val_main_v0, val_main_cst, val_main_cst_0, val_main_cst_1]

variable (B : Fin 1024 → Fin 4) (M : Fin 1024 → Fin 256) (v0 : Vec Ideal S1024x2048 .bf16) (v2 : Vec Ideal S2048x512 .f32) (v5 : Vec Ideal S1x128 .f32)

/-- The keys before the heads' norms. -/
theorem key_eq
    (h0 : ∀ (r : Fin 1024) (k : Fin 2048), (v0 (ix2 r k) : EReal) = val_main_v12 (F := Ideal) x0 x1 (ix3 (B r) (M r) k))
    (h2 : ∀ (k : Fin 2048) (n : Fin 512), v2 (ix2 k n) = x2 (ix2 k n)) (r : Fin 1024) (n : Fin 512) :
    Gen.k1_pay3 (F := Ideal) v0 v2 (ix2 r n) = val_main_v13 (F := Ideal) x0 x1 x2 (ix3 (B r) (M r) n) := by
  pointwise! [Gen.k1_pay3, h0, h2, val_main_v13]

/-- The values. -/
theorem value_eq
    (h0 : ∀ (r : Fin 1024) (k : Fin 2048), (v0 (ix2 r k) : EReal) = val_main_v12 (F := Ideal) x0 x1 (ix3 (B r) (M r) k))
    (h2 : ∀ (k : Fin 2048) (n : Fin 512), v2 (ix2 k n) = x3 (ix2 k n)) (r : Fin 1024) (n : Fin 512) :
    Gen.k2_pay1 (F := Ideal) v0 v2 (ix2 r n) = val_main_v28 (F := Ideal) x0 x1 x3 (ix3 (B r) (M r) n) := by
  pointwise! [Gen.k2_pay1, h0, h2, val_main_v28]

/-- A head's lane of the keys before the heads' norms. -/
theorem split_eq (b : Fin 4) (m : Fin 256) (h : Fin 4) (l : Fin 128) (n : Fin 512) (hn : n.val = 128 * h.val + l.val) :
    val_main_v14 (F := Ideal) x0 x1 x2 (ix4 b m h l) = val_main_v13 (F := Ideal) x0 x1 x2 (ix3 b m n) := by
  rw [val_main_v14_apply]
  congr 1
  have := b.isLt; have := m.isLt; have := h.isLt; have := l.isLt
  funext a
  apply Fin.ext
  match a with
  | ⟨0, _⟩ => show (((b.val * 256 + m.val) * 4 + h.val) * 128 + l.val) / 131072 = b.val; omega
  | ⟨1, _⟩ => show (((b.val * 256 + m.val) * 4 + h.val) * 128 + l.val) / 512 % 256 = m.val; omega
  | ⟨2, _⟩ => show (((b.val * 256 + m.val) * 4 + h.val) * 128 + l.val) % 512 = n.val; omega

/-- One head of keys, normalised: the term that every head's store is. -/
def head (v7 : FVec Ideal S1024x128 .f32) (v6 : FVec Ideal S1x128 .f32) : FVec Ideal S1024x128 .f32 :=
  Gen.k1_pay1 v6 v7 (multiReduction .add [1] S1024 (mulf v7 v7) 0x00000000#32 Gen.reduces_S1024x128_S1024 (.inl rfl) rfl)

/-- One head of keys, normalised, is the reference's. -/
theorem head_eq (h : Fin 4) (v7 : FVec Ideal S1024x128 .f32) (v6 : FVec Ideal S1x128 .f32)
    (h7 : ∀ (r : Fin 1024) (l : Fin 128), v7 (ix2 r l) = val_main_v14 (F := Ideal) x0 x1 x2 (ix4 (B r) (M r) h l))
    (h6 : ∀ l : Fin 128, v6 (ix2 0 l) = x4 (ix1 l)) (r : Fin 1024) (l : Fin 128) :
    head v7 v6 (ix2 r l) = val_main_v27 (F := Ideal) x0 x1 x2 x4 (ix4 (B r) (M r) h l) := by
  pointwise! [head, Gen.k1_pay1, h7, h6, val_main_v27, val_main_v26, val_main_v25, val_main_v24, val_main_v23, val_main_v22, val_main_v21,
    val_main_v20, val_main_v19, val_main_v18, val_main_v17, val_main_v16, val_main_v15, val_main_cst_2, val_main_cst_3, val_main_cst_4]

/-- The columns of a head of a block of keys. -/
theorem cols_eq (h : Fin 4) (o : Fin 2 → Nat) (hs : S1024x512.Slices o S1024x128) (ho : o = ![0, 128 * h.val]) (v4 : FVec Ideal S1024x512 .f32)
    (r : Fin 1024) (l : Fin 128) :
    extractStridedSlice S1024x128 o v4 hs (ix2 r l) = v4 (ix2 r (⟨128 * h.val + l.val, by have := h.isLt; have := l.isLt; omega⟩ : Fin 512)) := by
  subst ho
  pointwise!

/-- The gain as the heads read it. -/
theorem gain_eq (v : Vec Ideal S1x128 .f32) (l : Fin 128) : Gen.k1_pay4 (F := Ideal) v (ix2 0 l) = v (ix2 0 l) := by
  pointwise! [Gen.k1_pay4]

variable (x : Vec Ideal S1024x2048 .bf16) (w : Vec Ideal S2048x512 .f32) (g : Vec Ideal S1x128 .f32)

/-- The first head's store is `head` of the block's first columns. -/
theorem pay_first : Gen.k1_pay5 x w g = head (extractStridedSlice S1024x128 ![0, 0] (Gen.k1_pay3 x w) Gen.slices_S1024x512_o0_0_S1024x128) (Gen.k1_pay4 g) := rfl
/-- The second head's store is `head` of the block's second columns. -/
theorem pay_second : Gen.k1_pay6 x w g = head (extractStridedSlice S1024x128 ![0, 128] (Gen.k1_pay3 x w) Gen.slices_S1024x512_o0_128_S1024x128) (Gen.k1_pay4 g) := rfl
/-- The third head's store is `head` of the block's third columns. -/
theorem pay_third : Gen.k1_pay1 (Gen.k1_pay4 g) (Gen.k1_pay7 x w) (Gen.k1_pay8 x w)
    = head (extractStridedSlice S1024x128 ![0, 256] (Gen.k1_pay3 x w) Gen.slices_S1024x512_o0_256_S1024x128) (Gen.k1_pay4 g) := rfl
/-- The fourth head's store is `head` of the block's last columns. -/
theorem pay_fourth : Gen.k1_pay2 (Gen.k1_pay3 x w) (Gen.k1_pay4 g)
    = head (extractStridedSlice S1024x128 ![0, 384] (Gen.k1_pay3 x w) Gen.slices_S1024x512_o0_384_S1024x128) (Gen.k1_pay4 g) := rfl

end Cert.MemKVIdeal.Pure

end
-- ==== Proof.MemKV.Value.lean ====
module

public import proofs.«01_k».proof.Proof.MemKV.Pure
public import Idealize.ShloMosaic.Lib.Pipeline.ValueKit

@[expose] public section

set_option maxRecDepth 16384

noncomputable section

open Idealize.ShloMosaic Idealize.ShloMosaic.TcCoe Idealize.SL.Sem

namespace Cert.MemKVIdeal.Layer

open Cert.MemKVIdeal Cert.MemKVIdeal.Gen
open Cert.MemKVReferenceIdeal.Read (val_main_v12 val_main_v13 val_main_v27 val_main_v28 val_main_v30 val_main_v31)

variable (m : (ℓ : Loc nD τ sig) → Buf (Elt Ideal) ℓ) (ρ : Dev nD → PrngReg) (c : Dev nD)

/-- The memory that the run starts with. -/
abbrev a0 : Vec Ideal S4x256x2048 .f32 := m ((c : Thread nD τ).loc main_arg0)
/-- The gain of the memory's norm that the run starts with. -/
abbrev a1 : Vec Ideal S2048 .f32 := m ((c : Thread nD τ).loc main_arg1)
/-- The keys' weights that the run starts with. -/
abbrev a2 : Vec Ideal S2048x512 .f32 := m ((c : Thread nD τ).loc main_arg2)
/-- The values' weights that the run starts with. -/
abbrev a3 : Vec Ideal S2048x512 .f32 := m ((c : Thread nD τ).loc main_arg3)
/-- The gain of the keys' norm that the run starts with. -/
abbrev a4 : Vec Ideal S128 .f32 := m ((c : Thread nD τ).loc main_arg4)

/-- The batch entry of a flattened row of the memory. -/
abbrev bat (r : Fin 1024) : Fin 4 := ⟨r.val / 256, by have := r.isLt; omega⟩
/-- The position of a flattened row of the memory. -/
abbrev pos (r : Fin 1024) : Fin 256 := ⟨r.val % 256, by omega⟩
/-- The flattened row of a row of a point's block of the first call. -/
abbrev row (t : Fin cfg0.N) (r : Fin 512) : Fin 1024 := ⟨512 * t.val + r.val, by have := lt_of_lt_of_eq t.isLt N_0; have := r.isLt; omega⟩
/-- A head's lane as a column. -/
abbrev col (h : Fin 4) (l : Fin 128) : Fin 512 := ⟨128 * h.val + l.val, by have := h.isLt; have := l.isLt; omega⟩

/-- The first call's block indices at a grid point. -/
theorem idxA : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The second call's block indices at its one grid point. -/
theorem idxB : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The third call's block indices at its one grid point. -/
theorem idxC : ∀ t : Fin cfg2.N,
    win2_0.index t (0 : Fin 2) = 0 ∧ win2_0.index t (1 : Fin 2) = 0
    ∧ win2_1.index t (0 : Fin 2) = 0 ∧ win2_1.index t (1 : Fin 2) = 0
    ∧ win2_3.index t (0 : Fin 2) = 0 ∧ win2_3.index t (1 : Fin 2) = 0 :=
  (by decide +kernel : ∀ t : Fin grid2.N, _)

theorem hz : (![0, 0] : Fin 2 → Nat) = fun _ => 0 := by
  funext a
  match a with
  | ⟨0, _⟩ => rfl
  | ⟨1, _⟩ => rfl

/-! ### The first call: the normalised memory -/

theorem blkA0 (t : Fin cfg0.N) (r : Fin 512) (k : Fin 2048) : (iblk0 (V1 m ρ) c 0 t : Vec Ideal S512x2048 .f32) (ix2 r k)
    = (m ((c : Thread nD τ).loc main_arg0) : Vec Ideal S4x256x2048 .f32) (ix3 (bat (row t r)) (pos (row t r)) k) := by
  blk_point [iblk0, V1, W1, W0, idxA t]

theorem blkA1 (t : Fin cfg0.N) (k : Fin 2048) : (iblk0 (V1 m ρ) c 1 t : Vec Ideal S1x2048 .f32) (ix2 0 k)
    = (m ((c : Thread nD τ).loc main_arg1) : Vec Ideal S2048 .f32) (ix1 k) := by
  blk_point [iblk0, V1, W1, W0, idxA t]

/-- The normalised memory, a row per position. -/
def normed : Vec Ideal S1024x2048 .bf16 := fun x => val_main_v12 (F := Ideal) (a0 m c) (a1 m c) (ix3 (bat (x 0)) (pos (x 0)) (x 1))

/-- The first call leaves the normalised memory. -/
theorem finalA : (dat0 (V1 m ρ) c).arrAt 2 cfg0.N = normed m c := by
  refine (dat0 (V1 m ρ) c).arrAt_eq_of_covers 2 _ (by decide +kernel) fun t _ y => ?_
  blk_simp
  rw [after0_2]
  unfold out0_2
  canon_tiles x h
  obtain ⟨r, k, rfl⟩ : ∃ (r : Fin 512) (k : Fin 2048), x = ix2 r k := ⟨x 0, x 1, by funext a; match a with | ⟨0, _⟩ => rfl | ⟨1, _⟩ => rfl⟩
  have e0 : (y 0).val = r.val := h0
  have e1 : (y 1).val = k.val := h1
  have e : (win0_2.blk t).view.emb y = ix2 (row t r) k := by
    blk_ext [idxA t]
  rw [e]
  exact Pure.norm_eq (a0 m c) (a1 m c) (fun r => bat (row t r)) (fun r => pos (row t r)) _ _
    (fun r k => (congrFun (View.ld_unit_zero (S := S512x2048) hz _ _) _).trans (blkA0 m ρ c t r k))
    (fun k => (congrFun (View.ld_unit_zero (S := S1x2048) hz _ _) _).trans (blkA1 m ρ c t k)) r k

/-! ### The second call: the keys -/

/-- The second call reads what the first left. -/
theorem entryB : V3 m ρ c main_v2 = normed m c :=
  (W3_of m ρ c main_v2 (by decide)).trans ((W2_arr m ρ c 2).trans (finalA m ρ c))

theorem blkB0 (t : Fin cfg1.N) (r : Fin 1024) (k : Fin 2048) : (iblk1 (V3 m ρ) c 0 t : Vec Ideal S1024x2048 .bf16) (ix2 r k)
    = (V3 m ρ c main_v2 : Vec Ideal S1024x2048 .bf16) (ix2 r k) := by
  blk_point [iblk1, idxB t]

theorem blkB1 (t : Fin cfg1.N) (k : Fin 2048) (n : Fin 512) : (iblk1 (V3 m ρ) c 1 t : Vec Ideal S2048x512 .f32) (ix2 k n)
    = (V3 m ρ c main_arg2 : Vec Ideal S2048x512 .f32) (ix2 k n) := by
  blk_point [iblk1, idxB t]

theorem blkB2 (t : Fin cfg1.N) (l : Fin 128) : (iblk1 (V3 m ρ) c 2 t : Vec Ideal S1x128 .f32) (ix2 0 l)
    = (W2 m ρ c (Proc.devRef .tc main_arg4) : Vec Ideal S128 .f32) (ix1 l) := by
  blk_point [iblk1, V3, W3, idxB t]

theorem inB0 (t : Fin cfg1.N) (r : Fin 1024) (k : Fin 2048) : (View.ld (iblk1 (V3 m ρ) c 0 t : Vec Ideal S1024x2048 .bf16) r1_0 (ix2 r k) : EReal)
    = val_main_v12 (F := Ideal) (a0 m c) (a1 m c) (ix3 (bat r) (pos r) k) :=
  (congrFun (View.ld_unit_zero (S := S1024x2048) hz _ _) _).trans ((blkB0 m ρ c t r k).trans (congrFun (entryB m ρ c) (ix2 r k)))

theorem inB1 (t : Fin cfg1.N) (k : Fin 2048) (n : Fin 512) : View.ld (iblk1 (V3 m ρ) c 1 t : Vec Ideal S2048x512 .f32) r1_1 (ix2 k n) = a2 m c (ix2 k n) :=
  (congrFun (View.ld_unit_zero (S := S2048x512) hz _ _) _).trans ((blkB1 m ρ c t k n).trans (congrFun (W3_args m ρ c main_arg2 (by decide)) (ix2 k n)))

theorem inB2 (t : Fin cfg1.N) (l : Fin 128) : View.ld (iblk1 (V3 m ρ) c 2 t : Vec Ideal S1x128 .f32) r1_2 (ix2 0 l) = a4 m c (ix1 l) :=
  (congrFun (View.ld_unit_zero (S := S1x128) hz _ _) _).trans ((blkB2 m ρ c t l).trans (congrFun (W2_args m ρ c main_arg4 (by decide)) (ix1 l)))

/-- What the second call stores for one head. -/
theorem head_at (t : Fin cfg1.N) (h : Fin 4) (o : Fin 2 → Nat) (hs : S1024x512.Slices o S1024x128) (ho : o = ![0, 128 * h.val]) (r : Fin 1024) (l : Fin 128) :
    Pure.head (extractStridedSlice S1024x128 o (k1_pay3 (F := Ideal) (View.ld (iblk1 (V3 m ρ) c 0 t : Vec Ideal S1024x2048 .bf16) r1_0)
      (View.ld (iblk1 (V3 m ρ) c 1 t : Vec Ideal S2048x512 .f32) r1_1)) hs) (k1_pay4 (View.ld (iblk1 (V3 m ρ) c 2 t : Vec Ideal S1x128 .f32) r1_2)) (ix2 r l)
      = val_main_v27 (F := Ideal) (a0 m c) (a1 m c) (a2 m c) (a4 m c) (ix4 (bat r) (pos r) h l) :=
  Pure.head_eq (a0 m c) (a1 m c) (a2 m c) (a4 m c) bat pos h _ _
    (fun r l => (Pure.cols_eq h o hs ho _ r l).trans
      ((Pure.key_eq (a0 m c) (a1 m c) (a2 m c) bat pos _ _ (inB0 m ρ c t) (inB1 m ρ c t) r (col h l)).trans
        (Pure.split_eq (a0 m c) (a1 m c) (a2 m c) (bat r) (pos r) h l (col h l) rfl).symm))
    (fun l => (Pure.gain_eq _ l).trans (inB2 m ρ c t l)) r l

/-- An entry of the reference's keys, by its head. -/
theorem keys_row (x0 : Vec Ideal S4x256x2048 .f32) (x1 : Vec Ideal S2048 .f32) (x2 : Vec Ideal S2048x512 .f32) (x4 : Vec Ideal S128 .f32)
    (r : Fin 1024) (h : Fin 4) (l : Fin 128) :
    val_main_v30 (F := Ideal) x0 x1 x2 x4 (ix2 r (col h l)) = val_main_v27 (F := Ideal) x0 x1 x2 x4 (ix4 (bat r) (pos r) h l) := by
  rw [Cert.MemKVReferenceIdeal.Read.val_main_v30_apply]
  congr 1
  have := r.isLt; have := h.isLt; have := l.isLt
  funext a
  apply Fin.ext
  match a with
  | ⟨0, _⟩ => show (r.val * 512 + (128 * h.val + l.val)) / 131072 = r.val / 256; omega
  | ⟨1, _⟩ => show (r.val * 512 + (128 * h.val + l.val)) / 512 % 256 = r.val % 256; omega
  | ⟨2, _⟩ => show (r.val * 512 + (128 * h.val + l.val)) / 128 % 4 = h.val; omega
  | ⟨3, _⟩ => show (r.val * 512 + (128 * h.val + l.val)) % 128 = l.val; omega

/-- The keys that the second call leaves are the reference's. -/
theorem finalB : (dat1 (V3 m ρ) c).arrAt 3 cfg1.N = val_main_v30 (F := Ideal) (a0 m c) (a1 m c) (a2 m c) (a4 m c) := by
  refine (dat1 (V3 m ρ) c).arrAt_eq_of_covers 3 _ (by decide +kernel) fun t _ y => ?_
  blk_simp
  rw [after1_3]
  unfold out1_3 k1_pay9
  rw [Pure.pay_first, Pure.pay_second, Pure.pay_third, Pure.pay_fourth]
  have place : ∀ (h : Fin 4) (r : Fin 1024) (l : Fin 128), (y 0).val = r.val → (y 1).val = 128 * h.val + l.val →
      val_main_v30 (F := Ideal) (a0 m c) (a1 m c) (a2 m c) (a4 m c) ((win1_3.blk t).view.emb y)
      = val_main_v27 (F := Ideal) (a0 m c) (a1 m c) (a2 m c) (a4 m c) (ix4 (bat r) (pos r) h l) := by
    intro h r l e1 e2
    have e : (win1_3.blk t).view.emb y = ix2 r (col h l) := by
      blk_ext [idxB t]
    rw [e]
    exact keys_row _ _ _ _ r h l
  canon_tiles x h
  all_goals obtain ⟨r, l, rfl⟩ : ∃ (r : Fin 1024) (l : Fin 128), x = ix2 r l := ⟨x 0, x 1, by funext a; match a with | ⟨0, _⟩ => rfl | ⟨1, _⟩ => rfl⟩
  · exact (head_at m ρ c t 3 _ _ rfl r l).trans (place 3 r l h0 h1).symm
  · exact (head_at m ρ c t 2 _ _ rfl r l).trans (place 2 r l h0 h1).symm
  · exact (head_at m ρ c t 1 _ _ rfl r l).trans (place 1 r l h0 h1).symm
  · exact (head_at m ρ c t 0 _ _ rfl r l).trans (place 0 r l h0 (by rw [h1]; exact (Nat.zero_add _).symm)).symm

/-! ### The third call: the values -/

/-- The third call reads what the first left. -/
theorem entryC : V5 m ρ c main_v2 = normed m c :=
  (W5_of m ρ c main_v2 (by decide)).trans ((W4_of m ρ c main_v2 (by decide)).trans (entryB m ρ c))

theorem blkC0 (t : Fin cfg2.N) (r : Fin 1024) (k : Fin 2048) : (iblk2 (V5 m ρ) c 0 t : Vec Ideal S1024x2048 .bf16) (ix2 r k)
    = (V5 m ρ c main_v2 : Vec Ideal S1024x2048 .bf16) (ix2 r k) := by
  blk_point [iblk2, idxC t]

theorem blkC1 (t : Fin cfg2.N) (k : Fin 2048) (n : Fin 512) : (iblk2 (V5 m ρ) c 1 t : Vec Ideal S2048x512 .f32) (ix2 k n)
    = (V5 m ρ c main_arg3 : Vec Ideal S2048x512 .f32) (ix2 k n) := by
  blk_point [iblk2, idxC t]

theorem inC0 (t : Fin cfg2.N) (r : Fin 1024) (k : Fin 2048) : (View.ld (iblk2 (V5 m ρ) c 0 t : Vec Ideal S1024x2048 .bf16) r2_0 (ix2 r k) : EReal)
    = val_main_v12 (F := Ideal) (a0 m c) (a1 m c) (ix3 (bat r) (pos r) k) :=
  (congrFun (View.ld_unit_zero (S := S1024x2048) hz _ _) _).trans ((blkC0 m ρ c t r k).trans (congrFun (entryC m ρ c) (ix2 r k)))

theorem inC1 (t : Fin cfg2.N) (k : Fin 2048) (n : Fin 512) : View.ld (iblk2 (V5 m ρ) c 1 t : Vec Ideal S2048x512 .f32) r2_1 (ix2 k n) = a3 m c (ix2 k n) :=
  (congrFun (View.ld_unit_zero (S := S2048x512) hz _ _) _).trans ((blkC1 m ρ c t k n).trans (congrFun (W5_args m ρ c main_arg3 (by decide)) (ix2 k n)))

/-- A row of the reference's values. -/
theorem values_row (x0 : Vec Ideal S4x256x2048 .f32) (x1 : Vec Ideal S2048 .f32) (x3 : Vec Ideal S2048x512 .f32) (r : Fin 1024) (n : Fin 512) :
    val_main_v31 (F := Ideal) x0 x1 x3 (ix2 r n) = val_main_v28 (F := Ideal) x0 x1 x3 (ix3 (bat r) (pos r) n) := by
  rw [Cert.MemKVReferenceIdeal.Read.val_main_v31_apply, Cert.MemKVReferenceIdeal.Read.val_main_v29_apply]
  congr 1
  have := r.isLt; have := n.isLt
  funext a
  apply Fin.ext
  match a with
  | ⟨0, _⟩ => show ((((r.val * 512 + n.val) / 131072 * 256 + (r.val * 512 + n.val) / 512 % 256) * 4 + (r.val * 512 + n.val) / 128 % 4) * 128 + (r.val * 512 + n.val) % 128) / 131072 = r.val / 256; omega
  | ⟨1, _⟩ => show ((((r.val * 512 + n.val) / 131072 * 256 + (r.val * 512 + n.val) / 512 % 256) * 4 + (r.val * 512 + n.val) / 128 % 4) * 128 + (r.val * 512 + n.val) % 128) / 512 % 256 = r.val % 256; omega
  | ⟨2, _⟩ => show ((((r.val * 512 + n.val) / 131072 * 256 + (r.val * 512 + n.val) / 512 % 256) * 4 + (r.val * 512 + n.val) / 128 % 4) * 128 + (r.val * 512 + n.val) % 128) % 512 = n.val; omega

/-- The values that the third call leaves are the reference's. -/
theorem finalC : (dat2 (V5 m ρ) c).arrAt 3 cfg2.N = val_main_v31 (F := Ideal) (a0 m c) (a1 m c) (a3 m c) := by
  refine (dat2 (V5 m ρ) c).arrAt_eq_of_covers 3 _ (by decide +kernel) fun t _ y => ?_
  blk_simp
  rw [after2_3]
  unfold out2_3
  canon_tiles x h
  obtain ⟨r, n, rfl⟩ : ∃ (r : Fin 1024) (n : Fin 512), x = ix2 r n := ⟨x 0, x 1, by funext a; match a with | ⟨0, _⟩ => rfl | ⟨1, _⟩ => rfl⟩
  have e0 : (y 0).val = r.val := h0
  have e1 : (y 1).val = n.val := h1
  have e : (win2_3.blk t).view.emb y = ix2 r n := by
    blk_ext [idxC t]
  rw [e, values_row]
  exact Pure.value_eq (a0 m c) (a1 m c) (a3 m c) bat pos _ _ (inC0 m ρ c t) (inC1 m ρ c t) r n

end Cert.MemKVIdeal.Layer

end
-- ==== Proof.InProj.Idle.lean ====
module

public import Idealize.ShloMosaic.Lib.Pipeline.FrameBody
public import Idealize.ShloMosaic.Lib.Pipeline.TableIdle

/-! An output that only some points of a grid store: what its buffer is left at where another output is stored. -/

@[expose] public section

noncomputable section

namespace Cert.Idle

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {nD : Nat} {τ : Topo} {sig : RefSig} {Val : EltTy → Type}
variable {Ix : Type} [DecidableEq Ix] {Name : Type} [DecidableEq Name] {U : Type} [URA U] {Lvl : Type}
variable {Λ₀ : Labels} {cfg : Pipeline.Cfg sig Λ₀} {c : Dev nD} (dat : Dat τ Val Ix Name U Lvl cfg c) (w : Fin cfg.W)
  (hout : (cfg.win w).isOut = true) (hclip : ∀ (i : cfg.grid.Coords) a, (cfg.win w).clip i a = none)
  (held : ∀ t : Fin cfg.N, cfg.idle w (cfg.grid.coords t) = true → (cfg.win w).flush t = true → cfg.fresh w t.val = false)
  (carry : ∀ t : Fin cfg.N, t.val ≠ 0 → cfg.idle w (cfg.grid.coords t) = true → cfg.fresh w t.val = false →
    dat.after w t = dat.after w ⟨t.val - 1, Nat.lt_of_le_of_lt (Nat.sub_le _ _) t.isLt⟩)

include hout hclip held carry

/-- Suppose an idle point that writes the block back holds a store (`held`), and the proof data carries a store from each
    idle point to the next (`carry`). Then at an idle point that writes the block back, the buffer is found at what the
    proof data says it is left at. -/
theorem kept (t : Fin cfg.N) (hi : cfg.idle w (cfg.grid.coords t) = true) (hl : (cfg.win w).flush t = true) (d) :
    dat.before w t d = dat.after w t := by
  have hf := held t hi hl
  have h0 : t.val ≠ 0 := fun e => by rw [e] at hf; exact Bool.noConfusion ((Pipeline.Cfg.fresh_zero cfg w).symm.trans hf)
  rw [dat.before_out_traj w hout hclip carry t.val t rfl d, hf, if_neg Bool.false_ne_true]
  exact (carry t h0 hi hf).symm

/-- Under the same two facts the output's buffer after the body, holding `x` at a point that stores it and what it was
    found at elsewhere, is what the obligation asks. -/
theorem leaves (t : Fin cfg.N) (p : Prop) [Decidable p] (hp : cfg.idle w (cfg.grid.coords t) = false ↔ p)
    (x : (cfg.win w).block.Idx → Val (cfg.win w).elt) (hx : p → dat.after w t = x) (d) :
    (owns (c : Thread nD τ) ((cfg.win w).stage (cfg.slots t w)) fullShare (if p then x else dat.before w t d)
      : sProp (MT nD τ sig Ix Val Name U Lvl)) ⊢ dat.leavesExact w t := by
  by_cases h : p
  · rw [if_pos h]
    unfold Dat.leavesExact; rw [hp.mpr h]
    dsimp only
    rw [hx h]
  · rw [if_neg h]
    have hi : cfg.idle w (cfg.grid.coords t) = true := Bool.eq_true_of_not_eq_false fun e => h (hp.mp e)
    by_cases hl : (cfg.win w).flush t = true
    · unfold Dat.leavesExact; rw [hi, hl, kept dat w hout hclip held carry t hi hl d]
    · rw [dat.leavesExact_idle w t hi (Bool.eq_false_iff.mpr hl)]
      iintro H; iexists d; iexact H

end Cert.Idle

end
-- ==== Proof.InProj.Frame.lean ====
module

public import proofs.«01_k».proof.Proof.Gen.InProjIdeal.Frame
public import proofs.«01_k».proof.Proof.Gen.InProjIdeal.Skeleton
public import proofs.«01_k».proof.Proof.InProj.Idle
public import Idealize.ShloMosaic.Lib.Claim
public import Idealize.ShloMosaic.Lib.Pipeline.FrameBody
public import Idealize.ShloMosaic.Lib.Pipeline.FrameSuffix
public import Idealize.ShloMosaic.Lib.Pipeline.TableIdle
public import Idealize.ShloMosaic.Lib.Pipeline.Value

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each branch of the body stores

A point of the grid is a block of rows and one of 29 column blocks, and the body takes exactly one of six branches,
by the group of the column block: each branch multiplies the rows by its block of weights and stores one output. -/

/-- The whole block of rows, of weights, of a gain and of an output. -/
abbrev rH : Rect S2048x2048 := Rect.unit (s := S2048x2048) ![0, 0] S2048x2048.size inb_S2048x2048_S2048x2048_0_0
abbrev rW : Rect S256x2048 := Rect.unit (s := S256x2048) ![0, 0] S256x2048.size inb_S256x2048_S256x2048_0_0
abbrev rG : Rect S1x128 := Rect.unit (s := S1x128) ![0, 0] S1x128.size inb_S1x128_S1x128_0_0
abbrev rO : Rect S2048x256 := Rect.unit (s := S2048x256) ![0, 0] S2048x256.size inb_S2048x256_S2048x256_0_0

/-- A store of the whole block covers it. -/
theorem cover_one {e : EltTy} (p : Vec F S2048x256 e) (y : S2048x256.Idx) :
    ∃ pc ∈ ([⟨rO, p⟩] : List (View.Piece (Elt F) S2048x256 e)), y ∈ pc.1.set :=
  View.cover_of_tiled [⟨rO, p⟩] S2048x256.size (by rfl) y

/-- Output window 6's buffer (the queries) after the branch that stores it, from the input blocks it reads. -/
def out6 (x0 : Vec F S2048x2048 .bf16) (x1 : Vec F S256x2048 .f32) (x4 : Vec F S1x128 .f32) : Vec F S2048x256 .bf16 :=
  View.canon [⟨rO, k0_pay1 (View.ld x0 rH) (View.ld x1 rW) (View.ld x4 rG)⟩]

/-- Output window 7's buffer (the keys) after the branch that stores it, from the input blocks it reads. -/
def out7 (x0 : Vec F S2048x2048 .bf16) (x1 : Vec F S256x2048 .f32) (x5 : Vec F S1x128 .f32) : Vec F S2048x256 .f32 :=
  View.canon [⟨rO, k0_pay2 (View.ld x0 rH) (View.ld x1 rW) (View.ld x5 rG)⟩]

/-- Output window 8's buffer (the values) after the branch that stores it, from the input blocks it reads. -/
def out8 (x0 : Vec F S2048x2048 .bf16) (x1 : Vec F S256x2048 .f32) : Vec F S2048x256 .f32 :=
  View.canon [⟨rO, k0_pay3 (View.ld x0 rH) (View.ld x1 rW)⟩]

/-- Output window 9's buffer (the linear mixer's channels) after the branch that stores it, from the input blocks it reads. -/
def out9 (x0 : Vec F S2048x2048 .bf16) (x1 : Vec F S256x2048 .f32) : Vec F S2048x256 .f32 :=
  View.canon [⟨rO, k0_pay4 (View.ld x0 rH) (View.ld x1 rW)⟩]

/-- Output window 10's buffer (the gates) after the branch that stores it, from the input blocks it reads. -/
def out10 (x0 : Vec F S2048x2048 .bf16) (x2 : Vec F S256x2048 .f32) : Vec F S2048x256 .f32 :=
  View.canon [⟨rO, k0_pay5 (View.ld x0 rH) (View.ld x2 rW)⟩]

/-- Output window 11's buffer (the two logit columns' block) after the branch that stores it, from the input blocks it reads. -/
def out11 (x0 : Vec F S2048x2048 .bf16) (x3 : Vec F S256x2048 .f32) : Vec F S2048x256 .f32 :=
  View.canon [⟨rO, k0_pay6 (View.ld x0 rH) (View.ld x3 rW)⟩]

/-! ## The body -/

set_option maxHeartbeats 1000000 in
/-- The body at a point that stores output window `g`: every input block stays as it is, that window's buffer ends at
    what the branch stores, whatever it held, and the other windows' buffers end at what they held. -/
theorem sound (c : Dev nD) (E : Set ℕ) (i : grid0.Coords) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole)
    (g : ℕ) (hg : g = 6 ∨ g = 7 ∨ g = 8 ∨ g = 9 ∨ g = 10 ∨ g = 11)
    (hc1 : k0_cond1 i = 1#1 ↔ g = 6) (hc2 : k0_cond2 i = 1#1 ↔ g = 7) (hc3 : k0_cond3 i = 1#1 ↔ g = 8) (hc4 : k0_cond4 i = 1#1 ↔ g = 9) (hc5 : k0_cond5 i = 1#1 ↔ g = 10) (hc6 : k0_cond6 i = 1#1 ↔ g = 11)
    (x0 : Vec F S2048x2048 .bf16) (x1 : Vec F S256x2048 .f32) (x2 : Vec F S256x2048 .f32) (x3 : Vec F S256x2048 .f32) (x4 : Vec F S1x128 .f32) (x5 : Vec F S1x128 .f32) (y6 : Vec F S2048x256 .bf16) (y7 y8 y9 y10 y11 : Vec F S2048x256 .f32)
    (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (if g = 6 then out6 x0 x1 x4 else y6) ∗ owns (c : Thread nD τ) arg9 fullShare (if g = 7 then out7 x0 x1 x5 else y7) ∗ owns (c : Thread nD τ) arg10 fullShare (if g = 8 then out8 x0 x1 else y8) ∗ owns (c : Thread nD τ) arg11 fullShare (if g = 9 then out9 x0 x1 else y9) ∗ owns (c : Thread nD τ) arg12 fullShare (if g = 10 then out10 x0 x2 else y10) ∗ owns (c : Thread nD τ) arg13 fullShare (if g = 11 then out11 x0 x3 else y11)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0 hf1 hf2 hf3 hf4 hf5 hf6 hf7 hf8 hf9 hf10 hf11
  rcases hg with rfl | rfl | rfl | rfl | rfl | rfl
  all_goals
    simp only [Nat.reduceEqDiff, iff_true, iff_false] at hc1 hc2 hc3 hc4 hc5 hc6
    sl_exec (disch := first | sl_exact hc1 | sl_exact hc2 | sl_exact hc3 | sl_exact hc4 | sl_exact hc5 | sl_exact hc6)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; simp only [Nat.reduceEqDiff, reduceIte] <;> exact (View.read_writes_eq_canon _ _ _ (cover_one _)).trans rfl
    isplitl [H7]
    · iexists _; isplitr
      swap; · iexact H7
      ipureintro; simp only [Nat.reduceEqDiff, reduceIte] <;> exact (View.read_writes_eq_canon _ _ _ (cover_one _)).trans rfl
    isplitl [H8]
    · iexists _; isplitr
      swap; · iexact H8
      ipureintro; simp only [Nat.reduceEqDiff, reduceIte] <;> exact (View.read_writes_eq_canon _ _ _ (cover_one _)).trans rfl
    isplitl [H9]
    · iexists _; isplitr
      swap; · iexact H9
      ipureintro; simp only [Nat.reduceEqDiff, reduceIte] <;> exact (View.read_writes_eq_canon _ _ _ (cover_one _)).trans rfl
    isplitl [H10]
    · iexists _; isplitr
      swap; · iexact H10
      ipureintro; simp only [Nat.reduceEqDiff, reduceIte] <;> exact (View.read_writes_eq_canon _ _ _ (cover_one _)).trans rfl
    iexists _; isplitr
    swap; · iexact H11
    ipureintro; simp only [Nat.reduceEqDiff, reduceIte] <;> exact (View.read_writes_eq_canon _ _ _ (cover_one _)).trans rfl

/-! ## The proof data -/

/-- The output window that a point stores, by the group its column block is in. -/
def own (t : Fin cfg0.N) : ℕ :=
  if t.val % 29 < 4 then 6 else if t.val % 29 < 8 then 7 else if t.val % 29 < 12 then 8
    else if t.val % 29 < 24 then 9 else if t.val % 29 < 28 then 10 else 11

/-- The first and the last column block of an output window's group; of an input all 29. -/
def lo : Fin 12 → ℕ := ![0, 0, 0, 0, 0, 0, 0, 4, 8, 12, 24, 28]
def hi : Fin 12 → ℕ := ![28, 28, 28, 28, 28, 28, 3, 7, 11, 23, 27, 28]

/-- The point of `t`'s row of column blocks at which a window was, is, or will first be stored, looked at from `t`: `t`
    itself inside the window's group, the group's last point after it, its first before it. -/
def pt (w : Fin 12) (t : Fin cfg0.N) : Fin cfg0.N :=
  ⟨29 * (t.val / 29) + min (max (t.val % 29) (lo w)) (min (hi w) 28), by
    have h : t.val < 116 := lt_of_lt_of_eq t.isLt N_0
    exact lt_of_lt_of_eq (by omega : 29 * (t.val / 29) + min (max (t.val % 29) (lo w)) (min (hi w) 28) < 116) N_0.symm⟩

/-- What a window's buffer holds after a point at which the body reads it, or stores it. -/
def stored (c : Dev nD) (w : Fin cfg0.W) (t : Fin cfg0.N) : (cfg0.win w).block.Idx → Elt F (cfg0.win w).elt :=
  match w with
  | ⟨0, _⟩ => iblk m c 0 t
  | ⟨1, _⟩ => X0_1 m c t
  | ⟨2, _⟩ => iblk m c 2 t
  | ⟨3, _⟩ => iblk m c 3 t
  | ⟨4, _⟩ => iblk m c 4 t
  | ⟨5, _⟩ => iblk m c 5 t
  | ⟨6, _⟩ => out6 (iblk m c 0 t) (X0_1 m c t) (iblk m c 4 t)
  | ⟨7, _⟩ => out7 (iblk m c 0 t) (X0_1 m c t) (iblk m c 5 t)
  | ⟨8, _⟩ => out8 (iblk m c 0 t) (X0_1 m c t)
  | ⟨9, _⟩ => out9 (iblk m c 0 t) (X0_1 m c t)
  | ⟨10, _⟩ => out10 (iblk m c 0 t) (iblk m c 2 t)
  | ⟨11, _⟩ => out11 (iblk m c 0 t) (iblk m c 3 t)

/-- The proof data of the pipeline on core `c`: the arrays as the region finds them; after the body at point `t` each
    input's buffer at its block, and each output's at what its group's branch stores at the last point of the row where
    it was taken; nothing else of the body's own. -/
def dats (_ : Fin 1) (c : Dev nD) : Dat τ (Elt F) Unit ℕ (UR sig nD τ) ℕ cfg0 c where
  A w := V m c (Pipeline.arrRef spec0 w)
  after w t := stored m c w (pt w t)
  Φ _ := Pipeline.ΦA spec0 c
  q _ := fullShare
  owed _ := 0

/-- The arrays of the proof data are the contents the region is entered with. -/
theorem A_eq (c : Dev nD) (w : Fin cfg0.W) : (dats m 0 c).A w = V m c (Pipeline.arrRef spec0 w) := by
  dsimp only [dats]

/-- What the body leaves in a window's buffer. -/
theorem after_eq (c : Dev nD) (w : Fin cfg0.W) (t : Fin cfg0.N) : (dats m 0 c).after w t = stored m c w (pt w t) := by
  dsimp only [dats]

/-- A point inside a window's group is its own; every point is inside an input's. -/
theorem pt_own : ∀ (w : Fin cfg0.W) (t : Fin cfg0.N), w.val < 6 ∨ own t = w.val → pt w t = t :=
  (by decide +kernel : ∀ (w : Fin 12) (t : Fin grid0.N), w.val < 6 ∨ own t = w.val → pt w t = t)

/-- What the body leaves in a window's buffer at a point of the window's group. -/
theorem after_own (c : Dev nD) (w : Fin cfg0.W) (t : Fin cfg0.N) (h : w.val < 6 ∨ own t = w.val) :
    (dats m 0 c).after w t = stored m c w t := by
  rw [after_eq, pt_own w t h]

/-! Each input's buffer holds its block at every point. -/

theorem before0_0 (c : Dev nD) (t : Fin cfg0.N) (d) : (dats m 0 c).before 0 t d = iblk m c 0 t :=
  before0_0_of m (dats m 0 c) (A_eq m c 0) (fun t => after_own m c 0 t (.inl (by decide))) t d
theorem before0_1 (c : Dev nD) (t : Fin cfg0.N) (d) : (dats m 0 c).before 1 t d = X0_1 m c t :=
  before0_1_of m (dats m 0 c) (A_eq m c 1) (fun t => after_own m c 1 t (.inl (by decide))) t d
theorem before0_2 (c : Dev nD) (t : Fin cfg0.N) (d) : (dats m 0 c).before 2 t d = iblk m c 2 t :=
  before0_2_of m (dats m 0 c) (A_eq m c 2) (fun t => after_own m c 2 t (.inl (by decide))) t d
theorem before0_3 (c : Dev nD) (t : Fin cfg0.N) (d) : (dats m 0 c).before 3 t d = iblk m c 3 t :=
  before0_3_of m (dats m 0 c) (A_eq m c 3) (fun t => after_own m c 3 t (.inl (by decide))) t d
theorem before0_4 (c : Dev nD) (t : Fin cfg0.N) (d) : (dats m 0 c).before 4 t d = iblk m c 4 t :=
  before0_4_of m (dats m 0 c) (A_eq m c 4) (fun t => after_own m c 4 t (.inl (by decide))) t d
theorem before0_5 (c : Dev nD) (t : Fin cfg0.N) (d) : (dats m 0 c).before 5 t d = iblk m c 5 t :=
  before0_5_of m (dats m 0 c) (A_eq m c 5) (fun t => after_own m c 5 t (.inl (by decide))) t d

/-! ## Which branch a point takes, and what the others' buffers keep -/

/-- A point stores one of the six outputs. -/
theorem own_mem (t : Fin cfg0.N) : own t = 6 ∨ own t = 7 ∨ own t = 8 ∨ own t = 9 ∨ own t = 10 ∨ own t = 11 := by
  unfold own; split_ifs <;> decide

/-- Each branch is taken at the points that store its output. -/
theorem cond_iff : ∀ t : Fin cfg0.N, (k0_cond1 (cfg0.grid.coords t) = 1#1 ↔ own t = 6) ∧ (k0_cond2 (cfg0.grid.coords t) = 1#1 ↔ own t = 7)
    ∧ (k0_cond3 (cfg0.grid.coords t) = 1#1 ↔ own t = 8) ∧ (k0_cond4 (cfg0.grid.coords t) = 1#1 ↔ own t = 9)
    ∧ (k0_cond5 (cfg0.grid.coords t) = 1#1 ↔ own t = 10) ∧ (k0_cond6 (cfg0.grid.coords t) = 1#1 ↔ own t = 11) :=
  (by decide +kernel : ∀ t : Fin grid0.N, _)

/-- An output is idle at the points that store another one. -/
theorem idle_iff : ∀ (w : Fin cfg0.W) (t : Fin cfg0.N), 6 ≤ w.val → (cfg0.idle w (cfg0.grid.coords t) = false ↔ own t = w.val) :=
  (by decide +kernel : ∀ (w : Fin 12) (t : Fin grid0.N), 6 ≤ w.val → (cfg0.idle w (grid0.coords t) = false ↔ own t = w.val))

/-- Where an output's block is written back at an idle point, the buffer holds a store of this row, -/
theorem held : ∀ (w : Fin cfg0.W) (t : Fin cfg0.N), 6 ≤ w.val → cfg0.idle w (cfg0.grid.coords t) = true → (cfg0.win w).flush t = true →
    cfg0.fresh w t.val = false :=
  (by decide +kernel : ∀ (w : Fin 12) (t : Fin grid0.N), 6 ≤ w.val → cfg0.idle w (grid0.coords t) = true → (cfg0.win w).flush t = true →
    cfg0.fresh w t.val = false)

/-- and at an idle point that holds one it is the point before's. -/
theorem prev : ∀ (w : Fin cfg0.W) (t : Fin cfg0.N), 6 ≤ w.val → t.val ≠ 0 → cfg0.idle w (cfg0.grid.coords t) = true → cfg0.fresh w t.val = false →
    pt w t = pt w ⟨t.val - 1, Nat.lt_of_le_of_lt (Nat.sub_le _ _) t.isLt⟩ :=
  (by decide +kernel : ∀ (w : Fin 12) (t : Fin grid0.N), 6 ≤ w.val → t.val ≠ 0 → cfg0.idle w (grid0.coords t) = true → cfg0.fresh w t.val = false →
    pt w t = pt w ⟨t.val - 1, Nat.lt_of_le_of_lt (Nat.sub_le _ _) t.isLt⟩)

variable (c : Dev nD) (w : Fin cfg0.W) (hw : 6 ≤ w.val)

include hw in
/-- An output's window is an output, and its blocks tile its array. -/
theorem isOut : (cfg0.win w).isOut = true ∧ ∀ (i : cfg0.grid.Coords) a, (cfg0.win w).clip i a = none := by
  obtain ⟨v, hv⟩ := w
  change 6 ≤ v at hw
  have hv' : v < 12 := hv
  obtain rfl | rfl | rfl | rfl | rfl | rfl : v = 6 ∨ v = 7 ∨ v = 8 ∨ v = 9 ∨ v = 10 ∨ v = 11 := by omega
  all_goals exact ⟨rfl, fun _ _ => rfl⟩

include hw in
/-- What the body leaves in an output's buffer at an idle point is what it left there at the point before. -/
theorem carry (t : Fin cfg0.N) (h0 : t.val ≠ 0) (hi : cfg0.idle w (cfg0.grid.coords t) = true) (hf : cfg0.fresh w t.val = false) :
    (dats m 0 c).after w t = (dats m 0 c).after w ⟨t.val - 1, Nat.lt_of_le_of_lt (Nat.sub_le _ _) t.isLt⟩ := by
  rw [after_eq, after_eq, prev w t hw h0 hi hf]

include hw in
/-- An output's buffer after the body — stored at a point of its group, as it was found elsewhere — is what the
    obligation asks. -/
theorem leaves (t : Fin cfg0.N) (d) :
    (owns (c : Thread nD τ) ((cfg0.win w).stage (cfg0.slots t w)) fullShare (if own t = w.val then stored m c w t else (dats m 0 c).before w t d)
      : sProp (MT nD τ sig Unit (Elt F) ℕ (UR sig nD τ) ℕ)) ⊢ (dats m 0 c).leavesExact w t :=
  Cert.Idle.leaves (dats m 0 c) w (isOut w hw).1 (isOut w hw).2 (fun t => held w t hw) (carry m c w hw) t _ (idle_iff w t hw) _
    (fun h => after_own m c w t (.inr h)) d

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨h1, h2, h3, h4, h5, h6⟩ := cond_iff t
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after_own m c 0 t (.inl (by decide)), after_own m c 1 t (.inl (by decide)), after_own m c 2 t (.inl (by decide)),
    after_own m c 3 t (.inl (by decide)), after_own m c 4 t (.inl (by decide)), after_own m c 5 t (.inl (by decide))]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound c Set.univ (grid0.coords t) _ _ _ _ _ _ _ _ _ _ _ _ _ _ _ _ _ _ _ _ _ _ _ _ (own t) (own_mem t) h1 h2 h3 h4 h5 h6
    (iblk m c 0 t) (X0_1 m c t) (iblk m c 2 t) (iblk m c 3 t) (iblk m c 4 t) (iblk m c 5 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves m c 6 (by decide) t d6); iexact H6
  isplitl [H7]; · iapply (leaves m c 7 (by decide) t d7); iexact H7
  isplitl [H8]; · iapply (leaves m c 8 (by decide) t d8); iexact H8
  isplitl [H9]; · iapply (leaves m c 9 (by decide) t d9); iexact H9
  isplitl [H10]; · iapply (leaves m c 10 (by decide) t d10); iexact H10
  iapply (leaves m c 11 (by decide) t d11); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program ends with every array of the pipeline at what the proof data says, the host lines
    after the region run on them, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjIdeal.Gen

end
-- ==== Proof.InProj.FrameBits.lean ====
module

public import proofs.«01_k».proof.Defs
public import proofs.«01_k».proof.Proof.InProj.Frame
public import proofs.«01_k».proof.Proof.Gen.InProj.Frame

/-! The frame of the program as it runs: over any floats it is the program that the idealized one is read from, so its frame
is the one proved there. -/

@[expose] public section

set_option maxRecDepth 16384
set_option maxHeartbeats 1000000

namespace Cert.InProj.Gen

open Idealize.ShloMosaic

variable {F : FTy → Type} [FloatOps F]

/-- The two programs' kernels are the same, -/
theorem bodies_eq : Cert.InProj.defs₀ (F := F) = Cert.InProjIdeal.defs₀ (F := F) := by
  unfold Cert.InProj.defs₀ Cert.InProjIdeal.defs₀
  refine congrArg Defs.onTc (funext fun l => funext fun a => ?_)
  obtain rfl : l = 0 := Subsingleton.elim _ _
  rfl

/-- so their pipelines are, -/
theorem defs_eq : Cert.InProj.defs (F := F) = Cert.InProjIdeal.defs (F := F) :=
  congrArg (Pipeline.defs Cert.InProj.pcfgs) bodies_eq

/-- and what is true of every run of the one is true of every run of the other. -/
theorem run_of (m : (ℓ : Loc nD τ sig) → Buf (Elt F) ℓ) (ρ : Dev nD → PrngReg) (Q)
    (h : θ_run (Cert.InProjIdeal.defs (F := F)) (onTc (τ := Cert.InProjIdeal.τ) (Cert.InProjIdeal.main (F := F))) ⟨m, fun _ => 0, ρ⟩ Q) :
    θ_run (defs (F := F)) (onTc (τ := τ) (main (F := F))) ⟨m, fun _ => 0, ρ⟩ Q := by
  rw [defs_eq]; exact h

/-- The frame: the arguments end as launched and every semaphore counter at zero. -/
theorem frame : Cert.quiescent_InProj (hInProj := Cert.InProj.Gen.facts) :=
  fun m ρ _ => run_of m ρ _ (Cert.InProjIdeal.Gen.frame (F := Bits) m ρ)

end Cert.InProj.Gen
-- ==== Proof.InProj.Pure.lean ====
module

public import proofs.«01_k».proof.Proof.Gen.InProjIdeal.Skeleton
public import proofs.«01_k».proof.Proof.Gen.InProjReferenceIdeal.Read
public import Idealize.ShloMosaic.Lib.Pointwise

@[expose] public section

set_option maxRecDepth 16384

noncomputable section

open Idealize.ShloMosaic Idealize.ShloMosaic.TcCoe Idealize.SL.Sem

namespace Cert.InProjIdeal.Pure

open Cert.InProjIdeal Cert.InProjReferenceIdeal.Read

variable (x0 : Vec Ideal S8192x2048 .bf16) (x1 : Vec Ideal S2048x7184 .f32) (x2 x3 : Vec Ideal S128 .f32)
  (R : Fin 2048 → Fin 8192) (v30 : Vec Ideal S2048x2048 .bf16) (v31 : Vec Ideal S256x2048 .f32) (v35 : Vec Ideal S1x128 .f32)

/-- Rows times a block of transposed weights: the reference's product at the rows and the block's columns. -/
theorem prod_eq (C : Fin 256 → Fin 7184)
    (h0 : ∀ (r : Fin 2048) (k : Fin 2048), v30 (ix2 r k) = x0 (ix2 (R r) k))
    (h1 : ∀ (n : Fin 256) (k : Fin 2048), v31 (ix2 n k) = x1 (ix2 k (C n))) (r : Fin 2048) (n : Fin 256) :
    (Gen.k0_pay3 (F := Ideal) v30 v31 (ix2 r n) : EReal) = val_main_v1 (F := Ideal) x0 x1 (ix2 (R r) (C n)) := by
  pointwise! [Gen.k0_pay3, h0, h1, val_main_v1, val_main_v0]

/-- The same at one column. -/
theorem prod_at (h0 : ∀ (r : Fin 2048) (k : Fin 2048), v30 (ix2 r k) = x0 (ix2 (R r) k)) (n : Fin 256) (q : Fin 7184)
    (h1 : ∀ (k : Fin 2048), v31 (ix2 n k) = x1 (ix2 k q)) (r : Fin 2048) :
    (Gen.k0_pay3 (F := Ideal) v30 v31 (ix2 r n) : EReal) = val_main_v1 (F := Ideal) x0 x1 (ix2 (R r) q) := by
  pointwise! [Gen.k0_pay3, h0, h1, val_main_v1, val_main_v0]

/-- Rows times a column of zeros. -/
theorem prod_zero (n : Fin 256) (h1 : ∀ (k : Fin 2048), v31 (ix2 n k) = (0 : EReal)) (r : Fin 2048) :
    (Gen.k0_pay3 (F := Ideal) v30 v31 (ix2 r n) : EReal) = 0 := by
  pointwise! [Gen.k0_pay3, h1]
  exact Finset.sum_eq_zero fun x _ => mul_zero _

/-- One head, normalised: the term that both heads of a block are. -/
def head (v37 : FVec Ideal S2048x128 .f32) (v36 : FVec Ideal S1x128 .f32) : FVec Ideal S2048x128 .f32 :=
  mulf (mulf v37 (broadcastTo S2048x128 (rsqrt (addf (divf (shapeCast S2048x1
    (multiReduction .add [1] S2048 (mulf v37 v37) 0x00000000#32 Gen.reduces_S2048x128_S2048 (.inl rfl) rfl) Gen.shapeCasts_S2048_S2048x1)
    (broadcast S2048x1 (Scalar.ofBits .f32 0x43000000#32))) (broadcast S2048x1 (Scalar.ofBits .f32 0x358637BD#32)))) Gen.broadcasts_S2048x1_S2048x128))
    (broadcastTo S2048x128 v36 Gen.broadcasts_S1x128_S2048x128)

/-- The two heads of a block, normalised, side by side. -/
def heads (v34 : FVec Ideal S2048x256 .f32) (v36 : FVec Ideal S1x128 .f32) : FVec Ideal S2048x256 .f32 :=
  concatenate S2048x256 1 [⟨S2048x128, head (extractStridedSlice S2048x128 ![0, 0] v34 Gen.slices_S2048x256_o0_0_S2048x128) v36⟩,
    ⟨S2048x128, head (extractStridedSlice S2048x128 ![0, 128] v34 Gen.slices_S2048x256_o0_128_S2048x128) v36⟩]
    Gen.concatenates_S2048x128_S2048x128_S2048x256_d1

/-- The keys' store is the two heads of the block's product. -/
theorem pay2_eq : Gen.k0_pay2 (F := Ideal) v30 v31 v35 = heads (Gen.k0_pay3 v30 v31) (shapeCast S1x128 v35 Gen.shapeCasts_S1x128_S1x128) := rfl
/-- The queries' store is the same, rounded. -/
theorem pay1_eq : Gen.k0_pay1 (F := Ideal) v30 v31 v35
    = truncf .bf16 (heads (Gen.k0_pay3 v30 v31) (shapeCast S1x128 v35 Gen.shapeCasts_S1x128_S1x128)) Gen.bitsLt_bf16_f32 := rfl
/-- The other stores are the block's product. -/
theorem pay4_eq : Gen.k0_pay4 (F := Ideal) v30 v31 = Gen.k0_pay3 v30 v31 := rfl
theorem pay5_eq : Gen.k0_pay5 (F := Ideal) v30 v31 = Gen.k0_pay3 v30 v31 := rfl
theorem pay6_eq : Gen.k0_pay6 (F := Ideal) v30 v31 = Gen.k0_pay3 v30 v31 := rfl

/-- A head's lane of the queries before the norm. -/
theorem splitq (i : Fin 8192) (h : Fin 8) (l : Fin 128) (n : Fin 7184) (hn : n.val = 128 * h.val + l.val) :
    val_main_v8 (F := Ideal) x0 x1 (ix3 i h l) = val_main_v1 (F := Ideal) x0 x1 (ix2 i n) := by
  rw [val_main_v8_apply, val_main_v2_apply]
  congr 1
  have := i.isLt; have := h.isLt; have := l.isLt
  funext a
  apply Fin.ext
  match a with
  | ⟨0, _⟩ => show ((i.val * 8 + h.val) * 128 + l.val) / 1024 = i.val; omega
  | ⟨1, _⟩ => show ((i.val * 8 + h.val) * 128 + l.val) % 1024 = n.val; omega

/-- A head's lane of the keys before the norm. -/
theorem splitk (i : Fin 8192) (h : Fin 8) (l : Fin 128) (n : Fin 7184) (hn : n.val = 1024 + (128 * h.val + l.val)) :
    val_main_v24 (F := Ideal) x0 x1 (ix3 i h l) = val_main_v1 (F := Ideal) x0 x1 (ix2 i n) := by
  rw [val_main_v24_apply, val_main_v3_apply]
  congr 1
  have := i.isLt; have := h.isLt; have := l.isLt
  funext a
  apply Fin.ext
  match a with
  | ⟨0, _⟩ => show ((i.val * 8 + h.val) * 128 + l.val) / 1024 = i.val; omega
  | ⟨1, _⟩ => show 1024 + ((i.val * 8 + h.val) * 128 + l.val) % 1024 = n.val; omega

/-- One head of queries, normalised with the gain times the scale, is the reference's, normalised and then scaled. -/
theorem headq_eq (h : Fin 8) (v37 : FVec Ideal S2048x128 .f32) (v36 : FVec Ideal S1x128 .f32)
    (h7 : ∀ (r : Fin 2048) (l : Fin 128), v37 (ix2 r l) = val_main_v8 (F := Ideal) x0 x1 (ix3 (R r) h l))
    (h6 : ∀ l : Fin 128, v36 (ix2 0 l) = (x2 (ix1 l) * (FloatOps.ofBits (F := Ideal) .f32 0x3DB504F3#32 : EReal) : EReal)) (r : Fin 2048) (l : Fin 128) :
    head v37 v36 (ix2 r l) = val_main_v23 (F := Ideal) x0 x1 x2 (ix3 (R r) h l) := by
  pointwise! [head, h7, h6, val_main_v23, val_main_v22, val_main_v21, val_main_v20, val_main_v19, val_main_v18, val_main_v17, val_main_v16, val_main_v15,
    val_main_v14, val_main_v13, val_main_v12, val_main_v11, val_main_v10, val_main_v9, val_main_cst, val_main_cst_0, val_main_cst_1, val_main_cst_2]

/-- One head of keys, normalised, is the reference's. -/
theorem headk_eq (h : Fin 8) (v37 : FVec Ideal S2048x128 .f32) (v36 : FVec Ideal S1x128 .f32)
    (h7 : ∀ (r : Fin 2048) (l : Fin 128), v37 (ix2 r l) = val_main_v24 (F := Ideal) x0 x1 (ix3 (R r) h l))
    (h6 : ∀ l : Fin 128, v36 (ix2 0 l) = x3 (ix1 l)) (r : Fin 2048) (l : Fin 128) :
    head v37 v36 (ix2 r l) = val_main_v37 (F := Ideal) x0 x1 x3 (ix3 (R r) h l) := by
  pointwise! [head, h7, h6, val_main_v37, val_main_v36, val_main_v35, val_main_v34, val_main_v33, val_main_v32, val_main_v31, val_main_v30, val_main_v29,
    val_main_v28, val_main_v27, val_main_v26, val_main_v25, val_main_cst_3, val_main_cst_4, val_main_cst_5]

/-- The columns of a head of a block. -/
theorem cols_eq (b : Fin 2) (o : Fin 2 → Nat) (hs : S2048x256.Slices o S2048x128) (ho : o = ![0, 128 * b.val]) (v : FVec Ideal S2048x256 .f32)
    (r : Fin 2048) (l : Fin 128) :
    extractStridedSlice S2048x128 o v hs (ix2 r l) = v (ix2 r (⟨128 * b.val + l.val, by have := b.isLt; have := l.isLt; omega⟩ : Fin 256)) := by
  subst ho
  pointwise!

/-- The first head's columns of the two side by side, -/
theorem heads_left (v34 : FVec Ideal S2048x256 .f32) (v36 : FVec Ideal S1x128 .f32) (r : Fin 2048) (l : Fin 128) :
    heads v34 v36 (ix2 r (⟨l.val, by omega⟩ : Fin 256))
      = head (extractStridedSlice S2048x128 ![0, 0] v34 Gen.slices_S2048x256_o0_0_S2048x128) v36 (ix2 r l) := by
  unfold heads
  generalize head (extractStridedSlice S2048x128 ![0, 0] v34 Gen.slices_S2048x256_o0_0_S2048x128) v36 = p
  generalize head (extractStridedSlice S2048x128 ![0, 128] v34 Gen.slices_S2048x256_o0_128_S2048x128) v36 = q
  pointwise!
/-- and the second's. -/
theorem heads_right (v34 : FVec Ideal S2048x256 .f32) (v36 : FVec Ideal S1x128 .f32) (r : Fin 2048) (l : Fin 128) :
    heads v34 v36 (ix2 r (⟨128 + l.val, by omega⟩ : Fin 256))
      = head (extractStridedSlice S2048x128 ![0, 128] v34 Gen.slices_S2048x256_o0_128_S2048x128) v36 (ix2 r l) := by
  unfold heads
  generalize head (extractStridedSlice S2048x128 ![0, 0] v34 Gen.slices_S2048x256_o0_0_S2048x128) v36 = p
  generalize head (extractStridedSlice S2048x128 ![0, 128] v34 Gen.slices_S2048x256_o0_128_S2048x128) v36 = q
  pointwise!

/-- The gain as the heads read it. -/
theorem gain_eq (l : Fin 128) : shapeCast S1x128 v35 Gen.shapeCasts_S1x128_S1x128 (ix2 0 l) = v35 (ix2 0 l) := by
  pointwise!

/-- The integer zero, converted, is zero. -/
theorem sitofp_zero : (FloatOps.sitofp (F := Ideal) FTy.f32 0#32 : EReal) = 0 := by
  simp [FloatOps.sitofp]

/-- The reference's padded logit columns: the product's columns, -/
theorem pad_left (i : Fin 8192) (n : Fin 256) (hn : n.val < 16) :
    val_main_v38 (F := Ideal) x0 x1 (ix2 i n) = val_main_v1 (F := Ideal) x0 x1 (ix2 i (⟨6144 + n.val, by omega⟩ : Fin 7184)) := by
  pointwise! [val_main_v38, val_main_v6]
  rw [dif_pos hn]
/-- and zeros. -/
theorem pad_right (i : Fin 8192) (n : Fin 256) (hn : ¬ n.val < 16) :
    (val_main_v38 (F := Ideal) x0 x1 (ix2 i n) : EReal) = 0 := by
  pointwise! [val_main_v38, val_main_call0_v0, val_main_c]
  rw [dif_neg hn]
  exact sitofp_zero

/-- An entry of the reference's queries, by its head. -/
theorem joinq (i : Fin 8192) (h : Fin 8) (l : Fin 128) (q : Fin 1024) (hq : q.val = 128 * h.val + l.val) :
    val_main_v42 (F := Ideal) x0 x1 x2 (ix2 i q) = val_main_v23 (F := Ideal) x0 x1 x2 (ix3 i h l) := by
  rw [val_main_v42_apply]
  congr 1
  have := i.isLt; have := h.isLt; have := l.isLt
  funext a
  apply Fin.ext
  match a with
  | ⟨0, _⟩ => show (i.val * 1024 + q.val) / 1024 = i.val; omega
  | ⟨1, _⟩ => show (i.val * 1024 + q.val) / 128 % 8 = h.val; omega
  | ⟨2, _⟩ => show (i.val * 1024 + q.val) % 128 = l.val; omega

/-- A block of queries: both heads are the reference's. -/
theorem blockq (b : Fin 4) (h0 : ∀ (r : Fin 2048) (k : Fin 2048), v30 (ix2 r k) = x0 (ix2 (R r) k))
    (h1 : ∀ (n : Fin 256) (k : Fin 2048), v31 (ix2 n k) = x1 (ix2 k (⟨0 + (256 * b.val + n.val), by have := b.isLt; have := n.isLt; omega⟩ : Fin 7184)))
    (hg : ∀ l : Fin 128, v35 (ix2 0 l) = (x2 (ix1 l) * (FloatOps.ofBits (F := Ideal) .f32 0x3DB504F3#32 : EReal) : EReal)) (r : Fin 2048) (n : Fin 256) :
    heads (Gen.k0_pay3 v30 v31) (shapeCast S1x128 v35 Gen.shapeCasts_S1x128_S1x128) (ix2 r n)
      = val_main_v42 (F := Ideal) x0 x1 x2 (ix2 (R r) (⟨256 * b.val + n.val, by have := b.isLt; have := n.isLt; omega⟩ : Fin 1024)) := by
  have hb := b.isLt
  have hn := n.isLt
  by_cases hl : n.val < 128
  · exact (heads_left _ _ r ⟨n.val, hl⟩).trans ((headq_eq x0 x1 x2 R (⟨2 * b.val, by omega⟩ : Fin 8) _ _
      (fun r l => (cols_eq 0 _ _ rfl _ r l).trans ((prod_eq x0 x1 R v30 v31 _ h0 h1 r _).trans
        (splitq x0 x1 _ _ l _ (by show 0 + (256 * b.val + (128 * 0 + l.val)) = 128 * (2 * b.val) + l.val; omega)).symm))
      (fun l => (gain_eq v35 l).trans (hg l)) r ⟨n.val, hl⟩).trans
      (joinq x0 x1 x2 (R r) _ ⟨n.val, hl⟩ _ (by show 256 * b.val + n.val = 128 * (2 * b.val) + n.val; omega)).symm)
  · have hn' : n = (⟨128 + (⟨n.val - 128, by omega⟩ : Fin 128).val, by show 128 + (n.val - 128) < 256; omega⟩ : Fin 256) := Fin.ext (by show n.val = 128 + (n.val - 128); omega)
    refine (congrArg (fun n => heads (Gen.k0_pay3 v30 v31) (shapeCast S1x128 v35 Gen.shapeCasts_S1x128_S1x128) (ix2 r n)) hn').trans ?_
    exact (heads_right _ _ r ⟨n.val - 128, by omega⟩).trans ((headq_eq x0 x1 x2 R (⟨2 * b.val + 1, by omega⟩ : Fin 8) _ _
      (fun r l => (cols_eq 1 _ _ rfl _ r l).trans ((prod_eq x0 x1 R v30 v31 _ h0 h1 r _).trans
        (splitq x0 x1 _ _ l _ (by show 0 + (256 * b.val + (128 * 1 + l.val)) = 128 * (2 * b.val + 1) + l.val; omega)).symm))
      (fun l => (gain_eq v35 l).trans (hg l)) r ⟨n.val - 128, by omega⟩).trans
      (joinq x0 x1 x2 (R r) _ ⟨n.val - 128, by omega⟩ _ (by show 256 * b.val + n.val = 128 * (2 * b.val + 1) + (n.val - 128); omega)).symm)

/-- An entry of the reference's keys, by its head. -/
theorem joink (i : Fin 8192) (h : Fin 8) (l : Fin 128) (q : Fin 1024) (hq : q.val = 128 * h.val + l.val) :
    val_main_v44 (F := Ideal) x0 x1 x3 (ix2 i q) = val_main_v37 (F := Ideal) x0 x1 x3 (ix3 i h l) := by
  rw [val_main_v44_apply]
  congr 1
  have := i.isLt; have := h.isLt; have := l.isLt
  funext a
  apply Fin.ext
  match a with
  | ⟨0, _⟩ => show (i.val * 1024 + q.val) / 1024 = i.val; omega
  | ⟨1, _⟩ => show (i.val * 1024 + q.val) / 128 % 8 = h.val; omega
  | ⟨2, _⟩ => show (i.val * 1024 + q.val) % 128 = l.val; omega

/-- A block of keys: both heads are the reference's. -/
theorem blockk (b : Fin 4) (h0 : ∀ (r : Fin 2048) (k : Fin 2048), v30 (ix2 r k) = x0 (ix2 (R r) k))
    (h1 : ∀ (n : Fin 256) (k : Fin 2048), v31 (ix2 n k) = x1 (ix2 k (⟨1024 + (256 * b.val + n.val), by have := b.isLt; have := n.isLt; omega⟩ : Fin 7184)))
    (hg : ∀ l : Fin 128, v35 (ix2 0 l) = x3 (ix1 l)) (r : Fin 2048) (n : Fin 256) :
    heads (Gen.k0_pay3 v30 v31) (shapeCast S1x128 v35 Gen.shapeCasts_S1x128_S1x128) (ix2 r n)
      = val_main_v44 (F := Ideal) x0 x1 x3 (ix2 (R r) (⟨256 * b.val + n.val, by have := b.isLt; have := n.isLt; omega⟩ : Fin 1024)) := by
  have hb := b.isLt
  have hn := n.isLt
  by_cases hl : n.val < 128
  · exact (heads_left _ _ r ⟨n.val, hl⟩).trans ((headk_eq x0 x1 x3 R (⟨2 * b.val, by omega⟩ : Fin 8) _ _
      (fun r l => (cols_eq 0 _ _ rfl _ r l).trans ((prod_eq x0 x1 R v30 v31 _ h0 h1 r _).trans
        (splitk x0 x1 _ _ l _ (by show 1024 + (256 * b.val + (128 * 0 + l.val)) = 1024 + (128 * (2 * b.val) + l.val); omega)).symm))
      (fun l => (gain_eq v35 l).trans (hg l)) r ⟨n.val, hl⟩).trans
      (joink x0 x1 x3 (R r) _ ⟨n.val, hl⟩ _ (by show 256 * b.val + n.val = 128 * (2 * b.val) + n.val; omega)).symm)
  · have hn' : n = (⟨128 + (⟨n.val - 128, by omega⟩ : Fin 128).val, by show 128 + (n.val - 128) < 256; omega⟩ : Fin 256) := Fin.ext (by show n.val = 128 + (n.val - 128); omega)
    refine (congrArg (fun n => heads (Gen.k0_pay3 v30 v31) (shapeCast S1x128 v35 Gen.shapeCasts_S1x128_S1x128) (ix2 r n)) hn').trans ?_
    exact (heads_right _ _ r ⟨n.val - 128, by omega⟩).trans ((headk_eq x0 x1 x3 R (⟨2 * b.val + 1, by omega⟩ : Fin 8) _ _
      (fun r l => (cols_eq 1 _ _ rfl _ r l).trans ((prod_eq x0 x1 R v30 v31 _ h0 h1 r _).trans
        (splitk x0 x1 _ _ l _ (by show 1024 + (256 * b.val + (128 * 1 + l.val)) = 1024 + (128 * (2 * b.val + 1) + l.val); omega)).symm))
      (fun l => (gain_eq v35 l).trans (hg l)) r ⟨n.val - 128, by omega⟩).trans
      (joink x0 x1 x3 (R r) _ ⟨n.val - 128, by omega⟩ _ (by show 256 * b.val + n.val = 128 * (2 * b.val + 1) + (n.val - 128); omega)).symm)

/-- The carried rows are the raw columns' last three rows of each batch entry. -/
theorem conv_eq (b : Fin 4) (p : Fin 3) (q : Fin 3072) :
    val_main_v45 (F := Ideal) x0 x1 (ix3 b p q)
      = val_main_v5 (F := Ideal) x0 x1 (ix2 (⟨2048 * b.val + (2045 + p.val), by have := b.isLt; have := p.isLt; omega⟩ : Fin 8192) q) := by
  pointwise! [val_main_v45, val_main_v41, val_main_v40]
  rw [dif_neg (by omega)]
  exact congrArg (val_main_v5 x0 x1) (congrArg (fun i => ix2 i q) (Fin.ext (by show b.val * 2048 + (2048 + p.val - 3) = 2048 * b.val + (2045 + p.val); omega)))

end Cert.InProjIdeal.Pure

end
-- ==== Proof.InProj.Blocks.lean ====
module

public import proofs.«01_k».proof.Proof.InProj.Frame
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.InProjIdeal.Layer

open Cert.InProjIdeal Cert.InProjIdeal.Gen

variable (m : (ℓ : Loc nD τ sig) → Buf (Elt Ideal) ℓ) (c : Dev nD)

/-- The normalised stream that the run starts with. -/
abbrev a0 : Vec Ideal S8192x2048 .bf16 := m ((c : Thread nD τ).loc main_arg0)
/-- The input weights that the run starts with. -/
abbrev a1 : Vec Ideal S2048x7184 .f32 := m ((c : Thread nD τ).loc main_arg1)
/-- The gain of the queries' norm that the run starts with. -/
abbrev a2 : Vec Ideal S128 .f32 := m ((c : Thread nD τ).loc main_arg2)
/-- The gain of the keys' norm that the run starts with. -/
abbrev a3 : Vec Ideal S128 .f32 := m ((c : Thread nD τ).loc main_arg3)

/-- The transposed weights before the call, -/
theorem Vv0 : V m c main_v0 = transpose S7184x2048 [1, 0] (a1 m c) transposes_S2048x7184_S7184x2048_1_0 := by
  show StableHlo.after (hostOps0 ++ (hostOps0_1 ++ hostOps0_2)) (fun b => m (c, b)) _ = _
  after_reads_simp
/-- their gate rows, -/
theorem Vv3 : V m c main_v3 = extractStridedSlice S1024x2048 ![6160, 0] (transpose S7184x2048 [1, 0] (a1 m c) transposes_S2048x7184_S7184x2048_1_0)
    slices_S7184x2048_S1024x2048_6160_0 := by
  show StableHlo.after (hostOps0 ++ (hostOps0_1 ++ hostOps0_2)) (fun b => m (c, b)) _ = _
  after_reads_simp
/-- their logit rows, padded with zeros, -/
theorem Vv5 : V m c main_v5 = pad S256x2048 ![0, 0] ![240, 0] ![0, 0]
    (extractStridedSlice S16x2048 ![6144, 0] (transpose S7184x2048 [1, 0] (a1 m c) transposes_S2048x7184_S7184x2048_1_0) slices_S7184x2048_S16x2048_6144_0)
    (sitofp .f32 (constantI S_ 32 0#32) : FVec Ideal S_ .f32) pads_S16x2048_S256x2048_02400_000 h_S_ := by
  show StableHlo.after (hostOps0 ++ (hostOps0_1 ++ hostOps0_2)) (fun b => m (c, b)) _ = _
  after_reads_simp
  rfl
/-- the queries' gain times the scale, -/
theorem Vv6 : V m c main_v6 = shapeCast S1x128 (mulf (a2 m c : FVec Ideal S128 .f32)
    (broadcastInDim S128 ![] bcast_S_S128 (constant (F := Ideal) S_ FTy.f32 1035273459#32))) shapeCasts_S128_S1x128 := by
  show StableHlo.after (hostOps0 ++ (hostOps0_1 ++ hostOps0_2)) (fun b => m (c, b)) _ = _
  after_reads_simp
  rfl
/-- and the keys' gain. -/
theorem Vv7 : V m c main_v7 = shapeCast S1x128 (a3 m c) shapeCasts_S128_S1x128 := by
  show StableHlo.after (hostOps0 ++ (hostOps0_1 ++ hostOps0_2)) (fun b => m (c, b)) _ = _
  after_reads_simp
  rfl

/-- The input windows' block indices at a grid point. -/
theorem idxIn : ∀ t : Fin cfg0.N,
    win0_0.index t (0 : Fin 2) = t.val / 29 ∧ win0_0.index t (1 : Fin 2) = 0
    ∧ win0_1.index t (0 : Fin 2) = min (t.val % 29) 23 ∧ win0_1.index t (1 : Fin 2) = 0
    ∧ win0_2.index t (0 : Fin 2) = min (t.val % 29 - 24) 3 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem hz : (![0, 0] : Fin 2 → Nat) = fun _ => 0 := by
  funext a
  match a with
  | ⟨0, _⟩ => rfl
  | ⟨1, _⟩ => rfl

variable (t : Fin cfg0.N)

/-- The global row of a row of a point's block. -/
abbrev row (r : Fin 2048) : Fin 8192 :=
  ⟨2048 * (t.val / 29) + r.val, by have := lt_of_lt_of_eq t.isLt N_0; have := r.isLt; omega⟩

theorem blk0 (r : Fin 2048) (k : Fin 2048) : (iblk m c 0 t : Vec Ideal S2048x2048 .bf16) (ix2 r k)
    = (m ((c : Thread nD τ).loc main_arg0) : Vec Ideal S8192x2048 .bf16) (ix2 (row t r) k) := by
  blk_point [iblk, idxIn t]

/-- A block of transposed weights. -/
theorem blk1 (n : Fin 256) (k : Fin 2048) : (X0_1 m c t : Vec Ideal S256x2048 .f32) (ix2 n k)
    = (m ((c : Thread nD τ).loc main_arg1) : Vec Ideal S2048x7184 .f32)
        (ix2 k (⟨256 * min (t.val % 29) 23 + n.val, by have := n.isLt; omega⟩ : Fin 7184)) := by
  unfold X0_1 Pipeline.Window.fill
  rw [dif_pos (moved0_1 t _)]
  show V m c main_v0 ((win0_1.blk t).view.emb _) = _
  rw [Vv0]
  pointwise!
  blk_ext [idxIn t]

theorem blk2 (n : Fin 256) (k : Fin 2048) : (iblk m c 2 t : Vec Ideal S256x2048 .f32) (ix2 n k)
    = (m ((c : Thread nD τ).loc main_arg1) : Vec Ideal S2048x7184 .f32)
        (ix2 k (⟨6160 + 256 * min (t.val % 29 - 24) 3 + n.val, by have := n.isLt; omega⟩ : Fin 7184)) := by
  show V m c main_v3 ((win0_2.blk t).view.emb (ix2 n k)) = _
  rw [Vv3]
  pointwise!
  blk_ext [idxIn t]

theorem blk3 (n : Fin 256) (k : Fin 2048) : (iblk m c 3 t : Vec Ideal S256x2048 .f32) (ix2 n k)
    = if h : n.val < 16 then (m ((c : Thread nD τ).loc main_arg1) : Vec Ideal S2048x7184 .f32) (ix2 k (⟨6144 + n.val, by omega⟩ : Fin 7184)) else (0 : EReal) := by
  show V m c main_v5 ((win0_3.blk t).view.emb (ix2 n k)) = _
  rw [Vv5]
  have e : (win0_3.blk t).view.emb (ix2 n k) = ix2 n k := by blk_ext [idxIn t]
  rw [e]
  pointwise!
  split
  · rfl
  · simp [FloatOps.sitofp]

theorem blk4 (l : Fin 128) : ((iblk m c 4 t : Vec Ideal S1x128 .f32) (ix2 0 l) : EReal)
    = ((a2 m c (ix1 l) : EReal) * (FloatOps.ofBits (F := Ideal) .f32 0x3DB504F3#32 : EReal) : EReal) := by
  show V m c main_v6 ((win0_4.blk t).view.emb (ix2 0 l)) = _
  rw [Vv6]
  have e : (win0_4.blk t).view.emb (ix2 0 l) = ix2 0 l := by blk_ext [idxIn t]
  rw [e]
  pointwise!

theorem blk5 (l : Fin 128) : (iblk m c 5 t : Vec Ideal S1x128 .f32) (ix2 0 l)
    = (m ((c : Thread nD τ).loc main_arg3) : Vec Ideal S128 .f32) (ix1 l) := by
  show V m c main_v7 ((win0_5.blk t).view.emb (ix2 0 l)) = _
  rw [Vv7]
  have e : (win0_5.blk t).view.emb (ix2 0 l) = ix2 0 l := by blk_ext [idxIn t]
  rw [e]
  pointwise!

end Cert.InProjIdeal.Layer

end
-- ==== Proof.InProj.Value.lean ====
module

public import proofs.«01_k».proof.Proof.InProj.Pure
public import proofs.«01_k».proof.Proof.InProj.Blocks
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.InProjIdeal.Layer

open Cert.InProjIdeal Cert.InProjIdeal.Gen Cert.InProjReferenceIdeal.Read

variable (m : (ℓ : Loc nD τ sig) → Buf (Elt Ideal) ℓ) (ρ : Dev nD → PrngReg) (c : Dev nD)

/-- Where output window 6 lies at a grid point: at the block of the last point that stored there. -/
theorem idx6 : ∀ t : Fin cfg0.N, win0_6.index t (0 : Fin 2) = (pt 6 t).val / 29 ∧ win0_6.index t (1 : Fin 2) = (pt 6 t).val % 29 - 0
    ∧ 0 ≤ (pt 6 t).val % 29 ∧ (pt 6 t).val % 29 < 4 :=
  (by decide +kernel : ∀ t : Fin grid0.N, _)

/-- Where output window 7 lies at a grid point: at the block of the last point that stored there. -/
theorem idx7 : ∀ t : Fin cfg0.N, win0_7.index t (0 : Fin 2) = (pt 7 t).val / 29 ∧ win0_7.index t (1 : Fin 2) = (pt 7 t).val % 29 - 4
    ∧ 4 ≤ (pt 7 t).val % 29 ∧ (pt 7 t).val % 29 < 8 :=
  (by decide +kernel : ∀ t : Fin grid0.N, _)

/-- Where output window 8 lies at a grid point: at the block of the last point that stored there. -/
theorem idx8 : ∀ t : Fin cfg0.N, win0_8.index t (0 : Fin 2) = (pt 8 t).val / 29 ∧ win0_8.index t (1 : Fin 2) = (pt 8 t).val % 29 - 8
    ∧ 8 ≤ (pt 8 t).val % 29 ∧ (pt 8 t).val % 29 < 12 :=
  (by decide +kernel : ∀ t : Fin grid0.N, _)

/-- Where output window 9 lies at a grid point: at the block of the last point that stored there. -/
theorem idx9 : ∀ t : Fin cfg0.N, win0_9.index t (0 : Fin 2) = (pt 9 t).val / 29 ∧ win0_9.index t (1 : Fin 2) = (pt 9 t).val % 29 - 12
    ∧ 12 ≤ (pt 9 t).val % 29 ∧ (pt 9 t).val % 29 < 24 :=
  (by decide +kernel : ∀ t : Fin grid0.N, _)

/-- Where output window 10 lies at a grid point: at the block of the last point that stored there. -/
theorem idx10 : ∀ t : Fin cfg0.N, win0_10.index t (0 : Fin 2) = (pt 10 t).val / 29 ∧ win0_10.index t (1 : Fin 2) = (pt 10 t).val % 29 - 24
    ∧ 24 ≤ (pt 10 t).val % 29 ∧ (pt 10 t).val % 29 < 28 :=
  (by decide +kernel : ∀ t : Fin grid0.N, _)

/-- Where output window 11 lies at a grid point: at the block of the last point that stored there. -/
theorem idx11 : ∀ t : Fin cfg0.N, win0_11.index t (0 : Fin 2) = (pt 11 t).val / 29 ∧ win0_11.index t (1 : Fin 2) = (pt 11 t).val % 29 - 28
    ∧ 28 ≤ (pt 11 t).val % 29 ∧ (pt 11 t).val % 29 < 29 :=
  (by decide +kernel : ∀ t : Fin grid0.N, _)

variable (s : Fin cfg0.N)

theorem in0 (r : Fin 2048) (k : Fin 2048) : View.ld (iblk m c 0 s : Vec Ideal S2048x2048 .bf16) rH (ix2 r k) = a0 m c (ix2 (row s r) k) :=
  (congrFun (View.ld_unit_zero (S := S2048x2048) hz _ _) _).trans (blk0 m c s r k)

/-- The weights of a block. -/
theorem in1 (hb : s.val % 29 < 24) (n : Fin 256) (k : Fin 2048) (q : Fin 7184) (hq : q.val = 256 * (s.val % 29) + n.val) :
    View.ld (X0_1 m c s : Vec Ideal S256x2048 .f32) rW (ix2 n k) = a1 m c (ix2 k q) :=
  (congrFun (View.ld_unit_zero (S := S256x2048) hz _ _) _).trans ((blk1 m c s n k).trans
    (congrArg (fun q => a1 m c (ix2 k q)) (Fin.ext (by show 256 * min (s.val % 29) 23 + n.val = q.val; rw [hq, Nat.min_eq_left (by omega)]))))

theorem in4 (l : Fin 128) : (View.ld (iblk m c 4 s : Vec Ideal S1x128 .f32) rG (ix2 0 l) : EReal) = ((a2 m c (ix1 l) : EReal) * (FloatOps.ofBits (F := Ideal) .f32 0x3DB504F3#32 : EReal) : EReal) :=
  (congrFun (View.ld_unit_zero (S := S1x128) hz _ _) _).trans (blk4 m c s l)

/-- What the call leaves in its output 0. -/
theorem final6 : (dats m 0 c).arrAt 6 cfg0.N = val_main_v43 (F := Ideal) (a0 m c) (a1 m c) (a2 m c) := by
  refine (dats m 0 c).arrAt_eq_of_covers 6 _ (by decide +kernel) fun t _ y => ?_
  blk_simp
  rw [after_eq]
  dsimp only [stored, out6]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx6 t
  have hn := n.isLt
  generalize pt 6 t = s at i0 i1 g0 g1 ⊢
  have e : (win0_6.blk t).view.emb y = ix2 (row s r) (⟨256 * (s.val % 29 - 0) + n.val, by omega⟩ : Fin 1024) := by
    blk_ext [i0, i1]
  rw [e]
  exact Pure.blockq (a0 m c) (a1 m c) (a2 m c) (row s) _ _ _ (⟨s.val % 29 - 0, by omega⟩ : Fin 4) (in0 m c s)
    (fun n k => in1 m c s (by omega) n k _ (by show 0 + (256 * (s.val % 29 - 0) + n.val) = 256 * (s.val % 29) + n.val; omega)) (in4 m c s) r n

theorem in5 (l : Fin 128) : (View.ld (iblk m c 5 s : Vec Ideal S1x128 .f32) rG (ix2 0 l) : EReal) = a3 m c (ix1 l) :=
  (congrFun (View.ld_unit_zero (S := S1x128) hz _ _) _).trans (blk5 m c s l)

/-- What the call leaves in its output 1. -/
theorem final7 : (dats m 0 c).arrAt 7 cfg0.N = val_main_v44 (F := Ideal) (a0 m c) (a1 m c) (a3 m c) := by
  refine (dats m 0 c).arrAt_eq_of_covers 7 _ (by decide +kernel) fun t _ y => ?_
  blk_simp
  rw [after_eq]
  dsimp only [stored, out7]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx7 t
  have hn := n.isLt
  generalize pt 7 t = s at i0 i1 g0 g1 ⊢
  have e : (win0_7.blk t).view.emb y = ix2 (row s r) (⟨256 * (s.val % 29 - 4) + n.val, by omega⟩ : Fin 1024) := by
    blk_ext [i0, i1]
  rw [e]
  exact Pure.blockk (a0 m c) (a1 m c) (a3 m c) (row s) _ _ _ (⟨s.val % 29 - 4, by omega⟩ : Fin 4) (in0 m c s)
    (fun n k => in1 m c s (by omega) n k _ (by show 1024 + (256 * (s.val % 29 - 4) + n.val) = 256 * (s.val % 29) + n.val; omega)) (in5 m c s) r n

/-- What the call leaves in its output 2. -/
theorem final8 : (dats m 0 c).arrAt 8 cfg0.N = val_main_v4 (F := Ideal) (a0 m c) (a1 m c) := by
  refine (dats m 0 c).arrAt_eq_of_covers 8 _ (by decide +kernel) fun t _ y => ?_
  blk_simp
  rw [after_eq]
  dsimp only [stored, out8]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx8 t
  have hn := n.isLt
  generalize pt 8 t = s at i0 i1 g0 g1 ⊢
  have e : (win0_8.blk t).view.emb y = ix2 (row s r) (⟨256 * (s.val % 29 - 8) + n.val, by omega⟩ : Fin 1024) := by
    blk_ext [i0, i1]
  rw [e]
  refine (Pure.prod_eq (a0 m c) (a1 m c) (row s) _ _ (fun n => (⟨256 * (s.val % 29) + n.val, by have := n.isLt; omega⟩ : Fin 7184)) (in0 m c s)
    (fun n k => in1 m c s (by omega) n k _ rfl) r n).trans ?_
  rw [val_main_v4_apply]
  refine congrArg (val_main_v1 (F := Ideal) (a0 m c) (a1 m c)) ?_
  funext a
  apply Fin.ext
  match a with
  | ⟨0, _⟩ => rfl
  | ⟨1, _⟩ => show 256 * (s.val % 29) + n.val = 2048 + (256 * (s.val % 29 - 8) + n.val); omega

/-- What the call leaves in its output 3. -/
theorem final9 : (dats m 0 c).arrAt 9 cfg0.N = val_main_v5 (F := Ideal) (a0 m c) (a1 m c) := by
  refine (dats m 0 c).arrAt_eq_of_covers 9 _ (by decide +kernel) fun t _ y => ?_
  blk_simp
  rw [after_eq]
  dsimp only [stored, out9]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx9 t
  have hn := n.isLt
  generalize pt 9 t = s at i0 i1 g0 g1 ⊢
  have e : (win0_9.blk t).view.emb y = ix2 (row s r) (⟨256 * (s.val % 29 - 12) + n.val, by omega⟩ : Fin 3072) := by
    blk_ext [i0, i1]
  rw [e]
  refine (Pure.prod_eq (a0 m c) (a1 m c) (row s) _ _ (fun n => (⟨256 * (s.val % 29) + n.val, by have := n.isLt; omega⟩ : Fin 7184)) (in0 m c s)
    (fun n k => in1 m c s (by omega) n k _ rfl) r n).trans ?_
  rw [val_main_v5_apply]
  refine congrArg (val_main_v1 (F := Ideal) (a0 m c) (a1 m c)) ?_
  funext a
  apply Fin.ext
  match a with
  | ⟨0, _⟩ => rfl
  | ⟨1, _⟩ => show 256 * (s.val % 29) + n.val = 3072 + (256 * (s.val % 29 - 12) + n.val); omega

/-- What the call leaves in its output 4. -/
theorem final10 : (dats m 0 c).arrAt 10 cfg0.N = val_main_v7 (F := Ideal) (a0 m c) (a1 m c) := by
  refine (dats m 0 c).arrAt_eq_of_covers 10 _ (by decide +kernel) fun t _ y => ?_
  blk_simp
  rw [after_eq]
  dsimp only [stored, out10]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx10 t
  have hn := n.isLt
  generalize pt 10 t = s at i0 i1 g0 g1 ⊢
  have e : (win0_10.blk t).view.emb y = ix2 (row s r) (⟨256 * (s.val % 29 - 24) + n.val, by omega⟩ : Fin 1024) := by
    blk_ext [i0, i1]
  rw [e]
  refine (Pure.prod_eq (a0 m c) (a1 m c) (row s) _ _ (fun n => (⟨6160 + 256 * min (s.val % 29 - 24) 3 + n.val, by have := n.isLt; omega⟩ : Fin 7184)) (in0 m c s)
    (fun n k => (congrFun (View.ld_unit_zero (S := S256x2048) hz _ _) _).trans (blk2 m c s n k)) r n).trans ?_
  rw [val_main_v7_apply]
  refine congrArg (val_main_v1 (F := Ideal) (a0 m c) (a1 m c)) ?_
  funext a
  apply Fin.ext
  match a with
  | ⟨0, _⟩ => rfl
  | ⟨1, _⟩ => show 6160 + 256 * min (s.val % 29 - 24) 3 + n.val = 6160 + (256 * (s.val % 29 - 24) + n.val); omega

/-- What the call leaves in its output 5. -/
theorem final11 : (dats m 0 c).arrAt 11 cfg0.N = val_main_v38 (F := Ideal) (a0 m c) (a1 m c) := by
  refine (dats m 0 c).arrAt_eq_of_covers 11 _ (by decide +kernel) fun t _ y => ?_
  blk_simp
  rw [after_eq]
  dsimp only [stored, out11]
  canon_tiles x h
  obtain ⟨r, n, rfl⟩ : ∃ (r : Fin 2048) (n : Fin 256), x = ix2 r n := ⟨x 0, x 1, by funext a; match a with | ⟨0, _⟩ => rfl | ⟨1, _⟩ => rfl⟩
  have e0 : (y 0).val = r.val := h0
  have e1 : (y 1).val = n.val := h1
  obtain ⟨i0, i1, g0, g1⟩ := idx11 t
  have hn := n.isLt
  generalize pt 11 t = s at i0 i1 g0 g1 ⊢
  have e : (win0_11.blk t).view.emb y = ix2 (row s r) (⟨256 * (s.val % 29 - 28) + n.val, by omega⟩ : Fin 256) := by
    blk_ext [i0, i1]
  rw [e]
  have en : (⟨256 * (s.val % 29 - 28) + n.val, by omega⟩ : Fin 256) = n := Fin.ext (by show 256 * (s.val % 29 - 28) + n.val = n.val; omega)
  rw [en]
  by_cases hl : n.val < 16
  · refine Eq.trans ?_ (Pure.pad_left (a0 m c) (a1 m c) (row s r) n hl).symm
    exact Pure.prod_at (a0 m c) (a1 m c) (row s) _ _ (in0 m c s) n _
      (fun k => ((congrFun (View.ld_unit_zero (S := S256x2048) hz _ _) _).trans (blk3 m c s n k)).trans (dif_pos hl)) r
  · refine Eq.trans ?_ (Pure.pad_right (a0 m c) (a1 m c) (row s r) n hl).symm
    exact Pure.prod_zero _ _ n
      (fun k => ((congrFun (View.ld_unit_zero (S := S256x2048) hz _ _) _).trans (blk3 m c s n k)).trans (dif_neg hl)) r

/-- What the host lines after the call leave: the raw columns' last three rows of each batch entry. -/
theorem tail_read (U : Valuation τ sig (Elt Ideal)) : StableHlo.after hostOps1 U (Proc.devRef .tc main_v10)
    = extractStridedSlice S4x3x3072 ![0, 2045, 0] (shapeCast S4x2048x3072 (U (Proc.devRef .tc main_v8_3) : Vec Ideal S8192x3072 .f32)
        shapeCasts_S8192x3072_S4x2048x3072) slices_S4x2048x3072_S4x3x3072_0_2045_0 := by
  after_reads_simp
  rfl

/-- Those rows at one place. -/
theorem tail_at (z : Vec Ideal S8192x3072 .f32) (b : Fin 4) (p : Fin 3) (q : Fin 3072) :
    extractStridedSlice S4x3x3072 ![0, 2045, 0] (shapeCast S4x2048x3072 z shapeCasts_S8192x3072_S4x2048x3072)
      slices_S4x2048x3072_S4x3x3072_0_2045_0 (ix3 b p q)
      = z (ix2 (⟨2048 * b.val + (2045 + p.val), by have := b.isLt; have := p.isLt; omega⟩ : Fin 8192) q) := by
  pointwise!

/-- They are the reference's carried rows. -/
theorem tail_eq : Pipeline.afterTail₀ cfgs (dats m) 0 (V0 m) [hostOps1] c main_v10 = val_main_v45 (F := Ideal) (a0 m c) (a1 m c) := by
  refine (tail_read _).trans ?_
  have e : Pipeline.withArrays (cfgs 0).spec c (V0 m c) (fun w => (dats m 0 c).arrAt w (cfgs 0).N) (Proc.devRef .tc main_v8_3)
      = val_main_v5 (F := Ideal) (a0 m c) (a1 m c) :=
    (Pipeline.withArrays_arr (cfgs 0).spec launch0.win.arr_inj c (V0 m c) (fun w => (dats m 0 c).arrAt w (cfgs 0).N) 9).trans (final9 m c)
  rw [e]
  funext x
  obtain ⟨b, p, q, rfl⟩ : ∃ (b : Fin 4) (p : Fin 3) (q : Fin 3072), x = ix3 b p q :=
    ⟨x 0, x 1, x 2, by funext a; match a with | ⟨0, _⟩ => rfl | ⟨1, _⟩ => rfl | ⟨2, _⟩ => rfl⟩
  exact (tail_at _ b p q).trans (Pure.conv_eq (a0 m c) (a1 m c) b p q).symm

/-- The run: every result is the reference's term at the arguments, which end as launched. -/
theorem run : θ_run defs (onTc (τ := τ) (main (F := Ideal))) ⟨m, fun _ => 0, ρ⟩ (fun r => ∀ c : Dev nD,
      r.2.mem ((c.tc : Thread nD τ).loc main_v8_0) = val_main_v43 (F := Ideal) (a0 m c) (a1 m c) (a2 m c)
      ∧ r.2.mem ((c.tc : Thread nD τ).loc main_v8_1) = val_main_v44 (F := Ideal) (a0 m c) (a1 m c) (a3 m c)
      ∧ r.2.mem ((c.tc : Thread nD τ).loc main_v8_2) = val_main_v4 (F := Ideal) (a0 m c) (a1 m c)
      ∧ r.2.mem ((c.tc : Thread nD τ).loc main_v8_3) = val_main_v5 (F := Ideal) (a0 m c) (a1 m c)
      ∧ r.2.mem ((c.tc : Thread nD τ).loc main_v8_4) = val_main_v7 (F := Ideal) (a0 m c) (a1 m c)
      ∧ r.2.mem ((c.tc : Thread nD τ).loc main_v8_5) = val_main_v38 (F := Ideal) (a0 m c) (a1 m c)
      ∧ r.2.mem ((c.tc : Thread nD τ).loc main_v10) = val_main_v45 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (frame_of m ρ (dats m) (A_eq m) (run_main m ρ)))
  obtain ⟨h, k⟩ := h
  exact ⟨((h c).1 6).trans (final6 m c), ((h c).1 7).trans (final7 m c), ((h c).1 8).trans (final8 m c), ((h c).1 9).trans (final9 m c),
    ((h c).1 10).trans (final10 m c), ((h c).1 11).trans (final11 m c),
    ((h c).2 main_v10 (Pipeline.mem_restRefs_of main_v10 (by decide) (by decide))).trans (tail_eq m c), k c⟩

end Cert.InProjIdeal.Layer

end
-- ==== Proof.FfnSample.Blocks.lean ====
module

public import proofs.«01_k».proof.Proof.Gen.FfnSampleIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnSampleIdeal.Blocks

open Cert.FfnSampleIdeal Cert.FfnSampleIdeal.Gen

variable (m : (ℓ : Loc nD τ sig) → Buf (Elt Ideal) ℓ) (c : Dev nD)

/-- The block every window reads at a grid point: there is one block of rows, and the hidden units follow the point. -/
theorem idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 11
    ∧ win0_5.index t (0 : Fin 2) = 0 ∧ win0_5.index t (1 : Fin 2) = 11 + t.val % 11
    ∧ win0_6.index t (0 : Fin 2) = t.val % 11 ∧ win0_6.index t (1 : Fin 2) = 0 :=
  (by decide +kernel : ∀ t : Fin grid0.N, _)

theorem hz : (![0, 0] : Fin 2 → Nat) = fun _ => 0 := funext fun a => by fin_cases a <;> rfl

/-- What the first step leaves: in scratch the normalised stream, in the output block one step's update of the stream. -/
theorem outs_first (t : Fin cfg0.N) (h0 : t.val % 11 = 0) :
    outsAt0 m c t.val t.isLt = (k0_pay3 (k0_pay2 (iblk m c 0 t) (iblk m c 1 t) (iblk m c 2 t) (iblk m c 3 t)) (iblk m c 4 t) (iblk m c 5 t)
      (k0_pay1 (iblk m c 0 t) (iblk m c 1 t) (iblk m c 2 t)) (iblk m c 6 t), k0_pay2 (iblk m c 0 t) (iblk m c 1 t) (iblk m c 2 t) (iblk m c 3 t)) := by
  rw [outsAt0_A m c t h0]
  unfold out0_A_7 sout0_A_0
  rw [View.read_writes_eq_canon _ _ _ (fun y => cover0_A_7 (y := y) ..), View.read_writes_eq_canon _ _ _ (fun y => scover0_A_0 (y := y) ..)]
  unfold kernelRun0_A
  dsimp only
  sl_unfold_words
  simp only [View.canon_cons_unit_zero (S := S512x2048) hz, View.canon_unit_zero (S := S512x2048) hz, View.readCov_unit_zero (S := S512x2048) _ hz,
    View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x2048) hz, View.ld_unit_zero (S := S512x512) hz,
    View.ld_unit_zero (S := S1x2048) hz, View.ld_unit_zero (S := S2048x512) hz, shapeCast_self]

/-- What a later step leaves, over what the step before left: the scratch as it was, and one step's update of the output. -/
theorem outs_later (n : ℕ) (hn : n + 1 < cfg0.N) (h0 : ¬(n + 1) % 11 = 0) :
    outsAt0 m c (n + 1) hn = (k0_pay3 (outsAt0 m c n (Nat.lt_of_succ_lt hn)).2 (iblk m c 4 ⟨n + 1, hn⟩) (iblk m c 5 ⟨n + 1, hn⟩)
      (outsAt0 m c n (Nat.lt_of_succ_lt hn)).1 (iblk m c 6 ⟨n + 1, hn⟩), (outsAt0 m c n (Nat.lt_of_succ_lt hn)).2) := by
  refine (outsAt0_B m c ⟨n + 1, hn⟩ h0).trans ?_
  unfold out0_B_7 sout0_B_0
  rw [View.read_writes_eq_canon _ _ _ (fun y => cover0_B_7 (y := y) ..)]
  unfold kernelRun0_B
  dsimp only
  sl_unfold_words
  simp only [View.canon_cons_unit_zero (S := S512x2048) hz, View.canon_unit_zero (S := S512x2048) hz, View.readCov_unit_zero (S := S512x2048) _ hz,
    View.readAt_eq_ld, (Memref.isWhole_whole _ : scM0_0.IsWhole).read_unread, (hs0_4 ⟨n + 1, hn⟩).read_unread, (hs0_5 ⟨n + 1, hn⟩).read_unread,
    (hs0_6 ⟨n + 1, hn⟩).read_unread, (hs0_7 ⟨n + 1, hn⟩).read_unread, View.ld_unit_zero (S := S512x2048) hz,
    View.ld_unit_zero (S := S2048x512) hz, shapeCast_self]
  rfl

variable (t : Fin cfg0.N)

theorem blk0 (r : Fin 512) (k : Fin 2048) :
    (iblk m c 0 t : Vec Ideal S512x2048 .f32) (ix2 r k) = (m ((c : Thread nD τ).loc main_arg0) : Vec Ideal S512x2048 .f32) (ix2 r k) := by
  blk_point [iblk, V, idx t]

theorem blk1 (r : Fin 512) (q : Fin 512) :
    (iblk m c 1 t : Vec Ideal S512x512 .f32) (ix2 r q) = (m ((c : Thread nD τ).loc main_arg1) : Vec Ideal S512x512 .f32) (ix2 r q) := by
  blk_point [iblk, V, idx t]

theorem blk2 (q : Fin 512) (k : Fin 2048) :
    (iblk m c 2 t : Vec Ideal S512x2048 .bf16) (ix2 q k) = (m ((c : Thread nD τ).loc main_arg2) : Vec Ideal S512x2048 .f32) (ix2 q k) := by
  blk_point [iblk, V, idx t]

theorem blk3 (k : Fin 2048) :
    (iblk m c 3 t : Vec Ideal S1x2048 .f32) (ix2 0 k) = (m ((c : Thread nD τ).loc main_arg3) : Vec Ideal S2048 .f32) (ix1 k) := by
  blk_point [iblk, V, idx t]

theorem blk4 (k : Fin 2048) (f : Fin 512) :
    (iblk m c 4 t : Vec Ideal S2048x512 .f32) (ix2 k f) = (m ((c : Thread nD τ).loc main_arg4) : Vec Ideal S2048x11264 .f32) (ix2 k ⟨512 * (t.val % 11) + f.val, by omega⟩) := by
  blk_point [iblk, V, idx t]

theorem blk5 (k : Fin 2048) (f : Fin 512) :
    (iblk m c 5 t : Vec Ideal S2048x512 .f32) (ix2 k f) = (m ((c : Thread nD τ).loc main_arg4) : Vec Ideal S2048x11264 .f32) (ix2 k ⟨5632 + (512 * (t.val % 11) + f.val), by omega⟩) := by
  blk_point [iblk, V, idx t]

theorem blk6 (f : Fin 512) (k : Fin 2048) :
    (iblk m c 6 t : Vec Ideal S512x2048 .f32) (ix2 f k) = (m ((c : Thread nD τ).loc main_arg5) : Vec Ideal S5632x2048 .f32) (ix2 ⟨512 * (t.val % 11) + f.val, by omega⟩ k) := by
  blk_point [iblk, V, idx t]

end Cert.FfnSampleIdeal.Blocks

end
-- ==== Proof.FfnSample.Value.lean ====
module

public import proofs.«01_k».proof.Proof.Ffn.Steps
public import proofs.«01_k».proof.Proof.FfnSample.Blocks
public import proofs.«01_k».proof.Proof.Gen.FfnSampleReferenceIdeal.Read

@[expose] public section

set_option maxRecDepth 16384

noncomputable section

open Idealize.ShloMosaic Idealize.ShloMosaic.TcCoe Idealize.SL.Sem

namespace Cert.FfnSampleIdeal.Layer

open Cert.FfnSampleIdeal Cert.FfnSampleIdeal.Gen Cert.FfnSampleIdeal.Blocks Cert.FfnSampleReferenceIdeal.Read

variable (m : (ℓ : Loc nD τ sig) → Buf (Elt Ideal) ℓ) (c : Dev nD)

/-- The reference's stream after the attention's output projection, of the arguments the run starts with. -/
abbrev strm : Vec Ideal S512x2048 .f32 :=
  val_main_v1 (F := Ideal) (m ((c : Thread nD τ).loc main_arg0)) (m ((c : Thread nD τ).loc main_arg1)) (m ((c : Thread nD τ).loc main_arg2))

/-- The reference's normalised stream. -/
abbrev norm : Vec Ideal S512x2048 .f32 :=
  val_main_v14 (F := Ideal) (m ((c : Thread nD τ).loc main_arg0)) (m ((c : Thread nD τ).loc main_arg1)) (m ((c : Thread nD τ).loc main_arg2))
    (m ((c : Thread nD τ).loc main_arg3))

/-- The reference's gated activations. -/
abbrev act : Vec Ideal Cert.FfnSampleReferenceIdeal.S512x5632 .f32 :=
  val_main_v19 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's result. -/
abbrev ref : Vec Ideal S512x2048 .f32 :=
  val_main_v21 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The contribution of a hidden unit to a result's element. -/
abbrev term (r : Fin 512) (k : Fin 2048) (f : Fin 5632) : EReal :=
  act m c (ix2 r f) * (m ((c : Thread nD τ).loc main_arg5) : Vec Ideal S5632x2048 .f32) (ix2 f k)

/-- The contribution of 512 hidden units, those of step `u`, to a result's element. -/
abbrev part (r : Fin 512) (k : Fin 2048) (u : ℕ) : EReal :=
  FfnSteps.part (a := 11) (b := 512) rfl (term m c r k) u

/-- The block the first step forms is the reference's stream. -/
theorem pay1_eq (t : Fin cfg0.N) (r : Fin 512) (k : Fin 2048) :
    k0_pay1 (iblk m c 0 t) (iblk m c 1 t) (iblk m c 2 t) (ix2 r k : S512x2048.Idx) = strm m c (ix2 r k) := by
  have h0 := blk0 m c t
  have h1 := blk1 m c t
  have h2 := blk2 m c t
  generalize iblk m c 0 t = b0, iblk m c 1 t = b1, iblk m c 2 t = b2 at *
  pointwise! [k0_pay1, val_main_v1, val_main_v0, h0, h1, h2]

/-- The block kept in scratch is the reference's normalised stream. -/
theorem pay2_eq (t : Fin cfg0.N) (r : Fin 512) (k : Fin 2048) :
    k0_pay2 (iblk m c 0 t) (iblk m c 1 t) (iblk m c 2 t) (iblk m c 3 t) (ix2 r k : S512x2048.Idx) = norm m c (ix2 r k) := by
  have e := pay1_eq m c t
  have h3 := blk3 m c t
  generalize iblk m c 0 t = b0, iblk m c 1 t = b1, iblk m c 2 t = b2, iblk m c 3 t = b3 at *
  pointwise! [k0_pay2, e, h3, val_main_v14, val_main_v13, val_main_v12, val_main_v11, val_main_v10, val_main_v9,
    val_main_v8, val_main_v7, val_main_v6, val_main_v5, val_main_v4, val_main_v3, val_main_v2, val_main_cst, val_main_cst_0, val_main_cst_1]

/-- One step over the normalised stream adds to the accumulator the contribution of its 512 hidden units. -/
theorem step (t : Fin cfg0.N) (s : Vec Ideal S512x2048 .bf16) (acc : Vec Ideal S512x2048 .f32)
    (hs : ∀ (r : Fin 512) (k : Fin 2048), s (ix2 r k) = norm m c (ix2 r k)) (r : Fin 512) (k : Fin 2048) :
    k0_pay3 s (iblk m c 4 t) (iblk m c 5 t) acc (iblk m c 6 t) (ix2 r k : S512x2048.Idx)
      = acc (ix2 r k) + part m c r k (t.val % 11) := by
  have hu : t.val % 11 < 11 := Nat.mod_lt _ (by decide)
  have h4 := blk4 m c t
  have h5 := blk5 m c t
  have h6 := blk6 m c t
  unfold part FfnSteps.part
  rw [dif_pos hu]
  dsimp only [term, act]
  generalize iblk m c 4 t = b4, iblk m c 5 t = b5, iblk m c 6 t = b6 at *
  pointwise! [k0_pay3, hs, h4, h5, h6, val_main_v19, val_main_v18, val_main_v17, val_main_v16, val_main_v15,
    val_main_call0_v5, val_main_call0_v4, val_main_call0_v3, val_main_call0_v2, val_main_call0_v1, val_main_call0_v0,
    val_main_call0_cst, val_main_call0_cst_0]

/-- What the accumulation claims of the contents after a point: the scratch holds the normalised stream, the output block
    the stream plus the contributions of the hidden units of the steps so far. -/
def Holds (n : ℕ) (p : Vec Ideal S512x2048 .f32 × Vec Ideal S512x2048 .bf16) : Prop :=
  (∀ (r : Fin 512) (k : Fin 2048), p.2 (ix2 r k) = norm m c (ix2 r k))
    ∧ ∀ (r : Fin 512) (k : Fin 2048), p.1 (ix2 r k) = strm m c (ix2 r k) + ∑ u ∈ Finset.range (n % 11 + 1), part m c r k u

theorem holds_first (n : ℕ) (hn : n < cfg0.N) (h0 : n % 11 = 0) : Holds m c n (outsAt0 m c n hn) := by
  rw [outs_first m c ⟨n, hn⟩ h0]
  refine ⟨pay2_eq m c ⟨n, hn⟩, fun r k => (step m c ⟨n, hn⟩ _ _ (pay2_eq m c ⟨n, hn⟩) r k).trans ?_⟩
  rw [pay1_eq, h0, Nat.zero_add, Finset.sum_range_one]

theorem holds_later (n : ℕ) (hn : n + 1 < cfg0.N) (h0 : ¬(n + 1) % 11 = 0)
    (ih : Holds m c n (outsAt0 m c n (Nat.lt_of_succ_lt hn))) : Holds m c (n + 1) (outsAt0 m c (n + 1) hn) := by
  rw [outs_later m c n hn h0]
  refine ⟨ih.1, fun r k => (step m c ⟨n + 1, hn⟩ _ _ ih.1 r k).trans ?_⟩
  rw [ih.2]
  exact FfnSteps.sum_step _ _ h0

/-- THE ACCUMULATION, at every grid point. -/
theorem outs_eq : ∀ (n : ℕ) (hn : n < cfg0.N), Holds m c n (outsAt0 m c n hn) :=
  FfnSteps.walk _ (holds_first m c) (holds_later m c)

/-- The reference's result is the stream plus the contributions of all 11 steps. -/
theorem ref_eq (r : Fin 512) (k : Fin 2048) :
    ref m c (ix2 r k) = strm m c (ix2 r k) + ∑ u ∈ Finset.range 11, part m c r k u := by
  unfold ref
  rw [val_main_v21_apply, val_main_v20_apply]
  refine congrArg (strm m c (ix2 r k) + ·) ((Finset.sum_congr rfl fun f _ => ?_).trans (FfnSteps.sum_parts (a := 11) (b := 512) rfl (term m c r k)))
  exact congrArg₂ (· * ·) (congrArg (act m c) (funext fun a => by fin_cases a <;> rfl)) (congrArg _ (funext fun a => by fin_cases a <;> rfl))

/-- The array the kernel leaves is the reference's result. -/
theorem final : Value.G7 m c = ref m c := by
  funext i
  idx_vars i
  have hN : cfg0.N = 11 := N_0
  have hp : Value.pt7Of (ix2 i0 i1) = 10 := by
    show 11 * (1 * (i0.val / 512 - 0) + 1 * (i1.val / 2048 - 0)) + 10 = _
    have := i0.isLt; have := i1.isLt; omega
  have hlt : Value.pt7Of (ix2 i0 i1) < cfg0.N := by rw [hp, hN]; decide
  have hl : Value.loc7Of (ix2 i0 i1) = ix2 i0 i1 := by
    funext a; fin_cases a
    · exact Fin.ext (Nat.mod_eq_of_lt i0.isLt)
    · exact Fin.ext (Nat.mod_eq_of_lt i1.isLt)
  unfold Value.G7
  rw [dif_pos hlt, ← Value.outsAt0_sweep m c _ hlt, hl, (outs_eq m c _ hlt).2, ref_eq, hp]

end Cert.FfnSampleIdeal.Layer

end
-- ==== Proof.InProjSample.Frame.lean ====
module

public import proofs.«01_k».proof.Proof.Gen.InProjSampleIdeal.Frame
public import proofs.«01_k».proof.Proof.Gen.InProjSampleIdeal.Skeleton
public import proofs.«01_k».proof.Proof.InProj.Idle
public import Idealize.ShloMosaic.Lib.Claim
public import Idealize.ShloMosaic.Lib.Pipeline.FrameBody
public import Idealize.ShloMosaic.Lib.Pipeline.FrameSuffix
public import Idealize.ShloMosaic.Lib.Pipeline.TableIdle
public import Idealize.ShloMosaic.Lib.Pipeline.Value

@[expose] public section

set_option maxRecDepth 16384

noncomputable section

namespace Cert.InProjSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each branch of the body stores

A point of the grid is one of 15 column blocks, and the body takes exactly one of six branches,
by the group of the column block: each branch multiplies the rows by its block of weights and stores one output. -/

/-- The whole block of rows or of weights, of a gain and of an output. -/
abbrev rH : Rect S512x2048 := Rect.unit (s := S512x2048) ![0, 0] S512x2048.size inb_S512x2048_S512x2048_0_0
abbrev rG : Rect S1x128 := Rect.unit (s := S1x128) ![0, 0] S1x128.size inb_S1x128_S1x128_0_0
abbrev rO : Rect S512x512 := Rect.unit (s := S512x512) ![0, 0] S512x512.size inb_S512x512_S512x512_0_0

/-- A store of the whole block covers it. -/
theorem cover_one {e : EltTy} (p : Vec F S512x512 e) (y : S512x512.Idx) :
    ∃ pc ∈ ([⟨rO, p⟩] : List (View.Piece (Elt F) S512x512 e)), y ∈ pc.1.set :=
  View.cover_of_tiled [⟨rO, p⟩] S512x512.size (by rfl) y

/-- Output window 6's buffer (the queries) after the branch that stores it, from the input blocks it reads. -/
def out6 (x0 : Vec F S512x2048 .bf16) (x1 : Vec F S512x2048 .f32) (x4 : Vec F S1x128 .f32) : Vec F S512x512 .f32 :=
  View.canon [⟨rO, k0_pay1 (k0_pay7 (View.ld x0 rH) (View.ld x1 rH)) (k0_pay8 (View.ld x4 rG)) (k0_pay9 (View.ld x0 rH) (View.ld x1 rH) (View.ld x4 rG))
    (k0_pay10 (View.ld x0 rH) (View.ld x1 rH) (View.ld x4 rG)) (k0_pay11 (View.ld x0 rH) (View.ld x1 rH))⟩]

/-- Output window 7's buffer (the keys) after the branch that stores it, from the input blocks it reads. -/
def out7 (x0 : Vec F S512x2048 .bf16) (x1 : Vec F S512x2048 .f32) (x5 : Vec F S1x128 .f32) : Vec F S512x512 .f32 :=
  View.canon [⟨rO, k0_pay2 (k0_pay12 (View.ld x0 rH) (View.ld x1 rH)) (k0_pay13 (View.ld x5 rG)) (k0_pay14 (View.ld x0 rH) (View.ld x1 rH) (View.ld x5 rG))
    (k0_pay15 (View.ld x0 rH) (View.ld x1 rH) (View.ld x5 rG)) (k0_pay16 (View.ld x0 rH) (View.ld x1 rH))⟩]

/-- Output window 8's buffer (the values) after the branch that stores it, from the input blocks it reads. -/
def out8 (x0 : Vec F S512x2048 .bf16) (x1 : Vec F S512x2048 .f32) : Vec F S512x512 .f32 :=
  View.canon [⟨rO, k0_pay3 (View.ld x0 rH) (View.ld x1 rH)⟩]

/-- Output window 9's buffer (the linear mixer's channels) after the branch that stores it, from the input blocks it reads. -/
def out9 (x0 : Vec F S512x2048 .bf16) (x1 : Vec F S512x2048 .f32) : Vec F S512x512 .f32 :=
  View.canon [⟨rO, k0_pay4 (View.ld x0 rH) (View.ld x1 rH)⟩]

/-- Output window 10's buffer (the gates) after the branch that stores it, from the input blocks it reads. -/
def out10 (x0 : Vec F S512x2048 .bf16) (x2 : Vec F S512x2048 .f32) : Vec F S512x512 .f32 :=
  View.canon [⟨rO, k0_pay5 (View.ld x0 rH) (View.ld x2 rH)⟩]

/-- Output window 11's buffer (the two logit columns' block) after the branch that stores it, from the input blocks it reads. -/
def out11 (x0 : Vec F S512x2048 .bf16) (x3 : Vec F S512x2048 .f32) : Vec F S512x512 .f32 :=
  View.canon [⟨rO, k0_pay6 (View.ld x0 rH) (View.ld x3 rH)⟩]

/-! ## The body -/

set_option maxHeartbeats 1000000 in
/-- The body at a point that stores output window `g`: every input block stays as it is, that window's buffer ends at
    what the branch stores, whatever it held, and the other windows' buffers end at what they held. -/
theorem sound (c : Dev nD) (E : Set ℕ) (i : grid0.Coords) (arg2 : Memref sig .tc .vmem S512x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole)
    (g : ℕ) (hg : g = 6 ∨ g = 7 ∨ g = 8 ∨ g = 9 ∨ g = 10 ∨ g = 11)
    (hc1 : k0_cond1 i = 1#1 ↔ g = 6) (hc2 : k0_cond2 i = 1#1 ↔ g = 7) (hc3 : k0_cond3 i = 1#1 ↔ g = 8) (hc4 : k0_cond4 i = 1#1 ↔ g = 9) (hc5 : k0_cond5 i = 1#1 ↔ g = 10) (hc6 : k0_cond6 i = 1#1 ↔ g = 11)
    (x0 : Vec F S512x2048 .bf16) (x1 : Vec F S512x2048 .f32) (x2 : Vec F S512x2048 .f32) (x3 : Vec F S512x2048 .f32) (x4 : Vec F S1x128 .f32) (x5 : Vec F S1x128 .f32) (y6 : Vec F S512x512 .f32) (y7 y8 y9 y10 y11 : Vec F S512x512 .f32)
    (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (if g = 6 then out6 x0 x1 x4 else y6) ∗ owns (c : Thread nD τ) arg9 fullShare (if g = 7 then out7 x0 x1 x5 else y7) ∗ owns (c : Thread nD τ) arg10 fullShare (if g = 8 then out8 x0 x1 else y8) ∗ owns (c : Thread nD τ) arg11 fullShare (if g = 9 then out9 x0 x1 else y9) ∗ owns (c : Thread nD τ) arg12 fullShare (if g = 10 then out10 x0 x2 else y10) ∗ owns (c : Thread nD τ) arg13 fullShare (if g = 11 then out11 x0 x3 else y11)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton, k0_part1_eq_skeleton, k0_part2_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0 hf1 hf2 hf3 hf4 hf5 hf6 hf7 hf8 hf9 hf10 hf11
  rcases hg with rfl | rfl | rfl | rfl | rfl | rfl
  all_goals
    simp only [Nat.reduceEqDiff, iff_true, iff_false] at hc1 hc2 hc3 hc4 hc5 hc6
    sl_exec (disch := first | sl_exact hc1 | sl_exact hc2 | sl_exact hc3 | sl_exact hc4 | sl_exact hc5 | sl_exact hc6)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; simp only [Nat.reduceEqDiff, reduceIte] <;> exact (View.read_writes_eq_canon _ _ _ (cover_one _)).trans rfl
    isplitl [H7]
    · iexists _; isplitr
      swap; · iexact H7
      ipureintro; simp only [Nat.reduceEqDiff, reduceIte] <;> exact (View.read_writes_eq_canon _ _ _ (cover_one _)).trans rfl
    isplitl [H8]
    · iexists _; isplitr
      swap; · iexact H8
      ipureintro; simp only [Nat.reduceEqDiff, reduceIte] <;> exact (View.read_writes_eq_canon _ _ _ (cover_one _)).trans rfl
    isplitl [H9]
    · iexists _; isplitr
      swap; · iexact H9
      ipureintro; simp only [Nat.reduceEqDiff, reduceIte] <;> exact (View.read_writes_eq_canon _ _ _ (cover_one _)).trans rfl
    isplitl [H10]
    · iexists _; isplitr
      swap; · iexact H10
      ipureintro; simp only [Nat.reduceEqDiff, reduceIte] <;> exact (View.read_writes_eq_canon _ _ _ (cover_one _)).trans rfl
    iexists _; isplitr
    swap; · iexact H11
    ipureintro; simp only [Nat.reduceEqDiff, reduceIte] <;> exact (View.read_writes_eq_canon _ _ _ (cover_one _)).trans rfl

/-! ## The proof data -/

/-- The output window that a point stores, by the group its column block is in. -/
def own (t : Fin cfg0.N) : ℕ :=
  if t.val % 15 < 2 then 6 else if t.val % 15 < 4 then 7 else if t.val % 15 < 6 then 8
    else if t.val % 15 < 12 then 9 else if t.val % 15 < 14 then 10 else 11

/-- The first and the last column block of an output window's group; of an input all 15. -/
def lo : Fin 12 → ℕ := ![0, 0, 0, 0, 0, 0, 0, 2, 4, 6, 12, 14]
def hi : Fin 12 → ℕ := ![14, 14, 14, 14, 14, 14, 1, 3, 5, 11, 13, 14]

/-- The point of `t`'s row of column blocks at which a window was, is, or will first be stored, looked at from `t`: `t`
    itself inside the window's group, the group's last point after it, its first before it. -/
def pt (w : Fin 12) (t : Fin cfg0.N) : Fin cfg0.N :=
  ⟨15 * (t.val / 15) + min (max (t.val % 15) (lo w)) (min (hi w) 14), by
    have h : t.val < 15 := lt_of_lt_of_eq t.isLt N_0
    exact lt_of_lt_of_eq (by omega : 15 * (t.val / 15) + min (max (t.val % 15) (lo w)) (min (hi w) 14) < 15) N_0.symm⟩

/-- What a window's buffer holds after a point at which the body reads it, or stores it. -/
def stored (c : Dev nD) (w : Fin cfg0.W) (t : Fin cfg0.N) : (cfg0.win w).block.Idx → Elt F (cfg0.win w).elt :=
  match w with
  | ⟨0, _⟩ => iblk m c 0 t
  | ⟨1, _⟩ => X0_1 m c t
  | ⟨2, _⟩ => iblk m c 2 t
  | ⟨3, _⟩ => iblk m c 3 t
  | ⟨4, _⟩ => iblk m c 4 t
  | ⟨5, _⟩ => iblk m c 5 t
  | ⟨6, _⟩ => out6 (iblk m c 0 t) (X0_1 m c t) (iblk m c 4 t)
  | ⟨7, _⟩ => out7 (iblk m c 0 t) (X0_1 m c t) (iblk m c 5 t)
  | ⟨8, _⟩ => out8 (iblk m c 0 t) (X0_1 m c t)
  | ⟨9, _⟩ => out9 (iblk m c 0 t) (X0_1 m c t)
  | ⟨10, _⟩ => out10 (iblk m c 0 t) (iblk m c 2 t)
  | ⟨11, _⟩ => out11 (iblk m c 0 t) (iblk m c 3 t)

/-- The proof data of the pipeline on core `c`: the arrays as the region finds them; after the body at point `t` each
    input's buffer at its block, and each output's at what its group's branch stores at the last point of the row where
    it was taken; nothing else of the body's own. -/
def dats (_ : Fin 1) (c : Dev nD) : Dat τ (Elt F) Unit ℕ (UR sig nD τ) ℕ cfg0 c where
  A w := V m c (Pipeline.arrRef spec0 w)
  after w t := stored m c w (pt w t)
  Φ _ := Pipeline.ΦA spec0 c
  q _ := fullShare
  owed _ := 0

/-- The arrays of the proof data are the contents the region is entered with. -/
theorem A_eq (c : Dev nD) (w : Fin cfg0.W) : (dats m 0 c).A w = V m c (Pipeline.arrRef spec0 w) := by
  dsimp only [dats]

/-- What the body leaves in a window's buffer. -/
theorem after_eq (c : Dev nD) (w : Fin cfg0.W) (t : Fin cfg0.N) : (dats m 0 c).after w t = stored m c w (pt w t) := by
  dsimp only [dats]

/-- A point inside a window's group is its own; every point is inside an input's. -/
theorem pt_own : ∀ (w : Fin cfg0.W) (t : Fin cfg0.N), w.val < 6 ∨ own t = w.val → pt w t = t :=
  (by decide +kernel : ∀ (w : Fin 12) (t : Fin grid0.N), w.val < 6 ∨ own t = w.val → pt w t = t)

/-- What the body leaves in a window's buffer at a point of the window's group. -/
theorem after_own (c : Dev nD) (w : Fin cfg0.W) (t : Fin cfg0.N) (h : w.val < 6 ∨ own t = w.val) :
    (dats m 0 c).after w t = stored m c w t := by
  rw [after_eq, pt_own w t h]

/-! Each input's buffer holds its block at every point. -/

theorem before0_0 (c : Dev nD) (t : Fin cfg0.N) (d) : (dats m 0 c).before 0 t d = iblk m c 0 t :=
  before0_0_of m (dats m 0 c) (A_eq m c 0) (fun t => after_own m c 0 t (.inl (by decide))) t d
theorem before0_1 (c : Dev nD) (t : Fin cfg0.N) (d) : (dats m 0 c).before 1 t d = X0_1 m c t :=
  before0_1_of m (dats m 0 c) (A_eq m c 1) (fun t => after_own m c 1 t (.inl (by decide))) t d
theorem before0_2 (c : Dev nD) (t : Fin cfg0.N) (d) : (dats m 0 c).before 2 t d = iblk m c 2 t :=
  before0_2_of m (dats m 0 c) (A_eq m c 2) (fun t => after_own m c 2 t (.inl (by decide))) t d
theorem before0_3 (c : Dev nD) (t : Fin cfg0.N) (d) : (dats m 0 c).before 3 t d = iblk m c 3 t :=
  before0_3_of m (dats m 0 c) (A_eq m c 3) (fun t => after_own m c 3 t (.inl (by decide))) t d
theorem before0_4 (c : Dev nD) (t : Fin cfg0.N) (d) : (dats m 0 c).before 4 t d = iblk m c 4 t :=
  before0_4_of m (dats m 0 c) (A_eq m c 4) (fun t => after_own m c 4 t (.inl (by decide))) t d
theorem before0_5 (c : Dev nD) (t : Fin cfg0.N) (d) : (dats m 0 c).before 5 t d = iblk m c 5 t :=
  before0_5_of m (dats m 0 c) (A_eq m c 5) (fun t => after_own m c 5 t (.inl (by decide))) t d

/-! ## Which branch a point takes, and what the others' buffers keep -/

/-- A point stores one of the six outputs. -/
theorem own_mem (t : Fin cfg0.N) : own t = 6 ∨ own t = 7 ∨ own t = 8 ∨ own t = 9 ∨ own t = 10 ∨ own t = 11 := by
  unfold own; split_ifs <;> decide

/-- Each branch is taken at the points that store its output. -/
theorem cond_iff : ∀ t : Fin cfg0.N, (k0_cond1 (cfg0.grid.coords t) = 1#1 ↔ own t = 6) ∧ (k0_cond2 (cfg0.grid.coords t) = 1#1 ↔ own t = 7)
    ∧ (k0_cond3 (cfg0.grid.coords t) = 1#1 ↔ own t = 8) ∧ (k0_cond4 (cfg0.grid.coords t) = 1#1 ↔ own t = 9)
    ∧ (k0_cond5 (cfg0.grid.coords t) = 1#1 ↔ own t = 10) ∧ (k0_cond6 (cfg0.grid.coords t) = 1#1 ↔ own t = 11) :=
  (by decide +kernel : ∀ t : Fin grid0.N, _)

/-- An output is idle at the points that store another one. -/
theorem idle_iff : ∀ (w : Fin cfg0.W) (t : Fin cfg0.N), 6 ≤ w.val → (cfg0.idle w (cfg0.grid.coords t) = false ↔ own t = w.val) :=
  (by decide +kernel : ∀ (w : Fin 12) (t : Fin grid0.N), 6 ≤ w.val → (cfg0.idle w (grid0.coords t) = false ↔ own t = w.val))

/-- Where an output's block is written back at an idle point, the buffer holds a store of this row, -/
theorem held : ∀ (w : Fin cfg0.W) (t : Fin cfg0.N), 6 ≤ w.val → cfg0.idle w (cfg0.grid.coords t) = true → (cfg0.win w).flush t = true →
    cfg0.fresh w t.val = false :=
  (by decide +kernel : ∀ (w : Fin 12) (t : Fin grid0.N), 6 ≤ w.val → cfg0.idle w (grid0.coords t) = true → (cfg0.win w).flush t = true →
    cfg0.fresh w t.val = false)

/-- and at an idle point that holds one it is the point before's. -/
theorem prev : ∀ (w : Fin cfg0.W) (t : Fin cfg0.N), 6 ≤ w.val → t.val ≠ 0 → cfg0.idle w (cfg0.grid.coords t) = true → cfg0.fresh w t.val = false →
    pt w t = pt w ⟨t.val - 1, Nat.lt_of_le_of_lt (Nat.sub_le _ _) t.isLt⟩ :=
  (by decide +kernel : ∀ (w : Fin 12) (t : Fin grid0.N), 6 ≤ w.val → t.val ≠ 0 → cfg0.idle w (grid0.coords t) = true → cfg0.fresh w t.val = false →
    pt w t = pt w ⟨t.val - 1, Nat.lt_of_le_of_lt (Nat.sub_le _ _) t.isLt⟩)

variable (c : Dev nD) (w : Fin cfg0.W) (hw : 6 ≤ w.val)

include hw in
/-- An output's window is an output, and its blocks tile its array. -/
theorem isOut : (cfg0.win w).isOut = true ∧ ∀ (i : cfg0.grid.Coords) a, (cfg0.win w).clip i a = none := by
  obtain ⟨v, hv⟩ := w
  change 6 ≤ v at hw
  have hv' : v < 12 := hv
  obtain rfl | rfl | rfl | rfl | rfl | rfl : v = 6 ∨ v = 7 ∨ v = 8 ∨ v = 9 ∨ v = 10 ∨ v = 11 := by omega
  all_goals exact ⟨rfl, fun _ _ => rfl⟩

include hw in
/-- What the body leaves in an output's buffer at an idle point is what it left there at the point before. -/
theorem carry (t : Fin cfg0.N) (h0 : t.val ≠ 0) (hi : cfg0.idle w (cfg0.grid.coords t) = true) (hf : cfg0.fresh w t.val = false) :
    (dats m 0 c).after w t = (dats m 0 c).after w ⟨t.val - 1, Nat.lt_of_le_of_lt (Nat.sub_le _ _) t.isLt⟩ := by
  rw [after_eq, after_eq, prev w t hw h0 hi hf]

include hw in
/-- An output's buffer after the body — stored at a point of its group, as it was found elsewhere — is what the
    obligation asks. -/
theorem leaves (t : Fin cfg0.N) (d) :
    (owns (c : Thread nD τ) ((cfg0.win w).stage (cfg0.slots t w)) fullShare (if own t = w.val then stored m c w t else (dats m 0 c).before w t d)
      : sProp (MT nD τ sig Unit (Elt F) ℕ (UR sig nD τ) ℕ)) ⊢ (dats m 0 c).leavesExact w t :=
  Cert.Idle.leaves (dats m 0 c) w (isOut w hw).1 (isOut w hw).2 (fun t => held w t hw) (carry m c w hw) t _ (idle_iff w t hw) _
    (fun h => after_own m c w t (.inr h)) d

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨h1, h2, h3, h4, h5, h6⟩ := cond_iff t
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after_own m c 0 t (.inl (by decide)), after_own m c 1 t (.inl (by decide)), after_own m c 2 t (.inl (by decide)),
    after_own m c 3 t (.inl (by decide)), after_own m c 4 t (.inl (by decide)), after_own m c 5 t (.inl (by decide))]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound c Set.univ (grid0.coords t) _ _ _ _ _ _ _ _ _ _ _ _ _ _ _ _ _ _ _ _ _ _ _ _ (own t) (own_mem t) h1 h2 h3 h4 h5 h6
    (iblk m c 0 t) (X0_1 m c t) (iblk m c 2 t) (iblk m c 3 t) (iblk m c 4 t) (iblk m c 5 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves m c 6 (by decide) t d6); iexact H6
  isplitl [H7]; · iapply (leaves m c 7 (by decide) t d7); iexact H7
  isplitl [H8]; · iapply (leaves m c 8 (by decide) t d8); iexact H8
  isplitl [H9]; · iapply (leaves m c 9 (by decide) t d9); iexact H9
  isplitl [H10]; · iapply (leaves m c 10 (by decide) t d10); iexact H10
  iapply (leaves m c 11 (by decide) t d11); iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program ends with every array of the pipeline at what the proof data says, the host lines
    after the region run on them, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InProjSampleIdeal.Gen

end
-- ==== Proof.InProjSample.FrameBits.lean ====
module

public import proofs.«01_k».proof.Defs
public import proofs.«01_k».proof.Proof.InProjSample.Frame
public import proofs.«01_k».proof.Proof.Gen.InProjSample.Frame

/-! The frame of the program as it runs: over any floats it is the program that the idealized one is read from, so its frame
is the one proved there. -/

@[expose] public section

set_option maxRecDepth 16384
set_option maxHeartbeats 1000000

namespace Cert.InProjSample.Gen

open Idealize.ShloMosaic

variable {F : FTy → Type} [FloatOps F]

/-- The two programs' kernels are the same, -/
theorem bodies_eq : Cert.InProjSample.defs₀ (F := F) = Cert.InProjSampleIdeal.defs₀ (F := F) := by
  unfold Cert.InProjSample.defs₀ Cert.InProjSampleIdeal.defs₀
  refine congrArg Defs.onTc (funext fun l => funext fun a => ?_)
  obtain rfl : l = 0 := Subsingleton.elim _ _
  rfl

/-- so their pipelines are, -/
theorem defs_eq : Cert.InProjSample.defs (F := F) = Cert.InProjSampleIdeal.defs (F := F) :=
  congrArg (Pipeline.defs Cert.InProjSample.pcfgs) bodies_eq

/-- and what is true of every run of the one is true of every run of the other. -/
theorem run_of (m : (ℓ : Loc nD τ sig) → Buf (Elt F) ℓ) (ρ : Dev nD → PrngReg) (Q)
    (h : θ_run (Cert.InProjSampleIdeal.defs (F := F)) (onTc (τ := Cert.InProjSampleIdeal.τ) (Cert.InProjSampleIdeal.main (F := F))) ⟨m, fun _ => 0, ρ⟩ Q) :
    θ_run (defs (F := F)) (onTc (τ := τ) (main (F := F))) ⟨m, fun _ => 0, ρ⟩ Q := by
  rw [defs_eq]; exact h

/-- The frame: the arguments end as launched and every semaphore counter at zero. -/
theorem frame : Cert.quiescent_InProjSample (hInProjSample := Cert.InProjSample.Gen.facts) :=
  fun m ρ _ => run_of m ρ _ (Cert.InProjSampleIdeal.Gen.frame (F := Bits) m ρ)

end Cert.InProjSample.Gen
-- ==== Proof.InProjSample.Pure.lean ====
module

public import proofs.«01_k».proof.Proof.Gen.InProjSampleIdeal.Skeleton
public import proofs.«01_k».proof.Proof.Gen.InProjSampleReferenceIdeal.Read
public import Idealize.ShloMosaic.Lib.Pointwise

@[expose] public section

set_option maxRecDepth 16384

noncomputable section

open Idealize.ShloMosaic Idealize.ShloMosaic.TcCoe Idealize.SL.Sem

namespace Cert.InProjSampleIdeal.Pure

open Cert.InProjSampleIdeal Cert.InProjSampleReferenceIdeal.Read

variable (x0 : Vec Ideal S512x2048 .bf16) (x1 : Vec Ideal S2048x7184 .f32) (x2 x3 : Vec Ideal S128 .f32)
  (v30 : Vec Ideal S512x2048 .bf16) (v31 : Vec Ideal S512x2048 .f32) (v35 : Vec Ideal S1x128 .f32)

/-- Rows times a block of transposed weights: the reference's product at the rows and the block's columns. -/
theorem prod_eq (C : Fin 512 → Fin 7184)
    (h0 : ∀ (r : Fin 512) (k : Fin 2048), v30 (ix2 r k) = x0 (ix2 r k))
    (h1 : ∀ (n : Fin 512) (k : Fin 2048), v31 (ix2 n k) = x1 (ix2 k (C n))) (r : Fin 512) (n : Fin 512) :
    (Gen.k0_pay3 (F := Ideal) v30 v31 (ix2 r n) : EReal) = val_main_v1 (F := Ideal) x0 x1 (ix2 r (C n)) := by
  pointwise! [Gen.k0_pay3, h0, h1, val_main_v1, val_main_v0]

/-- The same at one column. -/
theorem prod_at (h0 : ∀ (r : Fin 512) (k : Fin 2048), v30 (ix2 r k) = x0 (ix2 r k)) (n : Fin 512) (q : Fin 7184)
    (h1 : ∀ (k : Fin 2048), v31 (ix2 n k) = x1 (ix2 k q)) (r : Fin 512) :
    (Gen.k0_pay3 (F := Ideal) v30 v31 (ix2 r n) : EReal) = val_main_v1 (F := Ideal) x0 x1 (ix2 r q) := by
  pointwise! [Gen.k0_pay3, h0, h1, val_main_v1, val_main_v0]

/-- Rows times a column of zeros. -/
theorem prod_zero (n : Fin 512) (h1 : ∀ (k : Fin 2048), v31 (ix2 n k) = (0 : EReal)) (r : Fin 512) :
    (Gen.k0_pay3 (F := Ideal) v30 v31 (ix2 r n) : EReal) = 0 := by
  pointwise! [Gen.k0_pay3, h1]
  exact Finset.sum_eq_zero fun x _ => mul_zero _

/-- One head, normalised: the term that each of the four heads of a block is. -/
def head (v37 : FVec Ideal S512x128 .f32) (v36 : FVec Ideal S1x128 .f32) : FVec Ideal S512x128 .f32 :=
  mulf (mulf v37 (broadcastTo S512x128 (rsqrt (addf (divf (shapeCast S512x1
    (multiReduction .add [1] S512 (mulf v37 v37) 0x00000000#32 Gen.reduces_S512x128_S512 (.inl rfl) rfl) Gen.shapeCasts_S512_S512x1)
    (broadcast S512x1 (Scalar.ofBits .f32 0x43000000#32))) (broadcast S512x1 (Scalar.ofBits .f32 0x358637BD#32)))) Gen.broadcasts_S512x1_S512x128))
    (broadcastTo S512x128 v36 Gen.broadcasts_S1x128_S512x128)

/-- Four blocks of columns side by side. -/
def four (p0 p1 p2 p3 : FVec Ideal S512x128 .f32) : FVec Ideal S512x512 .f32 :=
  concatenate S512x512 1 [⟨S512x128, p0⟩, ⟨S512x128, p1⟩, ⟨S512x128, p2⟩, ⟨S512x128, p3⟩] Gen.concatenates_S512x128_S512x128_S512x128_S512x128_S512x512_d1

/-- The columns of each head of a block. -/
def cols (v34 : FVec Ideal S512x512 .f32) : Fin 4 → FVec Ideal S512x128 .f32 := fun
  | 0 => extractStridedSlice S512x128 ![0, 0] v34 Gen.slices_S512x512_o0_0_S512x128
  | 1 => extractStridedSlice S512x128 ![0, 128] v34 Gen.slices_S512x512_o0_128_S512x128
  | 2 => extractStridedSlice S512x128 ![0, 256] v34 Gen.slices_S512x512_o0_256_S512x128
  | 3 => extractStridedSlice S512x128 ![0, 384] v34 Gen.slices_S512x512_o0_384_S512x128

/-- The four heads of a block, normalised, side by side. -/
def heads (v34 : FVec Ideal S512x512 .f32) (v36 : FVec Ideal S1x128 .f32) : FVec Ideal S512x512 .f32 :=
  four (head (cols v34 0) v36) (head (cols v34 1) v36) (head (cols v34 2) v36) (head (cols v34 3) v36)

/-- The queries' and the keys' stores are the four heads of the block's product. -/
theorem pay1_eq : Gen.k0_pay1 (F := Ideal) (Gen.k0_pay7 v30 v31) (Gen.k0_pay8 v35) (Gen.k0_pay9 v30 v31 v35) (Gen.k0_pay10 v30 v31 v35) (Gen.k0_pay11 v30 v31)
    = heads (Gen.k0_pay3 v30 v31) (shapeCast S1x128 v35 Gen.shapeCasts_S1x128_S1x128) := rfl
theorem pay2_eq : Gen.k0_pay2 (F := Ideal) (Gen.k0_pay12 v30 v31) (Gen.k0_pay13 v35) (Gen.k0_pay14 v30 v31 v35) (Gen.k0_pay15 v30 v31 v35) (Gen.k0_pay16 v30 v31)
    = heads (Gen.k0_pay3 v30 v31) (shapeCast S1x128 v35 Gen.shapeCasts_S1x128_S1x128) := rfl

/-- A head's lane of the queries before the norm. -/
theorem splitq (i : Fin 512) (h : Fin 8) (l : Fin 128) (n : Fin 7184) (hn : n.val = 0 + (128 * h.val + l.val)) :
    val_main_v8 (F := Ideal) x0 x1 (ix3 i h l) = val_main_v1 (F := Ideal) x0 x1 (ix2 i n) := by
  rw [val_main_v8_apply, val_main_v2_apply]
  congr 1
  have := i.isLt; have := h.isLt; have := l.isLt
  funext a
  apply Fin.ext
  match a with
  | ⟨0, _⟩ => show ((i.val * 8 + h.val) * 128 + l.val) / 1024 = i.val; omega
  | ⟨1, _⟩ => show ((i.val * 8 + h.val) * 128 + l.val) % 1024 = n.val; omega

/-- A head's lane of the keys before the norm. -/
theorem splitk (i : Fin 512) (h : Fin 8) (l : Fin 128) (n : Fin 7184) (hn : n.val = 1024 + (128 * h.val + l.val)) :
    val_main_v24 (F := Ideal) x0 x1 (ix3 i h l) = val_main_v1 (F := Ideal) x0 x1 (ix2 i n) := by
  rw [val_main_v24_apply, val_main_v3_apply]
  congr 1
  have := i.isLt; have := h.isLt; have := l.isLt
  funext a
  apply Fin.ext
  match a with
  | ⟨0, _⟩ => show ((i.val * 8 + h.val) * 128 + l.val) / 1024 = i.val; omega
  | ⟨1, _⟩ => show 1024 + ((i.val * 8 + h.val) * 128 + l.val) % 1024 = n.val; omega

/-- One head of queries, normalised with the gain times the scale, is the reference's, normalised and then scaled. -/
theorem headq_eq (h : Fin 8) (v37 : FVec Ideal S512x128 .f32) (v36 : FVec Ideal S1x128 .f32)
    (h7 : ∀ (r : Fin 512) (l : Fin 128), v37 (ix2 r l) = val_main_v8 (F := Ideal) x0 x1 (ix3 r h l))
    (h6 : ∀ l : Fin 128, v36 (ix2 0 l) = (x2 (ix1 l) * (FloatOps.ofBits (F := Ideal) .f32 0x3DB504F3#32 : EReal) : EReal)) (r : Fin 512) (l : Fin 128) :
    head v37 v36 (ix2 r l) = val_main_v23 (F := Ideal) x0 x1 x2 (ix3 r h l) := by
  pointwise! [head, h7, h6, val_main_v23, val_main_v22, val_main_v21, val_main_v20, val_main_v19, val_main_v18, val_main_v17, val_main_v16, val_main_v15,
    val_main_v14, val_main_v13, val_main_v12, val_main_v11, val_main_v10, val_main_v9, val_main_cst, val_main_cst_0, val_main_cst_1, val_main_cst_2]

/-- One head of keys, normalised, is the reference's. -/
theorem headk_eq (h : Fin 8) (v37 : FVec Ideal S512x128 .f32) (v36 : FVec Ideal S1x128 .f32)
    (h7 : ∀ (r : Fin 512) (l : Fin 128), v37 (ix2 r l) = val_main_v24 (F := Ideal) x0 x1 (ix3 r h l))
    (h6 : ∀ l : Fin 128, v36 (ix2 0 l) = x3 (ix1 l)) (r : Fin 512) (l : Fin 128) :
    head v37 v36 (ix2 r l) = val_main_v37 (F := Ideal) x0 x1 x3 (ix3 r h l) := by
  pointwise! [head, h7, h6, val_main_v37, val_main_v36, val_main_v35, val_main_v34, val_main_v33, val_main_v32, val_main_v31, val_main_v30, val_main_v29,
    val_main_v28, val_main_v27, val_main_v26, val_main_v25, val_main_cst_3, val_main_cst_4, val_main_cst_5]

/-- A column of head `b`. -/
theorem cols_at (v : FVec Ideal S512x512 .f32) (b : Fin 4) (r : Fin 512) (l : Fin 128) :
    cols v b (ix2 r l) = v (ix2 r (⟨128 * b.val + l.val, by have := b.isLt; have := l.isLt; omega⟩ : Fin 512)) := by
  fin_cases b <;> dsimp only [cols] <;> pointwise!

/-- A column of four blocks side by side. -/
theorem four_at (p : Fin 4 → FVec Ideal S512x128 .f32) (b : Fin 4) (r : Fin 512) (l : Fin 128) :
    four (p 0) (p 1) (p 2) (p 3) (ix2 r (⟨128 * b.val + l.val, by have := b.isLt; have := l.isLt; omega⟩ : Fin 512)) = p b (ix2 r l) := by
  unfold four
  fin_cases b <;> pointwise!
  rw [dif_neg (by omega), dif_neg (by omega), dif_pos (by omega)]
  exact congrArg (fun l => p 2 (ix2 r l)) (Fin.ext (by show 256 + l.val - 128 - 128 = l.val; omega))

/-- The gain as the heads read it. -/
theorem gain_eq (l : Fin 128) : shapeCast S1x128 v35 Gen.shapeCasts_S1x128_S1x128 (ix2 0 l) = v35 (ix2 0 l) := by
  pointwise!

/-- The integer zero, converted, is zero. -/
theorem sitofp_zero : (FloatOps.sitofp (F := Ideal) FTy.f32 0#32 : EReal) = 0 := by
  simp [FloatOps.sitofp]

/-- The reference's padded logit columns: the product's columns, -/
theorem pad_left (i : Fin 512) (n : Fin 512) (hn : n.val < 16) :
    val_main_v38 (F := Ideal) x0 x1 (ix2 i n) = val_main_v1 (F := Ideal) x0 x1 (ix2 i (⟨6144 + n.val, by omega⟩ : Fin 7184)) := by
  pointwise! [val_main_v38, val_main_v6]
  rw [dif_pos hn]
/-- and zeros. -/
theorem pad_right (i : Fin 512) (n : Fin 512) (hn : ¬ n.val < 16) :
    (val_main_v38 (F := Ideal) x0 x1 (ix2 i n) : EReal) = 0 := by
  pointwise! [val_main_v38, val_main_call0_v0, val_main_c]
  rw [dif_neg hn]
  exact sitofp_zero

/-- An entry of the reference's queries, by its head. -/
theorem joinq (i : Fin 512) (h : Fin 8) (l : Fin 128) (q : Fin 1024) (hq : q.val = 128 * h.val + l.val) :
    val_main_v41 (F := Ideal) x0 x1 x2 (ix2 i q) = val_main_v23 (F := Ideal) x0 x1 x2 (ix3 i h l) := by
  rw [val_main_v41_apply]
  congr 1
  have := i.isLt; have := h.isLt; have := l.isLt
  funext a
  apply Fin.ext
  match a with
  | ⟨0, _⟩ => show (i.val * 1024 + q.val) / 1024 = i.val; omega
  | ⟨1, _⟩ => show (i.val * 1024 + q.val) / 128 % 8 = h.val; omega
  | ⟨2, _⟩ => show (i.val * 1024 + q.val) % 128 = l.val; omega

/-- An entry of the reference's keys, by its head. -/
theorem joink (i : Fin 512) (h : Fin 8) (l : Fin 128) (q : Fin 1024) (hq : q.val = 128 * h.val + l.val) :
    val_main_v42 (F := Ideal) x0 x1 x3 (ix2 i q) = val_main_v37 (F := Ideal) x0 x1 x3 (ix3 i h l) := by
  rw [val_main_v42_apply]
  congr 1
  have := i.isLt; have := h.isLt; have := l.isLt
  funext a
  apply Fin.ext
  match a with
  | ⟨0, _⟩ => show (i.val * 1024 + q.val) / 1024 = i.val; omega
  | ⟨1, _⟩ => show (i.val * 1024 + q.val) / 128 % 8 = h.val; omega
  | ⟨2, _⟩ => show (i.val * 1024 + q.val) % 128 = l.val; omega

/-- A block of queries or keys: suppose `raw` is the reference's product from column `o` split into heads, `norm` is what a
    head of `raw` comes to, and `out` is `norm` with its heads side by side. Then the block's four heads are `out`'s. -/
theorem block_eq (b : Fin 2) (o : Nat) (ho : o ≤ 1024) (raw norm : Vec Ideal Cert.InProjSampleReferenceIdeal.S512x8x128 .f32) (out : Vec Ideal S512x1024 .f32) (v36 : FVec Ideal S1x128 .f32)
    (hraw : ∀ (i : Fin 512) (h : Fin 8) (l : Fin 128) (n : Fin 7184), n.val = o + (128 * h.val + l.val) → raw (ix3 i h l) = val_main_v1 (F := Ideal) x0 x1 (ix2 i n))
    (hnorm : ∀ (h : Fin 8) (v37 : FVec Ideal S512x128 .f32), (∀ (r : Fin 512) (l : Fin 128), v37 (ix2 r l) = raw (ix3 r h l)) →
      ∀ (r : Fin 512) (l : Fin 128), head v37 v36 (ix2 r l) = norm (ix3 r h l))
    (hout : ∀ (i : Fin 512) (h : Fin 8) (l : Fin 128) (q : Fin 1024), q.val = 128 * h.val + l.val → out (ix2 i q) = norm (ix3 i h l))
    (h0 : ∀ (r : Fin 512) (k : Fin 2048), v30 (ix2 r k) = x0 (ix2 r k))
    (h1 : ∀ (n : Fin 512) (k : Fin 2048), v31 (ix2 n k) = x1 (ix2 k (⟨o + (512 * b.val + n.val), by have := b.isLt; have := n.isLt; omega⟩ : Fin 7184)))
    (r : Fin 512) (n : Fin 512) :
    heads (Gen.k0_pay3 v30 v31) v36 (ix2 r n) = out (ix2 r (⟨512 * b.val + n.val, by have := b.isLt; have := n.isLt; omega⟩ : Fin 1024)) := by
  have hb := b.isLt
  obtain ⟨s, l, rfl⟩ : ∃ (s : Fin 4) (l : Fin 128), n = (⟨128 * s.val + l.val, by have := s.isLt; have := l.isLt; omega⟩ : Fin 512) := by
    have hn := n.isLt
    exact ⟨⟨n.val / 128, by omega⟩, ⟨n.val % 128, Nat.mod_lt _ (by decide)⟩, Fin.ext (Nat.div_add_mod _ _).symm⟩
  have hs := s.isLt
  have hl := l.isLt
  refine (four_at (fun s => head (cols (Gen.k0_pay3 v30 v31) s) v36) s r l).trans ((hnorm (⟨4 * b.val + s.val, by omega⟩ : Fin 8) _
    (fun r l => (cols_at _ s r l).trans ((prod_eq x0 x1 v30 v31 _ h0 h1 r _).trans (hraw r _ l _ ?_).symm)) r l).trans (hout r _ l _ ?_).symm)
  · show o + (512 * b.val + (128 * s.val + l.val)) = o + (128 * (4 * b.val + s.val) + l.val); omega
  · show 512 * b.val + (128 * s.val + l.val) = 128 * (4 * b.val + s.val) + l.val; omega

/-- The carried rows are the raw columns of the last three positions of each batch entry. -/
theorem conv_eq (x4 : Vec Ideal S128x3x3072 .f32) (b : Fin 128) (p : Fin 3) (q : Fin 3072) :
    val_main_v43 (F := Ideal) x0 x1 x4 (ix3 b p q)
      = val_main_v5 (F := Ideal) x0 x1 (ix2 (⟨4 * b.val + (1 + p.val), by have := b.isLt; have := p.isLt; omega⟩ : Fin 512) q) := by
  pointwise! [val_main_v43, val_main_v40, val_main_v39]
  rw [dif_neg (by omega)]
  exact congrArg (val_main_v5 x0 x1) (congrArg (fun i => ix2 i q) (Fin.ext (by show b.val * 4 + (4 + p.val - 3) = 4 * b.val + (1 + p.val); omega)))

end Cert.InProjSampleIdeal.Pure

end
-- ==== Proof.InProjSample.Blocks.lean ====
module

public import proofs.«01_k».proof.Proof.InProjSample.Frame
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.InProjSampleIdeal.Layer

open Cert.InProjSampleIdeal Cert.InProjSampleIdeal.Gen

variable (m : (ℓ : Loc nD τ sig) → Buf (Elt Ideal) ℓ) (c : Dev nD)

/-- The normalised stream that the run starts with. -/
abbrev a0 : Vec Ideal S512x2048 .bf16 := m ((c : Thread nD τ).loc main_arg0)
/-- The input weights that the run starts with. -/
abbrev a1 : Vec Ideal S2048x7184 .f32 := m ((c : Thread nD τ).loc main_arg1)
/-- The gain of the queries' norm that the run starts with. -/
abbrev a2 : Vec Ideal S128 .f32 := m ((c : Thread nD τ).loc main_arg2)
/-- The gain of the keys' norm that the run starts with. -/
abbrev a3 : Vec Ideal S128 .f32 := m ((c : Thread nD τ).loc main_arg3)

/-- The rows carried in that the run starts with. -/
abbrev a4 : Vec Ideal S128x3x3072 .f32 := m ((c : Thread nD τ).loc main_arg4)

/-- The transposed weights before the call, -/
theorem Vv0 : V m c main_v0 = transpose S7184x2048 [1, 0] (a1 m c) transposes_S2048x7184_S7184x2048_1_0 := by
  show StableHlo.after (hostOps0 ++ (hostOps0_1 ++ hostOps0_2)) (fun b => m (c, b)) _ = _
  after_reads_simp
/-- their gate rows, -/
theorem Vv3 : V m c main_v3 = extractStridedSlice S1024x2048 ![6160, 0] (transpose S7184x2048 [1, 0] (a1 m c) transposes_S2048x7184_S7184x2048_1_0)
    slices_S7184x2048_S1024x2048_6160_0 := by
  show StableHlo.after (hostOps0 ++ (hostOps0_1 ++ hostOps0_2)) (fun b => m (c, b)) _ = _
  after_reads_simp
/-- their logit rows, padded with zeros, -/
theorem Vv5 : V m c main_v5 = pad S512x2048 ![0, 0] ![496, 0] ![0, 0]
    (extractStridedSlice S16x2048 ![6144, 0] (transpose S7184x2048 [1, 0] (a1 m c) transposes_S2048x7184_S7184x2048_1_0) slices_S7184x2048_S16x2048_6144_0)
    (sitofp .f32 (constantI S_ 32 0#32) : FVec Ideal S_ .f32) pads_S16x2048_S512x2048_04960_000 h_S_ := by
  show StableHlo.after (hostOps0 ++ (hostOps0_1 ++ hostOps0_2)) (fun b => m (c, b)) _ = _
  after_reads_simp
  rfl
/-- the queries' gain times the scale, -/
theorem Vv6 : V m c main_v6 = shapeCast S1x128 (mulf (a2 m c : FVec Ideal S128 .f32)
    (broadcastInDim S128 ![] bcast_S_S128 (constant (F := Ideal) S_ FTy.f32 1035273459#32))) shapeCasts_S128_S1x128 := by
  show StableHlo.after (hostOps0 ++ (hostOps0_1 ++ hostOps0_2)) (fun b => m (c, b)) _ = _
  after_reads_simp
  rfl
/-- and the keys' gain. -/
theorem Vv7 : V m c main_v7 = shapeCast S1x128 (a3 m c) shapeCasts_S128_S1x128 := by
  show StableHlo.after (hostOps0 ++ (hostOps0_1 ++ hostOps0_2)) (fun b => m (c, b)) _ = _
  after_reads_simp
  rfl

/-- The input windows' block indices at a grid point. -/
theorem idxIn : ∀ t : Fin cfg0.N,
    win0_0.index t (0 : Fin 2) = 0 ∧ win0_0.index t (1 : Fin 2) = 0
    ∧ win0_1.index t (0 : Fin 2) = min (t.val % 15) 11 ∧ win0_1.index t (1 : Fin 2) = 0
    ∧ win0_2.index t (0 : Fin 2) = min (t.val % 15 - 12) 1 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem hz : (![0, 0] : Fin 2 → Nat) = fun _ => 0 := by
  funext a
  match a with
  | ⟨0, _⟩ => rfl
  | ⟨1, _⟩ => rfl

variable (t : Fin cfg0.N)

theorem blk0 (r : Fin 512) (k : Fin 2048) : (iblk m c 0 t : Vec Ideal S512x2048 .bf16) (ix2 r k)
    = (m ((c : Thread nD τ).loc main_arg0) : Vec Ideal S512x2048 .bf16) (ix2 r k) := by
  blk_point [iblk, idxIn t]

/-- A block of transposed weights. -/
theorem blk1 (n : Fin 512) (k : Fin 2048) : (X0_1 m c t : Vec Ideal S512x2048 .f32) (ix2 n k)
    = (m ((c : Thread nD τ).loc main_arg1) : Vec Ideal S2048x7184 .f32)
        (ix2 k (⟨512 * min (t.val % 15) 11 + n.val, by have := n.isLt; omega⟩ : Fin 7184)) := by
  unfold X0_1 Pipeline.Window.fill
  rw [dif_pos (moved0_1 t _)]
  show V m c main_v0 ((win0_1.blk t).view.emb _) = _
  rw [Vv0]
  pointwise!
  blk_ext [idxIn t]

theorem blk2 (n : Fin 512) (k : Fin 2048) : (iblk m c 2 t : Vec Ideal S512x2048 .f32) (ix2 n k)
    = (m ((c : Thread nD τ).loc main_arg1) : Vec Ideal S2048x7184 .f32)
        (ix2 k (⟨6160 + 512 * min (t.val % 15 - 12) 1 + n.val, by have := n.isLt; omega⟩ : Fin 7184)) := by
  show V m c main_v3 ((win0_2.blk t).view.emb (ix2 n k)) = _
  rw [Vv3]
  pointwise!
  blk_ext [idxIn t]

theorem blk3 (n : Fin 512) (k : Fin 2048) : (iblk m c 3 t : Vec Ideal S512x2048 .f32) (ix2 n k)
    = if h : n.val < 16 then (m ((c : Thread nD τ).loc main_arg1) : Vec Ideal S2048x7184 .f32) (ix2 k (⟨6144 + n.val, by omega⟩ : Fin 7184)) else (0 : EReal) := by
  show V m c main_v5 ((win0_3.blk t).view.emb (ix2 n k)) = _
  rw [Vv5]
  have e : (win0_3.blk t).view.emb (ix2 n k) = ix2 n k := by blk_ext [idxIn t]
  rw [e]
  pointwise!
  split
  · rfl
  · simp [FloatOps.sitofp]

theorem blk4 (l : Fin 128) : ((iblk m c 4 t : Vec Ideal S1x128 .f32) (ix2 0 l) : EReal)
    = ((a2 m c (ix1 l) : EReal) * (FloatOps.ofBits (F := Ideal) .f32 0x3DB504F3#32 : EReal) : EReal) := by
  show V m c main_v6 ((win0_4.blk t).view.emb (ix2 0 l)) = _
  rw [Vv6]
  have e : (win0_4.blk t).view.emb (ix2 0 l) = ix2 0 l := by blk_ext [idxIn t]
  rw [e]
  pointwise!

theorem blk5 (l : Fin 128) : (iblk m c 5 t : Vec Ideal S1x128 .f32) (ix2 0 l)
    = (m ((c : Thread nD τ).loc main_arg3) : Vec Ideal S128 .f32) (ix1 l) := by
  show V m c main_v7 ((win0_5.blk t).view.emb (ix2 0 l)) = _
  rw [Vv7]
  have e : (win0_5.blk t).view.emb (ix2 0 l) = ix2 0 l := by blk_ext [idxIn t]
  rw [e]
  pointwise!

end Cert.InProjSampleIdeal.Layer

end
-- ==== Proof.InProjSample.Value.lean ====
module

public import proofs.«01_k».proof.Proof.InProjSample.Pure
public import proofs.«01_k».proof.Proof.InProjSample.Blocks
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.InProjSampleIdeal.Layer

open Cert.InProjSampleIdeal Cert.InProjSampleIdeal.Gen Cert.InProjSampleReferenceIdeal.Read

variable (m : (ℓ : Loc nD τ sig) → Buf (Elt Ideal) ℓ) (ρ : Dev nD → PrngReg) (c : Dev nD)

/-- Where each output window lies at a grid point: at the block of the last point that stored there. -/
theorem idxOut : ∀ t : Fin cfg0.N,
    (win0_6.index t (0 : Fin 2) = 0 ∧ win0_6.index t (1 : Fin 2) = (pt 6 t).val % 15 - 0 ∧ 0 ≤ (pt 6 t).val % 15 ∧ (pt 6 t).val % 15 < 2)
    ∧ (win0_7.index t (0 : Fin 2) = 0 ∧ win0_7.index t (1 : Fin 2) = (pt 7 t).val % 15 - 2 ∧ 2 ≤ (pt 7 t).val % 15 ∧ (pt 7 t).val % 15 < 4)
    ∧ (win0_8.index t (0 : Fin 2) = 0 ∧ win0_8.index t (1 : Fin 2) = (pt 8 t).val % 15 - 4 ∧ 4 ≤ (pt 8 t).val % 15 ∧ (pt 8 t).val % 15 < 6)
    ∧ (win0_9.index t (0 : Fin 2) = 0 ∧ win0_9.index t (1 : Fin 2) = (pt 9 t).val % 15 - 6 ∧ 6 ≤ (pt 9 t).val % 15 ∧ (pt 9 t).val % 15 < 12)
    ∧ (win0_10.index t (0 : Fin 2) = 0 ∧ win0_10.index t (1 : Fin 2) = (pt 10 t).val % 15 - 12 ∧ 12 ≤ (pt 10 t).val % 15 ∧ (pt 10 t).val % 15 < 14)
    ∧ (win0_11.index t (0 : Fin 2) = 0 ∧ win0_11.index t (1 : Fin 2) = 0) :=
  (by decide +kernel : ∀ t : Fin grid0.N, _)

variable (s : Fin cfg0.N)

theorem in0 (r : Fin 512) (k : Fin 2048) : View.ld (iblk m c 0 s : Vec Ideal S512x2048 .bf16) rH (ix2 r k) = a0 m c (ix2 r k) :=
  (congrFun (View.ld_unit_zero (S := S512x2048) hz _ _) _).trans (blk0 m c s r k)

/-- The weights of a block. -/
theorem in1 (hb : s.val % 15 < 12) (n : Fin 512) (k : Fin 2048) (q : Fin 7184) (hq : q.val = 512 * (s.val % 15) + n.val) :
    View.ld (X0_1 m c s : Vec Ideal S512x2048 .f32) rH (ix2 n k) = a1 m c (ix2 k q) :=
  (congrFun (View.ld_unit_zero (S := S512x2048) hz _ _) _).trans ((blk1 m c s n k).trans
    (congrArg (fun q => a1 m c (ix2 k q)) (Fin.ext (by show 512 * min (s.val % 15) 11 + n.val = q.val; rw [hq, Nat.min_eq_left (by omega)]))))

theorem in4 (l : Fin 128) : (View.ld (iblk m c 4 s : Vec Ideal S1x128 .f32) rG (ix2 0 l) : EReal) = ((a2 m c (ix1 l) : EReal) * (FloatOps.ofBits (F := Ideal) .f32 0x3DB504F3#32 : EReal) : EReal) :=
  (congrFun (View.ld_unit_zero (S := S1x128) hz _ _) _).trans (blk4 m c s l)

theorem in5 (l : Fin 128) : (View.ld (iblk m c 5 s : Vec Ideal S1x128 .f32) rG (ix2 0 l) : EReal) = a3 m c (ix1 l) :=
  (congrFun (View.ld_unit_zero (S := S1x128) hz _ _) _).trans (blk5 m c s l)

/-- A block of the product that is stored as it is: the reference's columns at `o` onwards, the block being number `b` of them. -/
theorem plain (hb : s.val % 15 < 12) (b o : Nat) (ho : o + 512 * b = 512 * (s.val % 15)) (r n : Fin 512) (i : Cert.InProjSampleReferenceIdeal.S512x7184.Idx)
    (hi0 : (i 0).val = r.val) (hi1 : (i 1).val = o + (512 * b + n.val)) :
    Gen.k0_pay3 (F := Ideal) (View.ld (iblk m c 0 s : Vec Ideal S512x2048 .bf16) rH) (View.ld (X0_1 m c s : Vec Ideal S512x2048 .f32) rH) (ix2 r n)
      = val_main_v1 (F := Ideal) (a0 m c) (a1 m c) i := by
  refine (Pure.prod_eq (a0 m c) (a1 m c) _ _ (fun n => (⟨512 * (s.val % 15) + n.val, by have := n.isLt; omega⟩ : Fin 7184)) (in0 m c s)
    (fun n k => in1 m c s hb n k _ rfl) r n).trans (congrArg (val_main_v1 (F := Ideal) (a0 m c) (a1 m c)) ?_)
  funext a
  apply Fin.ext
  match a with
  | ⟨0, _⟩ => exact hi0.symm
  | ⟨1, _⟩ => exact (show 512 * (s.val % 15) + n.val = o + (512 * b + n.val) by omega).trans hi1.symm

/-- An index of a block by its row and column. -/
theorem ix_eta (x : S512x512.Idx) : ∃ (r : Fin 512) (n : Fin 512), x = ix2 r n :=
  ⟨x 0, x 1, by funext a; match a with | ⟨0, _⟩ => rfl | ⟨1, _⟩ => rfl⟩

/-- What the call leaves in its output 0. -/
theorem final6 : (dats m 0 c).arrAt 6 cfg0.N = val_main_v41 (F := Ideal) (a0 m c) (a1 m c) (a2 m c) := by
  refine (dats m 0 c).arrAt_eq_of_covers 6 _ (by decide +kernel) fun t _ y => ?_
  blk_simp
  rw [after_eq]
  dsimp only [stored, out6]
  canon_tiles x h
  obtain ⟨r, n, rfl⟩ := ix_eta x
  have e0 : (y 0).val = r.val := h0
  have e1 : (y 1).val = n.val := h1
  obtain ⟨i0, i1, g0, g1⟩ := (idxOut t).1
  have hn := n.isLt
  generalize pt 6 t = s at i0 i1 g0 g1 ⊢
  have e : (win0_6.blk t).view.emb y = ix2 r (⟨512 * (s.val % 15 - 0) + n.val, by omega⟩ : Fin 1024) := by
    blk_ext [i0, i1]
  rw [e]
  refine (congrFun (Pure.pay1_eq _ _ _) _).trans ?_
  exact Pure.block_eq (a0 m c) (a1 m c) _ _ (⟨s.val % 15 - 0, by omega⟩ : Fin 2) 0 (by decide) _ _ _ _ (Pure.splitq (a0 m c) (a1 m c))
    (fun h v37 h7 => Pure.headq_eq (a0 m c) (a1 m c) (a2 m c) h v37 _ h7 (fun l => (Pure.gain_eq _ l).trans (in4 m c s l)))
    (Pure.joinq (a0 m c) (a1 m c) (a2 m c)) (in0 m c s)
    (fun n k => in1 m c s (by omega) n k _ (by show 0 + (512 * (s.val % 15 - 0) + n.val) = 512 * (s.val % 15) + n.val; omega)) r n

/-- What the call leaves in its output 1. -/
theorem final7 : (dats m 0 c).arrAt 7 cfg0.N = val_main_v42 (F := Ideal) (a0 m c) (a1 m c) (a3 m c) := by
  refine (dats m 0 c).arrAt_eq_of_covers 7 _ (by decide +kernel) fun t _ y => ?_
  blk_simp
  rw [after_eq]
  dsimp only [stored, out7]
  canon_tiles x h
  obtain ⟨r, n, rfl⟩ := ix_eta x
  have e0 : (y 0).val = r.val := h0
  have e1 : (y 1).val = n.val := h1
  obtain ⟨i0, i1, g0, g1⟩ := (idxOut t).2.1
  have hn := n.isLt
  generalize pt 7 t = s at i0 i1 g0 g1 ⊢
  have e : (win0_7.blk t).view.emb y = ix2 r (⟨512 * (s.val % 15 - 2) + n.val, by omega⟩ : Fin 1024) := by
    blk_ext [i0, i1]
  rw [e]
  refine (congrFun (Pure.pay2_eq _ _ _) _).trans ?_
  exact Pure.block_eq (a0 m c) (a1 m c) _ _ (⟨s.val % 15 - 2, by omega⟩ : Fin 2) 1024 (by decide) _ _ _ _ (Pure.splitk (a0 m c) (a1 m c))
    (fun h v37 h7 => Pure.headk_eq (a0 m c) (a1 m c) (a3 m c) h v37 _ h7 (fun l => (Pure.gain_eq _ l).trans (in5 m c s l)))
    (Pure.joink (a0 m c) (a1 m c) (a3 m c)) (in0 m c s)
    (fun n k => in1 m c s (by omega) n k _ (by show 1024 + (512 * (s.val % 15 - 2) + n.val) = 512 * (s.val % 15) + n.val; omega)) r n

/-- What the call leaves in its output 2. -/
theorem final8 : (dats m 0 c).arrAt 8 cfg0.N = val_main_v4 (F := Ideal) (a0 m c) (a1 m c) := by
  refine (dats m 0 c).arrAt_eq_of_covers 8 _ (by decide +kernel) fun t _ y => ?_
  blk_simp
  rw [after_eq]
  dsimp only [stored, out8]
  canon_tiles x h
  obtain ⟨r, n, rfl⟩ := ix_eta x
  have e0 : (y 0).val = r.val := h0
  have e1 : (y 1).val = n.val := h1
  obtain ⟨i0, i1, g0, g1⟩ := (idxOut t).2.2.1
  have hn := n.isLt
  generalize pt 8 t = s at i0 i1 g0 g1 ⊢
  have e : (win0_8.blk t).view.emb y = ix2 r (⟨512 * (s.val % 15 - 4) + n.val, by omega⟩ : Fin 1024) := by
    blk_ext [i0, i1]
  rw [e]
  exact (plain m c s (by omega) (s.val % 15 - 4) 2048 (by omega) r n _ rfl rfl).trans (val_main_v4_apply ..).symm

/-- What the call leaves in its output 3. -/
theorem final9 : (dats m 0 c).arrAt 9 cfg0.N = val_main_v5 (F := Ideal) (a0 m c) (a1 m c) := by
  refine (dats m 0 c).arrAt_eq_of_covers 9 _ (by decide +kernel) fun t _ y => ?_
  blk_simp
  rw [after_eq]
  dsimp only [stored, out9]
  canon_tiles x h
  obtain ⟨r, n, rfl⟩ := ix_eta x
  have e0 : (y 0).val = r.val := h0
  have e1 : (y 1).val = n.val := h1
  obtain ⟨i0, i1, g0, g1⟩ := (idxOut t).2.2.2.1
  have hn := n.isLt
  generalize pt 9 t = s at i0 i1 g0 g1 ⊢
  have e : (win0_9.blk t).view.emb y = ix2 r (⟨512 * (s.val % 15 - 6) + n.val, by omega⟩ : Fin 3072) := by
    blk_ext [i0, i1]
  rw [e]
  exact (plain m c s (by omega) (s.val % 15 - 6) 3072 (by omega) r n _ rfl rfl).trans (val_main_v5_apply ..).symm

/-- What the call leaves in its output 4. -/
theorem final10 : (dats m 0 c).arrAt 10 cfg0.N = val_main_v7 (F := Ideal) (a0 m c) (a1 m c) := by
  refine (dats m 0 c).arrAt_eq_of_covers 10 _ (by decide +kernel) fun t _ y => ?_
  blk_simp
  rw [after_eq]
  dsimp only [stored, out10]
  canon_tiles x h
  obtain ⟨r, n, rfl⟩ := ix_eta x
  have e0 : (y 0).val = r.val := h0
  have e1 : (y 1).val = n.val := h1
  obtain ⟨i0, i1, g0, g1⟩ := (idxOut t).2.2.2.2.1
  have hn := n.isLt
  generalize pt 10 t = s at i0 i1 g0 g1 ⊢
  have e : (win0_10.blk t).view.emb y = ix2 r (⟨512 * (s.val % 15 - 12) + n.val, by omega⟩ : Fin 1024) := by
    blk_ext [i0, i1]
  rw [e]
  refine (Pure.prod_eq (a0 m c) (a1 m c) _ _ (fun n => (⟨6160 + 512 * min (s.val % 15 - 12) 1 + n.val, by have := n.isLt; omega⟩ : Fin 7184)) (in0 m c s)
    (fun n k => (congrFun (View.ld_unit_zero (S := S512x2048) hz _ _) _).trans (blk2 m c s n k)) r n).trans ?_
  rw [val_main_v7_apply]
  refine congrArg (val_main_v1 (F := Ideal) (a0 m c) (a1 m c)) ?_
  funext a
  apply Fin.ext
  match a with
  | ⟨0, _⟩ => rfl
  | ⟨1, _⟩ => show 6160 + 512 * min (s.val % 15 - 12) 1 + n.val = 6160 + (512 * (s.val % 15 - 12) + n.val); omega

/-- What the call leaves in its output 5. -/
theorem final11 : (dats m 0 c).arrAt 11 cfg0.N = val_main_v38 (F := Ideal) (a0 m c) (a1 m c) := by
  refine (dats m 0 c).arrAt_eq_of_covers 11 _ (by decide +kernel) fun t _ y => ?_
  blk_simp
  rw [after_eq]
  dsimp only [stored, out11]
  canon_tiles x h
  obtain ⟨r, n, rfl⟩ := ix_eta x
  have e0 : (y 0).val = r.val := h0
  have e1 : (y 1).val = n.val := h1
  obtain ⟨i0, i1⟩ := (idxOut t).2.2.2.2.2
  generalize pt 11 t = s
  have e : (win0_11.blk t).view.emb y = ix2 r n := by blk_ext [i0, i1]
  rw [e]
  by_cases hl : n.val < 16
  · refine Eq.trans ?_ (Pure.pad_left (a0 m c) (a1 m c) r n hl).symm
    exact Pure.prod_at (a0 m c) (a1 m c) _ _ (in0 m c s) n _
      (fun k => ((congrFun (View.ld_unit_zero (S := S512x2048) hz _ _) _).trans (blk3 m c s n k)).trans (dif_pos hl)) r
  · refine Eq.trans ?_ (Pure.pad_right (a0 m c) (a1 m c) r n hl).symm
    exact Pure.prod_zero _ _ n
      (fun k => ((congrFun (View.ld_unit_zero (S := S512x2048) hz _ _) _).trans (blk3 m c s n k)).trans (dif_neg hl)) r

/-- What the host lines after the call leave: the raw columns of the last three positions of each batch entry. -/
theorem tail_read (U : Valuation τ sig (Elt Ideal)) : StableHlo.after hostOps1 U (Proc.devRef .tc main_v10)
    = extractStridedSlice S128x3x3072 ![0, 1, 0] (shapeCast S128x4x3072 (U (Proc.devRef .tc main_v8_3) : Vec Ideal S512x3072 .f32)
        shapeCasts_S512x3072_S128x4x3072) slices_S128x4x3072_S128x3x3072_0_1_0 := by
  after_reads_simp
  rfl

/-- Those at one place. -/
theorem tail_at (z : Vec Ideal S512x3072 .f32) (b : Fin 128) (p : Fin 3) (q : Fin 3072) :
    extractStridedSlice S128x3x3072 ![0, 1, 0] (shapeCast S128x4x3072 z shapeCasts_S512x3072_S128x4x3072)
      slices_S128x4x3072_S128x3x3072_0_1_0 (ix3 b p q)
      = z (ix2 (⟨4 * b.val + (1 + p.val), by have := b.isLt; have := p.isLt; omega⟩ : Fin 512) q) := by
  pointwise!

/-- They are the reference's carried rows, which none of the rows carried in reaches. -/
theorem tail_eq : Pipeline.afterTail₀ cfgs (dats m) 0 (V0 m) [hostOps1] c main_v10 = val_main_v43 (F := Ideal) (a0 m c) (a1 m c) (a4 m c) := by
  refine (tail_read _).trans ?_
  have e : Pipeline.withArrays (cfgs 0).spec c (V0 m c) (fun w => (dats m 0 c).arrAt w (cfgs 0).N) (Proc.devRef .tc main_v8_3)
      = val_main_v5 (F := Ideal) (a0 m c) (a1 m c) :=
    (Pipeline.withArrays_arr (cfgs 0).spec launch0.win.arr_inj c (V0 m c) (fun w => (dats m 0 c).arrAt w (cfgs 0).N) 9).trans (final9 m c)
  rw [e]
  funext x
  obtain ⟨b, p, q, rfl⟩ : ∃ (b : Fin 128) (p : Fin 3) (q : Fin 3072), x = ix3 b p q :=
    ⟨x 0, x 1, x 2, by funext a; match a with | ⟨0, _⟩ => rfl | ⟨1, _⟩ => rfl | ⟨2, _⟩ => rfl⟩
  exact (tail_at _ b p q).trans (Pure.conv_eq (a0 m c) (a1 m c) (a4 m c) b p q).symm

/-- The run: every result is the reference's term at the arguments, which end as launched. -/
theorem run : θ_run defs (onTc (τ := τ) (main (F := Ideal))) ⟨m, fun _ => 0, ρ⟩ (fun r => ∀ c : Dev nD,
      r.2.mem ((c.tc : Thread nD τ).loc main_v8_0) = val_main_v41 (F := Ideal) (a0 m c) (a1 m c) (a2 m c)
      ∧ r.2.mem ((c.tc : Thread nD τ).loc main_v8_1) = val_main_v42 (F := Ideal) (a0 m c) (a1 m c) (a3 m c)
      ∧ r.2.mem ((c.tc : Thread nD τ).loc main_v8_2) = val_main_v4 (F := Ideal) (a0 m c) (a1 m c)
      ∧ r.2.mem ((c.tc : Thread nD τ).loc main_v8_3) = val_main_v5 (F := Ideal) (a0 m c) (a1 m c)
      ∧ r.2.mem ((c.tc : Thread nD τ).loc main_v8_4) = val_main_v7 (F := Ideal) (a0 m c) (a1 m c)
      ∧ r.2.mem ((c.tc : Thread nD τ).loc main_v8_5) = val_main_v38 (F := Ideal) (a0 m c) (a1 m c)
      ∧ r.2.mem ((c.tc : Thread nD τ).loc main_v10) = val_main_v43 (F := Ideal) (a0 m c) (a1 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (frame_of m ρ (dats m) (A_eq m) (run_main m ρ)))
  obtain ⟨h, k⟩ := h
  exact ⟨((h c).1 6).trans (final6 m c), ((h c).1 7).trans (final7 m c), ((h c).1 8).trans (final8 m c), ((h c).1 9).trans (final9 m c),
    ((h c).1 10).trans (final10 m c), ((h c).1 11).trans (final11 m c),
    ((h c).2 main_v10 (Pipeline.mem_restRefs_of main_v10 (by decide) (by decide))).trans (tail_eq m c), k c⟩

end Cert.InProjSampleIdeal.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Pre_finite_logits
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.XAttn
public import proofs.«01_k».proof.Proof.Gen.XAttn.Skeleton
public import proofs.«01_k».proof.Proof.Gen.XAttn.Launch
public import proofs.«01_k».proof.Proof.Gen.XAttn.Points
public import proofs.«01_k».proof.Proof.Gen.XAttn.Frame
public import proofs.«01_k».proof.Proof.Gen.XAttnIdeal
public import proofs.«01_k».proof.Proof.Gen.XAttnIdeal.Skeleton
public import proofs.«01_k».proof.Proof.Gen.XAttnIdeal.Launch
public import proofs.«01_k».proof.Proof.Gen.XAttnIdeal.Points
public import proofs.«01_k».proof.Proof.Gen.XAttnIdeal.Frame
public import proofs.«01_k».proof.Proof.Gen.XAttnIdeal.Value
public import proofs.«01_k».proof.Proof.Gen.XAttnReferenceIdeal
public import proofs.«01_k».proof.Proof.Gen.XAttnReferenceIdeal.Run
public import proofs.«01_k».proof.Proof.Gen.XAttnReferenceIdeal.Read
public import proofs.«01_k».proof.Proof.Gen.MemKV
public import proofs.«01_k».proof.Proof.Gen.MemKV.Skeleton
public import proofs.«01_k».proof.Proof.Gen.MemKV.Launch
public import proofs.«01_k».proof.Proof.Gen.MemKV.Points
public import proofs.«01_k».proof.Proof.Gen.MemKV.Frame
public import proofs.«01_k».proof.Proof.Gen.MemKVIdeal
public import proofs.«01_k».proof.Proof.Gen.MemKVIdeal.Skeleton
public import proofs.«01_k».proof.Proof.Gen.MemKVIdeal.Launch
public import proofs.«01_k».proof.Proof.Gen.MemKVIdeal.Points
public import proofs.«01_k».proof.Proof.Gen.MemKVIdeal.Frame
public import proofs.«01_k».proof.Proof.Gen.MemKVReferenceIdeal
public import proofs.«01_k».proof.Proof.Gen.MemKVReferenceIdeal.Run
public import proofs.«01_k».proof.Proof.Gen.MemKVReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.Gen.FfnSampleReferenceIdeal.Read
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleReferenceIdeal
public import proofs.«01_k».proof.Proof.Gen.InProjSampleReferenceIdeal.Run
public import proofs.«01_k».proof.Proof.Gen.InProjSampleReferenceIdeal.Read
public import Idealize.ShloMosaic.Adequacy
public import Idealize.ShloMosaic.Init
public import proofs.«01_k».proof.Proof.Gen.FfnReferenceIdeal.Read
public import proofs.«01_k».proof.Proof.Gen.FfnReferenceIdeal.Run
public import proofs.«01_k».proof.Proof.Gen.ReferenceIdeal.Read
public import proofs.«01_k».proof.Proof.Gen.ReferenceIdeal.Run
public import proofs.«01_k».proof.Proof.Gen.FfnIdeal.Value
public import proofs.«01_k».proof.Proof.Ffn.Value
public import Idealize.ShloMosaic.Lib.Claim
public import Idealize.ShloMosaic.Lib.Quiescent
public import proofs.«01_k».proof.Proof.Gen.KernelIdeal.Value
public import proofs.«01_k».proof.Proof.Sb.Value
public import proofs.«01_k».proof.Proof.MixOut.Value
public import proofs.«01_k».proof.Proof.XAttn.Value
public import proofs.«01_k».proof.Proof.MemKV.Run
public import proofs.«01_k».proof.Proof.MemKV.Value
public import proofs.«01_k».proof.Proof.InProj.Frame
public import proofs.«01_k».proof.Proof.InProj.FrameBits
public import proofs.«01_k».proof.Proof.InProj.Value
public import proofs.«01_k».proof.Proof.FfnSample.Value
public import proofs.«01_k».proof.Proof.InProjSample.FrameBits
public import proofs.«01_k».proof.Proof.InProjSample.Value

@[expose] public section

noncomputable section

namespace Cert.Proof

open Idealize.ShloMosaic Idealize.SL.Sem Cert.Kernel

/-- The feed-forward call: over the extended reals the kernel and the reference leave the same array. -/
theorem ffn : Cert.algebraic_FfnIdeal_FfnReferenceIdeal (hFfnIdeal := Cert.FfnIdeal.Gen.facts) (hFfnReferenceIdeal := Cert.FfnReferenceIdeal.Gen.facts) := by
  pair_intro
  · run_from Cert.FfnIdeal.Value.run m g
  · run_from Cert.FfnReferenceIdeal.Value.run m' g'
    rw [Cert.FfnReferenceIdeal.Read.val_main_v22_eq, (hagree c).1, (hagree c).2.1, (hagree c).2.2.1, (hagree c).2.2.2.1, (hagree c).2.2.2.2.1,
      (hagree c).2.2.2.2.2]
    exact (Cert.FfnIdeal.Layer.final m c).symm

/-- The reference of the attention call runs, ends with its counters at zero and leaves its arguments as they were. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The reference of the feed-forward call runs, ends with its counters at zero and leaves its arguments as they were. -/
theorem frame_ffn_reference : Cert.quiescent_FfnReferenceIdeal (hFfnReferenceIdeal := Cert.FfnReferenceIdeal.Gen.facts) := fun m g _ =>
  (θ_run _ _ _).mono (fun r h => ⟨fun c => (h c).2, sem_eq_zero_of_no_sems (by decide) r.2⟩) (Cert.FfnReferenceIdeal.Value.run m g)

/-- The attention call: over the extended reals, where the logits' arguments are finite, the kernel and the reference leave
    the same array. -/
theorem sb : Cert.algebraic_KernelIdeal_ReferenceIdeal_pre_finite_logits (hKernelIdeal := Cert.KernelIdeal.Gen.facts) (hReferenceIdeal := Cert.ReferenceIdeal.Gen.facts)
    (hPre_finite_logits := Cert.Pre_finite_logits.Gen.facts) := by
  intro m g m' g' hpre hagree
  refine ⟨fun c => (Cert.KernelIdeal.Gen.dats m 0 c).arrAt 4 Cert.KernelIdeal.cfg0.N, ?_, ?_⟩
  · run_from Cert.KernelIdeal.Value.run_blocks m g
  · run_from Cert.ReferenceIdeal.Value.run m' g'
    rw [Cert.ReferenceIdeal.Read.val_main_v27_eq, (hagree c).1, (hagree c).2.1, (hagree c).2.2.1, (hagree c).2.2.2]
    exact (Cert.KernelIdeal.Sb.final m c (Cert.KernelIdeal.Sb.finite_of_pre m c hpre)).symm

/-- The mixers' output projection: over the extended reals the kernel and the reference leave the same two arrays. -/
theorem mixout : Cert.algebraic_MixOutIdeal_MixOutReferenceIdeal (hMixOutIdeal := Cert.MixOutIdeal.Gen.facts) (hMixOutReferenceIdeal := Cert.MixOutReferenceIdeal.Gen.facts) := by
  intro m g m' g' hpre hagree
  refine ⟨fun c => (Cert.MixOutIdeal.Gen.dats m 0 c).arrAt 7 Cert.MixOutIdeal.cfg0.N, fun c => (Cert.MixOutIdeal.Gen.dats m 0 c).arrAt 8 Cert.MixOutIdeal.cfg0.N, ?_, ?_⟩
  · exact (θ_run _ _ _).mono (fun r h c => h c) (Cert.MixOutIdeal.Value.run_blocks m g)
  · refine (θ_run _ _ _).mono (fun r h c => ⟨(h c).1.trans ?_, (h c).2.1.trans ?_, (h c).2.2⟩) (Cert.MixOutReferenceIdeal.Value.run m' g')
    · rw [Cert.MixOutReferenceIdeal.Read.val_main_v4_eq, (hagree c).1, (hagree c).2.1, (hagree c).2.2.1, (hagree c).2.2.2.1]
      exact (Cert.MixOutIdeal.Layer.final7 m c).symm
    · rw [Cert.MixOutReferenceIdeal.Read.val_main_v34_eq, (hagree c).1, (hagree c).2.1, (hagree c).2.2.1, (hagree c).2.2.2.1, (hagree c).2.2.2.2.1,
        (hagree c).2.2.2.2.2.1, (hagree c).2.2.2.2.2.2]
      exact (Cert.MixOutIdeal.Layer.final8 m c).symm

/-- The attention over the memory: over the extended reals the kernel and the reference leave the same array. -/
theorem xattn : Cert.algebraic_XAttnIdeal_XAttnReferenceIdeal (hXAttnIdeal := Cert.XAttnIdeal.Gen.facts) (hXAttnReferenceIdeal := Cert.XAttnReferenceIdeal.Gen.facts) := by
  pair_intro
  · run_from Cert.XAttnIdeal.Value.run_blocks m g
  · run_from Cert.XAttnReferenceIdeal.Value.run m' g'
    rw [Cert.XAttnReferenceIdeal.Read.val_main_v21_eq]
    exact (Cert.XAttnIdeal.Layer.final3 m c).symm

/-- The memory's projections: over the extended reals the kernel and the reference leave the same keys and values. -/
theorem memkv : Cert.algebraic_MemKVIdeal_MemKVReferenceIdeal (hMemKVIdeal := Cert.MemKVIdeal.Gen.facts) (hMemKVReferenceIdeal := Cert.MemKVReferenceIdeal.Gen.facts) := by
  intro m g m' g' hpre hagree
  refine ⟨fun c => (Cert.MemKVIdeal.Gen.dat1 (Cert.MemKVIdeal.Gen.V3 m g) c).arrAt 3 Cert.MemKVIdeal.cfg1.N,
    fun c => (Cert.MemKVIdeal.Gen.dat2 (Cert.MemKVIdeal.Gen.V5 m g) c).arrAt 3 Cert.MemKVIdeal.cfg2.N, ?_, ?_⟩
  · exact (θ_run _ _ _).mono (fun r h c => h c) (Cert.MemKVIdeal.Gen.run m g)
  · refine (θ_run _ _ _).mono (fun r h c => ⟨(h c).1.trans ?_, (h c).2.1.trans ?_, (h c).2.2⟩) (Cert.MemKVReferenceIdeal.Value.run m' g')
    · rw [Cert.MemKVReferenceIdeal.Read.val_main_v30_eq, (hagree c).1, (hagree c).2.1, (hagree c).2.2.1, (hagree c).2.2.2.2]
      exact (Cert.MemKVIdeal.Layer.finalB m g c).symm
    · rw [Cert.MemKVReferenceIdeal.Read.val_main_v31_eq, (hagree c).1, (hagree c).2.1, (hagree c).2.2.2.1]
      exact (Cert.MemKVIdeal.Layer.finalC m g c).symm

/-- The reference of the mixers' output projection runs, ends with its counters at zero and leaves its arguments as they were. -/
theorem frame_mixout_reference : Cert.quiescent_MixOutReferenceIdeal (hMixOutReferenceIdeal := Cert.MixOutReferenceIdeal.Gen.facts) := fun m g _ =>
  (θ_run _ _ _).mono (fun r h => ⟨fun c => (h c).2.2, sem_eq_zero_of_no_sems (by decide) r.2⟩) (Cert.MixOutReferenceIdeal.Value.run m g)

/-- The reference of the attention over the memory runs, ends with its counters at zero and leaves its arguments as they were. -/
theorem frame_xattn_reference : Cert.quiescent_XAttnReferenceIdeal (hXAttnReferenceIdeal := Cert.XAttnReferenceIdeal.Gen.facts) := fun m g _ =>
  (θ_run _ _ _).mono (fun r h => ⟨fun c => (h c).2, sem_eq_zero_of_no_sems (by decide) r.2⟩) (Cert.XAttnReferenceIdeal.Value.run m g)

/-- The reference of the memory's projections runs, ends with its counters at zero and leaves its arguments as they were. -/
theorem frame_memkv_reference : Cert.quiescent_MemKVReferenceIdeal (hMemKVReferenceIdeal := Cert.MemKVReferenceIdeal.Gen.facts) := fun m g _ =>
  (θ_run _ _ _).mono (fun r h => ⟨fun c => (h c).2.2, sem_eq_zero_of_no_sems (by decide) r.2⟩) (Cert.MemKVReferenceIdeal.Value.run m g)

/-- The reference of the input projection runs, ends with its counters at zero and leaves its arguments as they were. -/
theorem frame_inproj_reference : Cert.quiescent_InProjReferenceIdeal (hInProjReferenceIdeal := Cert.InProjReferenceIdeal.Gen.facts) := fun m g _ =>
  (θ_run _ _ _).mono (fun r h => ⟨fun c => (h c).2.2.2.2.2.2.2, sem_eq_zero_of_no_sems (by decide) r.2⟩) (Cert.InProjReferenceIdeal.Value.run m g)

/-- The mixers' input projection: over the extended reals the kernel and the reference leave the same seven arrays. -/
theorem inproj : Cert.algebraic_InProjIdeal_InProjReferenceIdeal (hInProjIdeal := Cert.InProjIdeal.Gen.facts) (hInProjReferenceIdeal := Cert.InProjReferenceIdeal.Gen.facts) := by
  intro m g m' g' hpre hagree
  refine ⟨_, _, _, _, _, _, _, Cert.InProjIdeal.Layer.run m g, ?_⟩
  refine (θ_run _ _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩) (Cert.InProjReferenceIdeal.Value.run m' g')
  · rw [Cert.InProjReferenceIdeal.Read.val_main_v43_eq, (hagree c).1, (hagree c).2.1, (hagree c).2.2.1]
  · rw [Cert.InProjReferenceIdeal.Read.val_main_v44_eq, (hagree c).1, (hagree c).2.1, (hagree c).2.2.2]
  · rw [Cert.InProjReferenceIdeal.Read.val_main_v4_eq, (hagree c).1, (hagree c).2.1]
  · rw [Cert.InProjReferenceIdeal.Read.val_main_v5_eq, (hagree c).1, (hagree c).2.1]
  · rw [Cert.InProjReferenceIdeal.Read.val_main_v7_eq, (hagree c).1, (hagree c).2.1]
  · rw [Cert.InProjReferenceIdeal.Read.val_main_v38_eq, (hagree c).1, (hagree c).2.1]
  · rw [Cert.InProjReferenceIdeal.Read.val_main_v45_eq, (hagree c).1, (hagree c).2.1]

/-- The reference of the sample batch's feed-forward call runs, ends with its counters at zero and leaves its arguments as they were. -/
theorem frame_ffnsample_reference : Cert.quiescent_FfnSampleReferenceIdeal (hFfnSampleReferenceIdeal := Cert.FfnSampleReferenceIdeal.Gen.facts) := fun m g _ =>
  (θ_run _ _ _).mono (fun r h => ⟨fun c => (h c).2, sem_eq_zero_of_no_sems (by decide) r.2⟩) (Cert.FfnSampleReferenceIdeal.Value.run m g)

/-- The feed-forward call of the sample batch: over the extended reals the kernel and the reference leave the same array. -/
theorem ffnsample : Cert.algebraic_FfnSampleIdeal_FfnSampleReferenceIdeal (hFfnSampleIdeal := Cert.FfnSampleIdeal.Gen.facts) (hFfnSampleReferenceIdeal := Cert.FfnSampleReferenceIdeal.Gen.facts) := by
  pair_intro
  · run_from Cert.FfnSampleIdeal.Value.run m g
  · run_from Cert.FfnSampleReferenceIdeal.Value.run m' g'
    rw [Cert.FfnSampleReferenceIdeal.Read.val_main_v21_eq, (hagree c).1, (hagree c).2.1, (hagree c).2.2.1, (hagree c).2.2.2.1, (hagree c).2.2.2.2.1,
      (hagree c).2.2.2.2.2]
    exact (Cert.FfnSampleIdeal.Layer.final m c).symm

/-- The reference of the sample batch's input projection runs, ends with its counters at zero and leaves its arguments as they were. -/
theorem frame_inprojsample_reference : Cert.quiescent_InProjSampleReferenceIdeal (hInProjSampleReferenceIdeal := Cert.InProjSampleReferenceIdeal.Gen.facts) := fun m g _ =>
  (θ_run _ _ _).mono (fun r h => ⟨fun c => (h c).2.2.2.2.2.2.2, sem_eq_zero_of_no_sems (by decide) r.2⟩) (Cert.InProjSampleReferenceIdeal.Value.run m g)

/-- The mixers' input projection of the sample batch: over the extended reals the kernel and the reference leave the same seven arrays. -/
theorem inprojsample : Cert.algebraic_InProjSampleIdeal_InProjSampleReferenceIdeal (hInProjSampleIdeal := Cert.InProjSampleIdeal.Gen.facts) (hInProjSampleReferenceIdeal := Cert.InProjSampleReferenceIdeal.Gen.facts) := by
  intro m g m' g' hpre hagree
  refine ⟨_, _, _, _, _, _, _, Cert.InProjSampleIdeal.Layer.run m g, ?_⟩
  refine (θ_run _ _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩) (Cert.InProjSampleReferenceIdeal.Value.run m' g')
  · rw [Cert.InProjSampleReferenceIdeal.Read.val_main_v41_eq, (hagree c).1, (hagree c).2.1, (hagree c).2.2.1]
  · rw [Cert.InProjSampleReferenceIdeal.Read.val_main_v42_eq, (hagree c).1, (hagree c).2.1, (hagree c).2.2.2.1]
  · rw [Cert.InProjSampleReferenceIdeal.Read.val_main_v4_eq, (hagree c).1, (hagree c).2.1]
  · rw [Cert.InProjSampleReferenceIdeal.Read.val_main_v5_eq, (hagree c).1, (hagree c).2.1]
  · rw [Cert.InProjSampleReferenceIdeal.Read.val_main_v7_eq, (hagree c).1, (hagree c).2.1]
  · rw [Cert.InProjSampleReferenceIdeal.Read.val_main_v38_eq, (hagree c).1, (hagree c).2.1]
  · rw [Cert.InProjSampleReferenceIdeal.Read.val_main_v43_eq, (hagree c).1, (hagree c).2.1, (hagree c).2.2.2.2]

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.MixOut.Gen.facts, Cert.MixOutIdeal.Gen.facts, Cert.MixOutReferenceIdeal.Gen.facts, Cert.XAttn.Gen.facts, Cert.XAttnIdeal.Gen.facts, Cert.XAttnReferenceIdeal.Gen.facts, Cert.MemKV.Gen.facts, Cert.MemKVIdeal.Gen.facts, Cert.MemKVReferenceIdeal.Gen.facts, Cert.InProj.Gen.facts, Cert.InProjIdeal.Gen.facts, Cert.InProjReferenceIdeal.Gen.facts, Cert.FfnSample.Gen.facts, Cert.FfnSampleIdeal.Gen.facts, Cert.FfnSampleReferenceIdeal.Gen.facts, Cert.InProjSample.Gen.facts, Cert.InProjSampleIdeal.Gen.facts, Cert.InProjSampleReferenceIdeal.Gen.facts, Cert.Pre_finite_logits.Gen.facts,
  fun m ρ _ => Cert.Kernel.Gen.frame m ρ,
  fun m ρ _ => Cert.KernelIdeal.Gen.frame m ρ,
  fun m ρ _ => Cert.KernelIdeal.Gen.frame m ρ,
  frame_reference,
  fun m g _ => frame_reference m g trivial,
  fun m ρ _ => Cert.Ffn.Gen.frame m ρ,
  fun m ρ _ => Cert.FfnIdeal.Gen.frame m ρ,
  frame_ffn_reference,
  fun m ρ _ => Cert.MixOut.Gen.frame m ρ,
  fun m ρ _ => Cert.MixOutIdeal.Gen.frame m ρ,
  frame_mixout_reference,
  fun m ρ _ => Cert.XAttn.Gen.frame m ρ,
  fun m ρ _ => Cert.XAttnIdeal.Gen.frame m ρ,
  frame_xattn_reference,
  fun m ρ _ => Cert.MemKV.Gen.frame m ρ,
  fun m ρ _ => Cert.MemKVIdeal.Gen.frame m ρ,
  frame_memkv_reference,
  Cert.InProj.Gen.frame,
  fun m ρ _ => Cert.InProjIdeal.Gen.frame m ρ,
  frame_inproj_reference,
  fun m ρ _ => Cert.FfnSample.Gen.frame m ρ,
  fun m ρ _ => Cert.FfnSampleIdeal.Gen.frame m ρ,
  frame_ffnsample_reference,
  Cert.InProjSample.Gen.frame,
  fun m ρ _ => Cert.InProjSampleIdeal.Gen.frame m ρ,
  frame_inprojsample_reference,
  trivial, sb, trivial, ffn, trivial, mixout, trivial, xattn, trivial, memkv, trivial, inproj, trivial, ffnsample, trivial, inprojsample⟩

end Cert.Proof

end
